-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie [hPre_no_tie : Cert.Pre_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie [hPre_no_tie : Cert.Pre_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_no_tie [hKernelIdeal : Cert.KernelIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_no_tie [hReferenceIdeal : Cert.ReferenceIdeal.Facts] [hPre_no_tie : Cert.Pre_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "eps_sq" .f32 0x24E69595#32 ((126765058482001 / 1267650600228229401496703205376 : ℝ) : EReal)

def algebraic_KernelIdeal_ReferenceIdeal_pre_no_tie [hKernelIdeal : Cert.KernelIdeal.Facts] [hReferenceIdeal : Cert.ReferenceIdeal.Facts] [hPre_no_tie : Cert.Pre_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_v180) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_no_tie : Cert.Pre_no_tie.Facts),
    quiescent_Kernel (hKernel := hKernel)
    ∧ quiescent_KernelIdeal (hKernelIdeal := hKernelIdeal)
    ∧ quiescent_KernelIdeal_pre_no_tie (hKernelIdeal := hKernelIdeal) (hPre_no_tie := hPre_no_tie)
    ∧ quiescent_ReferenceIdeal (hReferenceIdeal := hReferenceIdeal)
    ∧ quiescent_ReferenceIdeal_pre_no_tie (hReferenceIdeal := hReferenceIdeal) (hPre_no_tie := hPre_no_tie)
    ∧ preserves_Kernel_KernelIdeal
    ∧ algebraic_KernelIdeal_ReferenceIdeal_pre_no_tie (hKernelIdeal := hKernelIdeal) (hReferenceIdeal := hReferenceIdeal) (hPre_no_tie := hPre_no_tie)
-- ==== Pre_no_tie.lean ====
abbrev S4096x512 : Shape := ⟨2, ![4096, 512]⟩
abbrev S4096x64 : Shape := ⟨2, ![4096, 64]⟩
abbrev S128x512 : Shape := ⟨2, ![128, 512]⟩
abbrev S24x512 : Shape := ⟨2, ![24, 512]⟩
abbrev S_ : Shape := ⟨0, ![]⟩
abbrev S128 : Shape := ⟨1, ![128]⟩
abbrev S128x1 : Shape := ⟨2, ![128, 1]⟩
abbrev S4096 : Shape := ⟨1, ![4096]⟩
abbrev S4096x1 : Shape := ⟨2, ![4096, 1]⟩
abbrev S512x128 : Shape := ⟨2, ![512, 128]⟩
abbrev S4096x128 : Shape := ⟨2, ![4096, 128]⟩
abbrev S4096x5 : Shape := ⟨2, ![4096, 5]⟩
abbrev S4096x4 : Shape := ⟨2, ![4096, 4]⟩

class Facts : Prop where
  reducesTo_S128x512_S128_d1 : S128x512.ReducesTo [1] S128
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  reducesTo_S4096x512_S4096_d1 : S4096x512.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S4096x64_S4096_d1 : S4096x64.ReducesTo [1] S4096
  bcast_S_S4096 : S_.BroadcastsInDim S4096 (![] : Fin 0 → Fin S4096.rank)
  bcast_S_S4096x512 : S_.BroadcastsInDim S4096x512 (![] : Fin 0 → Fin S4096x512.rank)
  transposes_S128x512_S512x128_1_0 : S128x512.Transposes [1, 0] S512x128
  bcast_S_S4096x128 : S_.BroadcastsInDim S4096x128 (![] : Fin 0 → Fin S4096x128.rank)
  reducesTo_S4096x128_S4096_d1 : S4096x128.ReducesTo [1] S4096
  bcast_S4096x1_S4096x128_0_1 : S4096x1.BroadcastsInDim S4096x128 (![0, 1] : Fin 2 → Fin S4096x128.rank)
  sliceFits_S4096x128_S4096x5 : S4096x128.Slices (fun _ => 0) S4096x5
  slices_S4096x5_S4096x4_0_1 : S4096x5.Slices ![0, 1] S4096x4
  slices_S4096x5_S4096x4_0_0 : S4096x5.Slices ![0, 0] S4096x4
  dot_S4096x512_S512x128_S4096x128_1_0_0_1_n_n_wf : DotDims.WF S4096x512 S512x128 S4096x128 [1] [0] [0] [1] [] []

variable [Facts]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def fn_norm {F : FTy → Type} [FloatOps F] (arg0 : FVec F S128x512 .f32) : FVec F S128x1 .f32 :=
  let v0 : FVec F S128x512 .f32 := mulf arg0 arg0
  let cst : FVec F S_ .f32 := constant S_ .f32 0x00000000#32
  let v1 : FVec F S128 .f32 := (fun x v => Host.reduceAdd x v reducesTo_S128x512_S128_d1 h_S_) v0 cst
  let v2 : FVec F S128x1 .f32 := broadcastInDim S128x1 ![0] bcast_S128_S128x1_0 v1
  let v3 : FVec F S128x1 .f32 := Host.sqrt v2
  v3

def fn_norm_0 {F : FTy → Type} [FloatOps F] (arg0 : FVec F S4096x512 .f32) : FVec F S4096x1 .f32 :=
  let v0 : FVec F S4096x512 .f32 := mulf arg0 arg0
  let cst : FVec F S_ .f32 := constant S_ .f32 0x00000000#32
  let v1 : FVec F S4096 .f32 := (fun x v => Host.reduceAdd x v reducesTo_S4096x512_S4096_d1 h_S_) v0 cst
  let v2 : FVec F S4096x1 .f32 := broadcastInDim S4096x1 ![0] bcast_S4096_S4096x1_0 v1
  let v3 : FVec F S4096x1 .f32 := Host.sqrt v2
  v3

def fn_norm_1 {F : FTy → Type} [FloatOps F] (arg0 : FVec F S4096x64 .f32) : FVec F S4096 .f32 :=
  let v0 : FVec F S4096x64 .f32 := mulf arg0 arg0
  let cst : FVec F S_ .f32 := constant S_ .f32 0x00000000#32
  let v1 : FVec F S4096 .f32 := (fun x v => Host.reduceAdd x v reducesTo_S4096x64_S4096_d1 h_S_) v0 cst
  let v2 : FVec F S4096 .f32 := Host.sqrt v1
  v2

def fn_clip {F : FTy → Type} [FloatOps F] (arg0 : FVec F S4096 .f32) (arg1 : FVec F S_ .f32) (arg2 : FVec F S_ .f32) : FVec F S4096 .f32 :=
  let v0 : FVec F S_ .f32 := id arg1
  let v1 : FVec F S4096 .f32 := broadcastInDim S4096 ![] bcast_S_S4096 v0
  let v2 : FVec F S4096 .f32 := maximumf v1 arg0
  let v3 : FVec F S_ .f32 := id arg2
  let v4 : FVec F S4096 .f32 := broadcastInDim S4096 ![] bcast_S_S4096 v3
  let v5 : FVec F S4096 .f32 := minimumf v4 v2
  v5

def fn_norm_2 {F : FTy → Type} [FloatOps F] (arg0 : FVec F S4096x512 .f32) : FVec F S4096x1 .f32 :=
  let v0 : FVec F S4096x512 .f32 := mulf arg0 arg0
  let cst : FVec F S_ .f32 := constant S_ .f32 0x00000000#32
  let v1 : FVec F S4096 .f32 := (fun x v => Host.reduceAdd x v reducesTo_S4096x512_S4096_d1 h_S_) v0 cst
  let v2 : FVec F S4096x1 .f32 := broadcastInDim S4096x1 ![0] bcast_S4096_S4096x1_0 v1
  let v3 : FVec F S4096x1 .f32 := Host.sqrt v2
  v3

def fn_part3 {F : FTy → Type} [FloatOps F] (main_v53 : FVec F S4096x128 .f32) (main_v54 : FVec F S4096 .f32) (main_v55 : FVec F S4096 .f32) : IVec S4096x4 1 :=
  let main_v56 : FVec F S4096 .f32 := maximumf main_v55 main_v54
  let main_v57 : FVec F S4096x1 .f32 := broadcastInDim S4096x1 ![0] bcast_S4096_S4096x1_0 main_v56
  let main_v58 : FVec F S4096x128 .f32 := broadcastInDim S4096x128 ![0, 1] bcast_S4096x1_S4096x128_0_1 main_v57
  let main_v59 : FVec F S4096x128 .f32 := subf main_v53 main_v58
  let main_v60 : FVec F S4096x128 .f32 := Host.exp main_v59
  let main_cst_15 : FVec F S_ .f32 := constant S_ .f32 0x00000000#32
  let main_v61 : FVec F S4096 .f32 := (fun x v => Host.reduceAdd x v reducesTo_S4096x128_S4096_d1 h_S_) main_v60 main_cst_15
  let main_v62 : FVec F S4096x1 .f32 := broadcastInDim S4096x1 ![0] bcast_S4096_S4096x1_0 main_v61
  let main_v63 : FVec F S4096x128 .f32 := broadcastInDim S4096x128 ![0, 1] bcast_S4096x1_S4096x128_0_1 main_v62
  let main_v64 : FVec F S4096x128 .f32 := Host.divf main_v60 main_v63
  let main_values : FVec F S4096x5 .f32 := (fun x => (Host.topK S4096x5 1 (FloatOps.cmpfTotal .gt) x sliceFits_S4096x128_S4096x5).1) main_v64
  let main_indices : IVec S4096x5 32 := (fun x => (Host.topK S4096x5 1 (FloatOps.cmpfTotal .gt) x sliceFits_S4096x128_S4096x5).2) main_v64
  let main_v65 : FVec F S4096x4 .f32 := (extractStridedSlice S4096x4 ![0, 1] · slices_S4096x5_S4096x4_0_1) main_values
  let main_v66 : FVec F S4096x4 .f32 := (extractStridedSlice S4096x4 ![0, 0] · slices_S4096x5_S4096x4_0_0) main_values
  let main_v67 : IVec S4096x4 1 := cmpf .olt main_v65 main_v66
  main_v67

def fn_part2 {F : FTy → Type} [FloatOps F] (main_v4 : FVec F S128x512 .f32) (main_v19 : FVec F S4096x512 .f32) (main_v24 : FVec F S4096x512 .f32) (main_v35 : FVec F S4096x512 .f32) (main_v36 : FVec F S4096x1 .f32) (main_cst_9 : FVec F S_ .f32) : IVec S4096x4 1 :=
  let main_v37 : FVec F S4096x512 .f32 := broadcastInDim S4096x512 ![] bcast_S_S4096x512 main_cst_9
  let main_v38 : FVec F S4096x512 .f32 := mulf main_v37 main_v19
  let main_cst_10 : FVec F S_ .f32 := constant S_ .f32 0x3E99999A#32
  let main_v39 : FVec F S4096x512 .f32 := broadcastInDim S4096x512 ![] bcast_S_S4096x512 main_cst_10
  let main_v40 : FVec F S4096x512 .f32 := mulf main_v39 main_v24
  let main_v41 : FVec F S4096x512 .f32 := addf main_v38 main_v40
  let main_v42 : FVec F S4096x512 .f32 := broadcastInDim S4096x512 ![0, 1] bcast_S4096x1_S4096x512_0_1 main_v36
  let main_v43 : FVec F S4096x512 .f32 := mulf main_v42 main_v41
  let main_v44 : FVec F S4096x512 .f32 := addf main_v35 main_v43
  let main_v45 : FVec F S4096x1 .f32 := fn_norm_2 (F := F) main_v44
  let main_cst_11 : FVec F S_ .f32 := constant S_ .f32 0x322BCC77#32
  let main_v46 : FVec F S4096x1 .f32 := broadcastInDim S4096x1 ![] bcast_S_S4096x1 main_cst_11
  let main_v47 : FVec F S4096x1 .f32 := maximumf main_v45 main_v46
  let main_v48 : FVec F S4096x512 .f32 := broadcastInDim S4096x512 ![0, 1] bcast_S4096x1_S4096x512_0_1 main_v47
  let main_v49 : FVec F S4096x512 .f32 := Host.divf main_v44 main_v48
  let main_v50 : FVec F S512x128 .f32 := (transpose S512x128 [1, 0] · transposes_S128x512_S512x128_1_0) main_v4
  let main_v51 : FVec F S4096x128 .f32 := (fun l r => Host.dotGeneral dot_S4096x512_S512x128_S4096x128_1_0_0_1_n_n none l r) main_v49 main_v50
  let main_cst_12 : FVec F S_ .f32 := constant S_ .f32 0x41A00000#32
  let main_v52 : FVec F S4096x128 .f32 := broadcastInDim S4096x128 ![] bcast_S_S4096x128 main_cst_12
  let main_v53 : FVec F S4096x128 .f32 := mulf main_v52 main_v51
  let main_cst_13 : FVec F S_ .f32 := constant S_ .f32 0xFF800000#32
  let main_v54 : FVec F S4096 .f32 := (fun x v => Host.reduce FloatOps.maximumf x v reducesTo_S4096x128_S4096_d1 h_S_) main_v53 main_cst_13
  let main_cst_14 : FVec F S_ .f32 := constant S_ .f32 0xFF800000#32
  let main_v55 : FVec F S4096 .f32 := broadcastInDim S4096 ![] bcast_S_S4096 main_cst_14
  fn_part3 (F := F) main_v53 main_v54 main_v55

def fn_part1 {F : FTy → Type} [FloatOps F] (main_arg3 : FVec F S4096x512 .f32) (main_arg4 : FVec F S4096x64 .f32) (main_v4 : FVec F S128x512 .f32) (main_v9 : FVec F S4096x512 .f32) (main_v14 : FVec F S4096x512 .f32) (main_v19 : FVec F S4096x512 .f32) : IVec S4096x4 1 :=
  let main_v20 : FVec F S4096x1 .f32 := fn_norm_0 (F := F) main_arg3
  let main_cst_3 : FVec F S_ .f32 := constant S_ .f32 0x322BCC77#32
  let main_v21 : FVec F S4096x1 .f32 := broadcastInDim S4096x1 ![] bcast_S_S4096x1 main_cst_3
  let main_v22 : FVec F S4096x1 .f32 := maximumf main_v20 main_v21
  let main_v23 : FVec F S4096x512 .f32 := broadcastInDim S4096x512 ![0, 1] bcast_S4096x1_S4096x512_0_1 main_v22
  let main_v24 : FVec F S4096x512 .f32 := Host.divf main_arg3 main_v23
  let main_v25 : FVec F S4096 .f32 := fn_norm_1 (F := F) main_arg4
  let main_cst_4 : FVec F S_ .f32 := constant S_ .f32 0x41000000#32
  let main_cst_5 : FVec F S_ .f32 := constant S_ .f32 0x3F800000#32
  let main_v26 : FVec F S_ .f32 := maximumf main_cst_4 main_cst_5
  let main_v27 : FVec F S_ .f32 := id main_v26
  let main_v28 : FVec F S4096 .f32 := broadcastInDim S4096 ![] bcast_S_S4096 main_v27
  let main_v29 : FVec F S4096 .f32 := Host.divf main_v25 main_v28
  let main_v30 : FVec F S4096 .f32 := Host.negf main_v29
  let main_v31 : FVec F S4096 .f32 := Host.exp main_v30
  let main_cst_6 : FVec F S_ .f32 := constant S_ .f32 0x3E800000#32
  let main_cst_7 : FVec F S_ .f32 := constant S_ .f32 0x3F800000#32
  let main_v32 : FVec F S4096 .f32 := fn_clip (F := F) main_v31 main_cst_6 main_cst_7
  let main_cst_8 : FVec F S_ .f32 := constant S_ .f32 0x3F000000#32
  let main_v33 : FVec F S4096x512 .f32 := broadcastInDim S4096x512 ![] bcast_S_S4096x512 main_cst_8
  let main_v34 : FVec F S4096x512 .f32 := mulf main_v33 main_v14
  let main_v35 : FVec F S4096x512 .f32 := addf main_v9 main_v34
  let main_v36 : FVec F S4096x1 .f32 := broadcastInDim S4096x1 ![0] bcast_S4096_S4096x1_0 main_v32
  let main_cst_9 : FVec F S_ .f32 := constant S_ .f32 0x3F333333#32
  fn_part2 (F := F) main_v4 main_v19 main_v24 main_v35 main_v36 main_cst_9

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x64 .f32) (main_arg5 : FVec F S128x512 .f32) (main_arg6 : FVec F S24x512 .f32) : IVec S4096x4 1 :=
  let main_v0 : FVec F S128x1 .f32 := fn_norm (F := F) main_arg5
  let main_cst : FVec F S_ .f32 := constant S_ .f32 0x322BCC77#32
  let main_v1 : FVec F S128x1 .f32 := broadcastInDim S128x1 ![] bcast_S_S128x1 main_cst
  let main_v2 : FVec F S128x1 .f32 := maximumf main_v0 main_v1
  let main_v3 : FVec F S128x512 .f32 := broadcastInDim S128x512 ![0, 1] bcast_S128x1_S128x512_0_1 main_v2
  let main_v4 : FVec F S128x512 .f32 := Host.divf main_arg5 main_v3
  let main_v5 : FVec F S4096x1 .f32 := fn_norm_0 (F := F) main_arg0
  let main_cst_0 : FVec F S_ .f32 := constant S_ .f32 0x322BCC77#32
  let main_v6 : FVec F S4096x1 .f32 := broadcastInDim S4096x1 ![] bcast_S_S4096x1 main_cst_0
  let main_v7 : FVec F S4096x1 .f32 := maximumf main_v5 main_v6
  let main_v8 : FVec F S4096x512 .f32 := broadcastInDim S4096x512 ![0, 1] bcast_S4096x1_S4096x512_0_1 main_v7
  let main_v9 : FVec F S4096x512 .f32 := Host.divf main_arg0 main_v8
  let main_v10 : FVec F S4096x1 .f32 := fn_norm_0 (F := F) main_arg1
  let main_cst_1 : FVec F S_ .f32 := constant S_ .f32 0x322BCC77#32
  let main_v11 : FVec F S4096x1 .f32 := broadcastInDim S4096x1 ![] bcast_S_S4096x1 main_cst_1
  let main_v12 : FVec F S4096x1 .f32 := maximumf main_v10 main_v11
  let main_v13 : FVec F S4096x512 .f32 := broadcastInDim S4096x512 ![0, 1] bcast_S4096x1_S4096x512_0_1 main_v12
  let main_v14 : FVec F S4096x512 .f32 := Host.divf main_arg1 main_v13
  let main_v15 : FVec F S4096x1 .f32 := fn_norm_0 (F := F) main_arg2
  let main_cst_2 : FVec F S_ .f32 := constant S_ .f32 0x322BCC77#32
  let main_v16 : FVec F S4096x1 .f32 := broadcastInDim S4096x1 ![] bcast_S_S4096x1 main_cst_2
  let main_v17 : FVec F S4096x1 .f32 := maximumf main_v15 main_v16
  let main_v18 : FVec F S4096x512 .f32 := broadcastInDim S4096x512 ![0, 1] bcast_S4096x1_S4096x512_0_1 main_v17
  let main_v19 : FVec F S4096x512 .f32 := Host.divf main_arg2 main_v18
  fn_part1 (F := F) main_arg3 main_arg4 main_v4 main_v9 main_v14 main_v19
-- ==== Kernel.lean ====
abbrev S4096x512 : Shape := ⟨2, ![4096, 512]⟩
abbrev S4096x64 : Shape := ⟨2, ![4096, 64]⟩
abbrev S128x512 : Shape := ⟨2, ![128, 512]⟩
abbrev S24x512 : Shape := ⟨2, ![24, 512]⟩
abbrev S24x4096 : Shape := ⟨2, ![24, 4096]⟩
abbrev S1x4096 : Shape := ⟨2, ![1, 4096]⟩
abbrev S4096 : Shape := ⟨1, ![4096]⟩
abbrev S1024x512 : Shape := ⟨2, ![1024, 512]⟩
abbrev S1024x64 : Shape := ⟨2, ![1024, 64]⟩
abbrev S4x24x1024 : Shape := ⟨3, ![4, 24, 1024]⟩
abbrev S128 : Shape := ⟨1, ![128]⟩
abbrev S128x1 : Shape := ⟨2, ![128, 1]⟩
abbrev S24 : Shape := ⟨1, ![24]⟩
abbrev S24x1 : Shape := ⟨2, ![24, 1]⟩
abbrev S64x128 : Shape := ⟨2, ![64, 128]⟩
abbrev S1024x128 : Shape := ⟨2, ![1024, 128]⟩
abbrev S1024x1 : Shape := ⟨2, ![1024, 1]⟩
abbrev S512x128 : Shape := ⟨2, ![512, 128]⟩
abbrev S1x512 : Shape := ⟨2, ![1, 512]⟩
abbrev S1x1024 : Shape := ⟨2, ![1, 1024]⟩
abbrev S128x1024 : Shape := ⟨2, ![128, 1024]⟩
abbrev S1024 : Shape := ⟨1, ![1024]⟩
abbrev S24x1024 : Shape := ⟨2, ![24, 1024]⟩
abbrev S1x24x1024 : Shape := ⟨3, ![1, 24, 1024]⟩
abbrev S24x2 : Shape := ⟨2, ![24, 2]⟩
abbrev S24x1028 : Shape := ⟨2, ![24, 1028]⟩

abbrev nBuf : Space → Nat
  | .hbm => 12
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x64, .f32⟩
  | .hbm, ⟨5, _⟩ => ⟨S128x512, .f32⟩
  | .hbm, ⟨6, _⟩ => ⟨S24x512, .f32⟩
  | .hbm, ⟨7, _⟩ => ⟨S24x4096, .f32⟩
  | .hbm, ⟨8, _⟩ => ⟨S1x4096, .i32⟩
  | .hbm, ⟨9, _⟩ => ⟨S1x4096, .f32⟩
  | .hbm, ⟨10, _⟩ => ⟨S4096, .i32⟩
  | .hbm, ⟨11, _⟩ => ⟨S4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x64, .f32⟩
  | .local _ .vmem, ⟨9, _⟩ => ⟨S1024x64, .f32⟩
  | .local _ .vmem, ⟨10, _⟩ => ⟨S128x512, .f32⟩
  | .local _ .vmem, ⟨11, _⟩ => ⟨S24x512, .f32⟩
  | .local _ .vmem, ⟨12, _⟩ => ⟨S24x4096, .f32⟩
  | .local _ .vmem, ⟨13, _⟩ => ⟨S1x4096, .i32⟩
  | .local _ .vmem, ⟨14, _⟩ => ⟨S1x4096, .f32⟩
  | .local _ .vmem, ⟨15, _⟩ => ⟨S4x24x1024, .f32⟩
  | .local _ .vmem, ⟨16, _⟩ => ⟨S128x512, .f32⟩
  | .local _ .vmem, ⟨17, _⟩ => ⟨S24x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_call0_v0_1 : Ref sig .tc := ⟨.hbm, 8, rfl⟩
abbrev main_call0_v0_2 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def k0_off1 (i : grid0.Coords) : Fin 3 → Nat :=
  let arg0 : BitVec 32 := BitVec.ofNat 32 (i 0).val
  let v256 : Index := Scalar.indexCast arg0
  let c0_91 : Index := 0#32
  let c0_92 : Index := 0#32
  ![v256.toNat, 0, 0]
def k0_cond2 (i : grid0.Coords) : BitVec 1 :=
  let arg0 : BitVec 32 := BitVec.ofNat 32 (i 0).val
  let c3_i32 : BitVec 32 := 3#32
  let v260 : BitVec 1 := Scalar.cmpi .eq arg0 c3_i32
  let v261 : BitVec 32 := Scalar.extui v260
  let c0_i32_93 : BitVec 32 := 0#32
  let v262 : BitVec 1 := Scalar.cmpi .ne v261 c0_i32_93
  v262

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S24x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S24x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "eps_sq" => some ((126765058482001 / 1267650600228229401496703205376 : ℝ) : EReal)
  | _ => none
-- ==== ReferenceIdeal.lean ====
abbrev S4096x512 : Shape := ⟨2, ![4096, 512]⟩
abbrev S4096x64 : Shape := ⟨2, ![4096, 64]⟩
abbrev S128x512 : Shape := ⟨2, ![128, 512]⟩
abbrev S24x512 : Shape := ⟨2, ![24, 512]⟩
abbrev S_ : Shape := ⟨0, ![]⟩
abbrev S128 : Shape := ⟨1, ![128]⟩
abbrev S128x1 : Shape := ⟨2, ![128, 1]⟩
abbrev S24 : Shape := ⟨1, ![24]⟩
abbrev S24x1 : Shape := ⟨2, ![24, 1]⟩
abbrev S4096 : Shape := ⟨1, ![4096]⟩
abbrev S4096x1 : Shape := ⟨2, ![4096, 1]⟩
abbrev S512x128 : Shape := ⟨2, ![512, 128]⟩
abbrev S4096x128 : Shape := ⟨2, ![4096, 128]⟩
abbrev S4096x5 : Shape := ⟨2, ![4096, 5]⟩
abbrev S4096x5x1 : Shape := ⟨3, ![4096, 5, 1]⟩
abbrev S4096x5x2 : Shape := ⟨3, ![4096, 5, 2]⟩
abbrev S512x24 : Shape := ⟨2, ![512, 24]⟩
abbrev S4096x24 : Shape := ⟨2, ![4096, 24]⟩
abbrev S1 : Shape := ⟨1, ![1]⟩
abbrev S24x4096 : Shape := ⟨2, ![24, 4096]⟩
abbrev S1x4096 : Shape := ⟨2, ![1, 4096]⟩
abbrev S1x0x4096 : Shape := ⟨3, ![1, 0, 4096]⟩
abbrev S0x4096 : Shape := ⟨2, ![0, 4096]⟩
abbrev S24x1x2 : Shape := ⟨3, ![24, 1, 2]⟩
abbrev S24x2 : Shape := ⟨2, ![24, 2]⟩
abbrev S24x4100 : Shape := ⟨2, ![24, 4100]⟩
abbrev S1x24x4096 : Shape := ⟨3, ![1, 24, 4096]⟩
abbrev S5x24x4096 : Shape := ⟨3, ![5, 24, 4096]⟩

abbrev nBuf : Space → Nat
  | .hbm => 297
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x64, .f32⟩
  | 5 => ⟨S128x512, .f32⟩
  | 6 => ⟨S24x512, .f32⟩
  | 7 => ⟨S128x512, .f32⟩
  | 8 => ⟨S_, .f32⟩
  | 9 => ⟨S128, .f32⟩
  | 10 => ⟨S128x1, .f32⟩
  | 11 => ⟨S128x1, .f32⟩
  | 12 => ⟨S_, .f32⟩
  | 13 => ⟨S128x1, .f32⟩
  | 14 => ⟨S128x1, .f32⟩
  | 15 => ⟨S128x512, .f32⟩
  | 16 => ⟨S128x512, .f32⟩
  | 17 => ⟨S24x512, .f32⟩
  | 18 => ⟨S_, .f32⟩
  | 19 => ⟨S24, .f32⟩
  | 20 => ⟨S24x1, .f32⟩
  | 21 => ⟨S24x1, .f32⟩
  | 22 => ⟨S_, .f32⟩
  | 23 => ⟨S24x1, .f32⟩
  | 24 => ⟨S24x1, .f32⟩
  | 25 => ⟨S24x512, .f32⟩
  | 26 => ⟨S24x512, .f32⟩
  | 27 => ⟨S4096x512, .f32⟩
  | 28 => ⟨S_, .f32⟩
  | 29 => ⟨S4096, .f32⟩
  | 30 => ⟨S4096x1, .f32⟩
  | 31 => ⟨S4096x1, .f32⟩
  | 32 => ⟨S_, .f32⟩
  | 33 => ⟨S4096x1, .f32⟩
  | 34 => ⟨S4096x1, .f32⟩
  | 35 => ⟨S4096x512, .f32⟩
  | 36 => ⟨S4096x512, .f32⟩
  | 37 => ⟨S4096x512, .f32⟩
  | 38 => ⟨S_, .f32⟩
  | 39 => ⟨S4096, .f32⟩
  | 40 => ⟨S4096x1, .f32⟩
  | 41 => ⟨S4096x1, .f32⟩
  | 42 => ⟨S_, .f32⟩
  | 43 => ⟨S4096x1, .f32⟩
  | 44 => ⟨S4096x1, .f32⟩
  | 45 => ⟨S4096x512, .f32⟩
  | 46 => ⟨S4096x512, .f32⟩
  | 47 => ⟨S4096x512, .f32⟩
  | 48 => ⟨S_, .f32⟩
  | 49 => ⟨S4096, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x512, .f32⟩
  | 56 => ⟨S4096x512, .f32⟩
  | 57 => ⟨S4096x512, .f32⟩
  | 58 => ⟨S_, .f32⟩
  | 59 => ⟨S4096, .f32⟩
  | 60 => ⟨S4096x1, .f32⟩
  | 61 => ⟨S4096x1, .f32⟩
  | 62 => ⟨S_, .f32⟩
  | 63 => ⟨S4096x1, .f32⟩
  | 64 => ⟨S4096x1, .f32⟩
  | 65 => ⟨S4096x512, .f32⟩
  | 66 => ⟨S4096x512, .f32⟩
  | 67 => ⟨S4096x64, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S4096, .f32⟩
  | 76 => ⟨S4096, .f32⟩
  | 77 => ⟨S4096, .f32⟩
  | 78 => ⟨S4096, .f32⟩
  | 79 => ⟨S_, .f32⟩
  | 80 => ⟨S_, .f32⟩
  | 81 => ⟨S_, .f32⟩
  | 82 => ⟨S4096, .f32⟩
  | 83 => ⟨S4096, .f32⟩
  | 84 => ⟨S_, .f32⟩
  | 85 => ⟨S4096, .f32⟩
  | 86 => ⟨S4096, .f32⟩
  | 87 => ⟨S_, .f32⟩
  | 88 => ⟨S4096x512, .f32⟩
  | 89 => ⟨S4096x512, .f32⟩
  | 90 => ⟨S4096x512, .f32⟩
  | 91 => ⟨S4096x1, .f32⟩
  | 92 => ⟨S_, .f32⟩
  | 93 => ⟨S4096x512, .f32⟩
  | 94 => ⟨S4096x512, .f32⟩
  | 95 => ⟨S_, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S_, .f32⟩
  | 104 => ⟨S4096, .f32⟩
  | 105 => ⟨S4096x1, .f32⟩
  | 106 => ⟨S4096x1, .f32⟩
  | 107 => ⟨S_, .f32⟩
  | 108 => ⟨S4096x1, .f32⟩
  | 109 => ⟨S4096x1, .f32⟩
  | 110 => ⟨S4096x512, .f32⟩
  | 111 => ⟨S4096x512, .f32⟩
  | 112 => ⟨S512x128, .f32⟩
  | 113 => ⟨S4096x128, .f32⟩
  | 114 => ⟨S_, .f32⟩
  | 115 => ⟨S4096x128, .f32⟩
  | 116 => ⟨S4096x128, .f32⟩
  | 117 => ⟨S_, .f32⟩
  | 118 => ⟨S4096, .f32⟩
  | 119 => ⟨S_, .f32⟩
  | 120 => ⟨S4096, .f32⟩
  | 121 => ⟨S4096, .f32⟩
  | 122 => ⟨S4096x1, .f32⟩
  | 123 => ⟨S4096x128, .f32⟩
  | 124 => ⟨S4096x128, .f32⟩
  | 125 => ⟨S4096x128, .f32⟩
  | 126 => ⟨S_, .f32⟩
  | 127 => ⟨S4096, .f32⟩
  | _ => ⟨S4096x512, .f32⟩

abbrev hbmTy0_1 (i : Nat) : BufTy := match i % 128 with
  | 0 => ⟨S4096x1, .f32⟩
  | 1 => ⟨S4096x128, .f32⟩
  | 2 => ⟨S4096x128, .f32⟩
  | 3 => ⟨S4096x5, .f32⟩
  | 4 => ⟨S4096x5, .i32⟩
  | 5 => ⟨S_, .f32⟩
  | 6 => ⟨S_, .f32⟩
  | 7 => ⟨S4096x5, .f32⟩
  | 8 => ⟨S4096x5, .f32⟩
  | 9 => ⟨S_, .f32⟩
  | 10 => ⟨S4096x5, .f32⟩
  | 11 => ⟨S4096x5, .i1⟩
  | 12 => ⟨S4096x5, .f32⟩
  | 13 => ⟨S4096x5, .f32⟩
  | 14 => ⟨S_, .f32⟩
  | 15 => ⟨S4096x128, .f32⟩
  | 16 => ⟨S4096, .i32⟩
  | 17 => ⟨S4096x1, .i32⟩
  | 18 => ⟨S_, .i32⟩
  | 19 => ⟨S4096x1, .i32⟩
  | 20 => ⟨S4096x1, .i1⟩
  | 21 => ⟨S_, .i32⟩
  | 22 => ⟨S4096x1, .i32⟩
  | 23 => ⟨S4096x1, .i32⟩
  | 24 => ⟨S4096x1, .i32⟩
  | 25 => ⟨S_, .i32⟩
  | 26 => ⟨S4096x5, .i32⟩
  | 27 => ⟨S4096x5, .i1⟩
  | 28 => ⟨S_, .i32⟩
  | 29 => ⟨S4096x5, .i32⟩
  | 30 => ⟨S4096x5, .i32⟩
  | 31 => ⟨S4096x5, .i32⟩
  | 32 => ⟨S4096x5, .i32⟩
  | 33 => ⟨S4096x5x1, .i32⟩
  | 34 => ⟨S4096x5x1, .i32⟩
  | 35 => ⟨S4096x5x2, .i32⟩
  | 36 => ⟨S4096x128, .f32⟩
  | 37 => ⟨S_, .f32⟩
  | 38 => ⟨S4096, .f32⟩
  | 39 => ⟨S4096x1, .f32⟩
  | 40 => ⟨S_, .f32⟩
  | 41 => ⟨S4096x1, .f32⟩
  | 42 => ⟨S4096x1, .f32⟩
  | 43 => ⟨S4096x128, .f32⟩
  | 44 => ⟨S4096x128, .f32⟩
  | 45 => ⟨S4096x128, .f32⟩
  | 46 => ⟨S_, .f32⟩
  | 47 => ⟨S4096, .f32⟩
  | 48 => ⟨S512x24, .f32⟩
  | 49 => ⟨S4096x24, .f32⟩
  | 50 => ⟨S_, .f32⟩
  | 51 => ⟨S4096x24, .f32⟩
  | 52 => ⟨S4096x24, .f32⟩
  | 53 => ⟨S_, .f32⟩
  | 54 => ⟨S4096, .f32⟩
  | 55 => ⟨S_, .f32⟩
  | 56 => ⟨S4096, .f32⟩
  | 57 => ⟨S4096, .f32⟩
  | 58 => ⟨S4096x1, .f32⟩
  | 59 => ⟨S4096x24, .f32⟩
  | 60 => ⟨S4096x24, .f32⟩
  | 61 => ⟨S4096x24, .f32⟩
  | 62 => ⟨S_, .f32⟩
  | 63 => ⟨S4096, .f32⟩
  | 64 => ⟨S4096x1, .f32⟩
  | 65 => ⟨S4096x24, .f32⟩
  | 66 => ⟨S4096x24, .f32⟩
  | 67 => ⟨S_, .f32⟩
  | 68 => ⟨S4096x24, .f32⟩
  | 69 => ⟨S4096x24, .f32⟩
  | 70 => ⟨S4096x24, .f32⟩
  | 71 => ⟨S4096x24, .f32⟩
  | 72 => ⟨S_, .f32⟩
  | 73 => ⟨S4096, .f32⟩
  | 74 => ⟨S4096, .f32⟩
  | 75 => ⟨S_, .f32⟩
  | 76 => ⟨S_, .f32⟩
  | 77 => ⟨S_, .f32⟩
  | 78 => ⟨S4096, .f32⟩
  | 79 => ⟨S4096, .f32⟩
  | 80 => ⟨S_, .f32⟩
  | 81 => ⟨S4096, .f32⟩
  | 82 => ⟨S4096x1, .f32⟩
  | 83 => ⟨S4096, .f32⟩
  | 84 => ⟨S_, .f32⟩
  | 85 => ⟨S4096, .f32⟩
  | 86 => ⟨S4096, .f32⟩
  | 87 => ⟨S_, .f32⟩
  | 88 => ⟨S4096, .f32⟩
  | 89 => ⟨S4096, .f32⟩
  | 90 => ⟨S_, .f32⟩
  | 91 => ⟨S4096, .f32⟩
  | 92 => ⟨S4096, .f32⟩
  | 93 => ⟨S_, .f32⟩
  | 94 => ⟨S4096, .f32⟩
  | 95 => ⟨S4096, .f32⟩
  | 96 => ⟨S4096, .f32⟩
  | 97 => ⟨S_, .f32⟩
  | 98 => ⟨S4096, .f32⟩
  | 99 => ⟨S4096, .f32⟩
  | 100 => ⟨S4096, .f32⟩
  | 101 => ⟨S_, .f32⟩
  | 102 => ⟨S4096, .f32⟩
  | 103 => ⟨S4096, .f32⟩
  | 104 => ⟨S_, .f32⟩
  | 105 => ⟨S4096, .f32⟩
  | 106 => ⟨S4096, .f32⟩
  | 107 => ⟨S_, .f32⟩
  | 108 => ⟨S4096, .f32⟩
  | 109 => ⟨S4096, .f32⟩
  | 110 => ⟨S4096, .f32⟩
  | 111 => ⟨S_, .f32⟩
  | 112 => ⟨S4096, .f32⟩
  | 113 => ⟨S4096, .f32⟩
  | 114 => ⟨S4096, .f32⟩
  | 115 => ⟨S4096, .f32⟩
  | 116 => ⟨S_, .f32⟩
  | 117 => ⟨S4096, .f32⟩
  | 118 => ⟨S4096, .f32⟩
  | 119 => ⟨S_, .f32⟩
  | 120 => ⟨S4096, .f32⟩
  | 121 => ⟨S4096, .f32⟩
  | 122 => ⟨S4096x1, .f32⟩
  | 123 => ⟨S_, .f32⟩
  | 124 => ⟨S4096x1, .f32⟩
  | 125 => ⟨S4096x1, .f32⟩
  | 126 => ⟨S4096x24, .f32⟩
  | 127 => ⟨S4096x24, .f32⟩
  | _ => ⟨S4096x512, .f32⟩

abbrev hbmTy0_2 (i : Nat) : BufTy := match i % 128 with
  | 0 => ⟨S_, .i32⟩
  | 1 => ⟨S1, .i32⟩
  | 2 => ⟨S4096x24, .f32⟩
  | 3 => ⟨S24x4096, .f32⟩
  | 4 => ⟨S_, .i32⟩
  | 5 => ⟨S1x4096, .f32⟩
  | 6 => ⟨S1x0x4096, .f32⟩
  | 7 => ⟨S0x4096, .f32⟩
  | 8 => ⟨S1x4096, .f32⟩
  | 9 => ⟨S1x0x4096, .f32⟩
  | 10 => ⟨S0x4096, .f32⟩
  | 11 => ⟨S24x4096, .f32⟩
  | 12 => ⟨S24x1, .f32⟩
  | 13 => ⟨S24x1x2, .f32⟩
  | 14 => ⟨S24x2, .f32⟩
  | 15 => ⟨S24x1, .f32⟩
  | 16 => ⟨S24x1x2, .f32⟩
  | 17 => ⟨S24x2, .f32⟩
  | 18 => ⟨S24x4100, .f32⟩
  | 19 => ⟨S24x4096, .f32⟩
  | 20 => ⟨S24x4096, .f32⟩
  | 21 => ⟨S24x4096, .f32⟩
  | 22 => ⟨S24x4096, .f32⟩
  | 23 => ⟨S24x4096, .f32⟩
  | 24 => ⟨S1x24x4096, .f32⟩
  | 25 => ⟨S1x24x4096, .f32⟩
  | 26 => ⟨S1x24x4096, .f32⟩
  | 27 => ⟨S1x24x4096, .f32⟩
  | 28 => ⟨S1x24x4096, .f32⟩
  | 29 => ⟨S5x24x4096, .f32⟩
  | 30 => ⟨S_, .f32⟩
  | 31 => ⟨S24x4096, .f32⟩
  | 32 => ⟨S24x4096, .i32⟩
  | 33 => ⟨S_, .f32⟩
  | 34 => ⟨S_, .i32⟩
  | 35 => ⟨S4096, .f32⟩
  | 36 => ⟨S4096, .i32⟩
  | 37 => ⟨S_, .i32⟩
  | 38 => ⟨S4096, .i32⟩
  | 39 => ⟨S4096, .i1⟩
  | 40 => ⟨S4096, .f32⟩
  | _ => ⟨S4096x512, .f32⟩

abbrev hbmTy (i : Nat) : BufTy := match i / 128 with
  | 0 => hbmTy0_0 i
  | 1 => hbmTy0_1 i
  | 2 => hbmTy0_2 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_cst : Ref sig .tc := ⟨.hbm, 18, rfl⟩
abbrev main_call1_v1 : Ref sig .tc := ⟨.hbm, 19, rfl⟩
abbrev main_call1_v2 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_call2_v0 : Ref sig .tc := ⟨.hbm, 27, rfl⟩
abbrev main_call2_cst : Ref sig .tc := ⟨.hbm, 28, rfl⟩
abbrev main_call2_v1 : Ref sig .tc := ⟨.hbm, 29, rfl⟩
abbrev main_call2_v2 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_call3_v0 : Ref sig .tc := ⟨.hbm, 37, rfl⟩
abbrev main_call3_cst : Ref sig .tc := ⟨.hbm, 38, rfl⟩
abbrev main_call3_v1 : Ref sig .tc := ⟨.hbm, 39, rfl⟩
abbrev main_call3_v2 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call4_v0 : Ref sig .tc := ⟨.hbm, 47, rfl⟩
abbrev main_call4_cst : Ref sig .tc := ⟨.hbm, 48, rfl⟩
abbrev main_call4_v1 : Ref sig .tc := ⟨.hbm, 49, rfl⟩
abbrev main_call4_v2 : Ref sig .tc := ⟨.hbm, 50, rfl⟩
abbrev main_v20 : Ref sig .tc := ⟨.hbm, 51, rfl⟩
abbrev main_cst_3 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call5_v0 : Ref sig .tc := ⟨.hbm, 57, rfl⟩
abbrev main_call5_cst : Ref sig .tc := ⟨.hbm, 58, rfl⟩
abbrev main_call5_v1 : Ref sig .tc := ⟨.hbm, 59, rfl⟩
abbrev main_call5_v2 : Ref sig .tc := ⟨.hbm, 60, rfl⟩
abbrev main_v25 : Ref sig .tc := ⟨.hbm, 61, rfl⟩
abbrev main_cst_4 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_call6_v0 : Ref sig .tc := ⟨.hbm, 67, rfl⟩
abbrev main_call6_cst : Ref sig .tc := ⟨.hbm, 68, rfl⟩
abbrev main_call6_v1 : Ref sig .tc := ⟨.hbm, 69, rfl⟩
abbrev main_v30 : Ref sig .tc := ⟨.hbm, 70, rfl⟩
abbrev main_cst_5 : Ref sig .tc := ⟨.hbm, 71, rfl⟩
abbrev main_cst_6 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_cst_7 : Ref sig .tc := ⟨.hbm, 79, rfl⟩
abbrev main_cst_8 : Ref sig .tc := ⟨.hbm, 80, rfl⟩
abbrev main_call7_v0 : Ref sig .tc := ⟨.hbm, 81, rfl⟩
abbrev main_call7_v1 : Ref sig .tc := ⟨.hbm, 82, rfl⟩
abbrev main_call7_v2 : Ref sig .tc := ⟨.hbm, 83, rfl⟩
abbrev main_call7_v3 : Ref sig .tc := ⟨.hbm, 84, rfl⟩
abbrev main_call7_v4 : Ref sig .tc := ⟨.hbm, 85, rfl⟩
abbrev main_v37 : Ref sig .tc := ⟨.hbm, 86, rfl⟩
abbrev main_cst_9 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_cst_10 : Ref sig .tc := ⟨.hbm, 92, rfl⟩
abbrev main_v42 : Ref sig .tc := ⟨.hbm, 93, rfl⟩
abbrev main_v43 : Ref sig .tc := ⟨.hbm, 94, rfl⟩
abbrev main_cst_11 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_call8_v0 : Ref sig .tc := ⟨.hbm, 102, rfl⟩
abbrev main_call8_cst : Ref sig .tc := ⟨.hbm, 103, rfl⟩
abbrev main_call8_v1 : Ref sig .tc := ⟨.hbm, 104, rfl⟩
abbrev main_call8_v2 : Ref sig .tc := ⟨.hbm, 105, rfl⟩
abbrev main_v50 : Ref sig .tc := ⟨.hbm, 106, rfl⟩
abbrev main_cst_12 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_13 : Ref sig .tc := ⟨.hbm, 114, rfl⟩
abbrev main_v57 : Ref sig .tc := ⟨.hbm, 115, rfl⟩
abbrev main_v58 : Ref sig .tc := ⟨.hbm, 116, rfl⟩
abbrev main_cst_14 : Ref sig .tc := ⟨.hbm, 117, rfl⟩
abbrev main_v59 : Ref sig .tc := ⟨.hbm, 118, rfl⟩
abbrev main_cst_15 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_16 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_values : Ref sig .tc := ⟨.hbm, 131, rfl⟩
abbrev main_indices : Ref sig .tc := ⟨.hbm, 132, rfl⟩
abbrev main_call9_call0_cst : Ref sig .tc := ⟨.hbm, 133, rfl⟩
abbrev main_call9_call0_v0 : Ref sig .tc := ⟨.hbm, 134, rfl⟩
abbrev main_v70 : Ref sig .tc := ⟨.hbm, 135, rfl⟩
abbrev main_v71 : Ref sig .tc := ⟨.hbm, 136, rfl⟩
abbrev main_cst_17 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_cst_18 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_c : Ref sig .tc := ⟨.hbm, 146, rfl⟩
abbrev main_v79 : Ref sig .tc := ⟨.hbm, 147, rfl⟩
abbrev main_v80 : Ref sig .tc := ⟨.hbm, 148, rfl⟩
abbrev main_c_19 : Ref sig .tc := ⟨.hbm, 149, rfl⟩
abbrev main_v81 : Ref sig .tc := ⟨.hbm, 150, rfl⟩
abbrev main_v82 : Ref sig .tc := ⟨.hbm, 151, rfl⟩
abbrev main_v83 : Ref sig .tc := ⟨.hbm, 152, rfl⟩
abbrev main_c_20 : Ref sig .tc := ⟨.hbm, 153, rfl⟩
abbrev main_v84 : Ref sig .tc := ⟨.hbm, 154, rfl⟩
abbrev main_v85 : Ref sig .tc := ⟨.hbm, 155, rfl⟩
abbrev main_c_21 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_22 : Ref sig .tc := ⟨.hbm, 165, rfl⟩
abbrev main_v94 : Ref sig .tc := ⟨.hbm, 166, rfl⟩
abbrev main_v95 : Ref sig .tc := ⟨.hbm, 167, rfl⟩
abbrev main_cst_23 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_cst_24 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_cst_25 : Ref sig .tc := ⟨.hbm, 178, rfl⟩
abbrev main_v104 : Ref sig .tc := ⟨.hbm, 179, rfl⟩
abbrev main_v105 : Ref sig .tc := ⟨.hbm, 180, rfl⟩
abbrev main_cst_26 : Ref sig .tc := ⟨.hbm, 181, rfl⟩
abbrev main_v106 : Ref sig .tc := ⟨.hbm, 182, rfl⟩
abbrev main_cst_27 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_cst_28 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_cst_29 : Ref sig .tc := ⟨.hbm, 195, rfl⟩
abbrev main_v117 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_cst_30 : Ref sig .tc := ⟨.hbm, 200, rfl⟩
abbrev main_v121 : Ref sig .tc := ⟨.hbm, 201, rfl⟩
abbrev main_v122 : Ref sig .tc := ⟨.hbm, 202, rfl⟩
abbrev main_cst_31 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_cst_32 : Ref sig .tc := ⟨.hbm, 208, rfl⟩
abbrev main_v127 : Ref sig .tc := ⟨.hbm, 209, rfl⟩
abbrev main_v128 : Ref sig .tc := ⟨.hbm, 210, rfl⟩
abbrev main_v129 : Ref sig .tc := ⟨.hbm, 211, rfl⟩
abbrev main_cst_33 : Ref sig .tc := ⟨.hbm, 212, rfl⟩
abbrev main_v130 : Ref sig .tc := ⟨.hbm, 213, rfl⟩
abbrev main_v131 : Ref sig .tc := ⟨.hbm, 214, rfl⟩
abbrev main_cst_34 : Ref sig .tc := ⟨.hbm, 215, rfl⟩
abbrev main_v132 : Ref sig .tc := ⟨.hbm, 216, rfl⟩
abbrev main_v133 : Ref sig .tc := ⟨.hbm, 217, rfl⟩
abbrev main_cst_35 : Ref sig .tc := ⟨.hbm, 218, rfl⟩
abbrev main_v134 : Ref sig .tc := ⟨.hbm, 219, rfl⟩
abbrev main_v135 : Ref sig .tc := ⟨.hbm, 220, rfl⟩
abbrev main_cst_36 : Ref sig .tc := ⟨.hbm, 221, rfl⟩
abbrev main_v136 : Ref sig .tc := ⟨.hbm, 222, rfl⟩
abbrev main_v137 : Ref sig .tc := ⟨.hbm, 223, rfl⟩
abbrev main_v138 : Ref sig .tc := ⟨.hbm, 224, rfl⟩
abbrev main_cst_37 : Ref sig .tc := ⟨.hbm, 225, rfl⟩
abbrev main_v139 : Ref sig .tc := ⟨.hbm, 226, rfl⟩
abbrev main_v140 : Ref sig .tc := ⟨.hbm, 227, rfl⟩
abbrev main_v141 : Ref sig .tc := ⟨.hbm, 228, rfl⟩
abbrev main_cst_38 : Ref sig .tc := ⟨.hbm, 229, rfl⟩
abbrev main_v142 : Ref sig .tc := ⟨.hbm, 230, rfl⟩
abbrev main_v143 : Ref sig .tc := ⟨.hbm, 231, rfl⟩
abbrev main_call10_cst : Ref sig .tc := ⟨.hbm, 232, rfl⟩
abbrev main_call10_v0 : Ref sig .tc := ⟨.hbm, 233, rfl⟩
abbrev main_v144 : Ref sig .tc := ⟨.hbm, 234, rfl⟩
abbrev main_cst_39 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_cst_40 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_cst_41 : Ref sig .tc := ⟨.hbm, 244, rfl⟩
abbrev main_v152 : Ref sig .tc := ⟨.hbm, 245, rfl⟩
abbrev main_v153 : Ref sig .tc := ⟨.hbm, 246, rfl⟩
abbrev main_cst_42 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_cst_43 : Ref sig .tc := ⟨.hbm, 251, rfl⟩
abbrev main_v157 : Ref sig .tc := ⟨.hbm, 252, rfl⟩
abbrev main_v158 : Ref sig .tc := ⟨.hbm, 253, rfl⟩
abbrev main_v159 : Ref sig .tc := ⟨.hbm, 254, rfl⟩
abbrev main_v160 : Ref sig .tc := ⟨.hbm, 255, rfl⟩
abbrev main_c_44 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_c_45 : Ref sig .tc := ⟨.hbm, 260, rfl⟩
abbrev main_call11_v0 : Ref sig .tc := ⟨.hbm, 261, rfl⟩
abbrev main_call11_v1 : Ref sig .tc := ⟨.hbm, 262, rfl⟩
abbrev main_call11_v2 : Ref sig .tc := ⟨.hbm, 263, rfl⟩
abbrev main_call11_v3 : Ref sig .tc := ⟨.hbm, 264, rfl⟩
abbrev main_call11_v4 : Ref sig .tc := ⟨.hbm, 265, rfl⟩
abbrev main_call11_v5 : Ref sig .tc := ⟨.hbm, 266, rfl⟩
abbrev main_call11_v6 : Ref sig .tc := ⟨.hbm, 267, rfl⟩
abbrev main_call11_v7 : Ref sig .tc := ⟨.hbm, 268, rfl⟩
abbrev main_call11_v8 : Ref sig .tc := ⟨.hbm, 269, rfl⟩
abbrev main_call11_v9 : Ref sig .tc := ⟨.hbm, 270, rfl⟩
abbrev main_call11_v10 : Ref sig .tc := ⟨.hbm, 271, rfl⟩
abbrev main_call11_v11 : Ref sig .tc := ⟨.hbm, 272, rfl⟩
abbrev main_call11_v12 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_v171 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_cst_46 : Ref sig .tc := ⟨.hbm, 286, rfl⟩
abbrev main_v176 : Ref sig .tc := ⟨.hbm, 287, rfl⟩
abbrev main_call12_v0 : Ref sig .tc := ⟨.hbm, 288, rfl⟩
abbrev main_call12_cst : Ref sig .tc := ⟨.hbm, 289, rfl⟩
abbrev main_call12_c : Ref sig .tc := ⟨.hbm, 290, rfl⟩
abbrev main_call12_v1_0 : Ref sig .tc := ⟨.hbm, 291, rfl⟩
abbrev main_v177 : Ref sig .tc := ⟨.hbm, 292, rfl⟩
abbrev main_c_47 : Ref sig .tc := ⟨.hbm, 293, rfl⟩
abbrev main_v178 : Ref sig .tc := ⟨.hbm, 294, rfl⟩
abbrev main_v179 : Ref sig .tc := ⟨.hbm, 295, rfl⟩
abbrev main_v180 : Ref sig .tc := ⟨.hbm, 296, rfl⟩

abbrev nD : Nat := 1
abbrev τ : Topo := Topo.v7x

variable {F : FTy → Type} [FloatOps F]
-- ==== Proof.KerOuts.lean ====
/- What the kernel's outputs and carried scratch hold after each grid point, by the case of its conditionals the point is in:
   case A is the first point, case C the last, case B the points between. -/
module

public import proofs.«01_k».proof.Proof.Gen.KernelIdeal.Frame.RunC
public import Idealize.ShloMosaic.Lib.Claim

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A stores nothing into output 7 (the window is idle at its points and not written back there):
    no pieces — a placeholder (junk read back) that nothing consults, since at these points the window is neither
    written back nor read at the next point (Lib/Pipeline.lean "Idle points"). -/
def out0_A_7 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) : Vec F S24x4096 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).1)

/-- Case A stores nothing into output 8 (the window is idle at its points and not written back there):
    no pieces — a placeholder (junk read back) that nothing consults, since at these points the window is neither
    written back nor read at the next point (Lib/Pipeline.lean "Idle points"). -/
def out0_A_8 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) : Vec F S1x4096 .i32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.1)

/-- Case A stores nothing into output 9 (the window is idle at its points and not written back there):
    no pieces — a placeholder (junk read back) that nothing consults, since at these points the window is neither
    written back nor read at the next point (Lib/Pipeline.lean "Idle points"). -/
def out0_A_9 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) : Vec F S1x4096 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-- What case A leaves in scratch `arg11`: its pieces (stores, a counted loop's segment) read back over the contents it was handed (`xs0`: what the point before left, or at the first point what the scratch held before it). -/
def sout0_A_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs0 : Vec F S4x24x1024 .f32) : Vec F S4x24x1024 .f32 :=
  arg11.view.read (Elt F) (arg11.view.writes (Elt F) (harg11.unread xs0) (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.1)

/-- Case A's pieces for scratch `arg12`, which the kernel carries between points, cover it: 1 piece of `S128x512` tiling it (Lib/Ring.lean `Piece.tiledL`). -/
theorem scover0_A_1 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (y : S128x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1 S128x512.size (by sl_kernel_rfl) y

/-- What case A leaves in scratch `arg12`: its pieces read back over junk. -/
def sout0_A_1 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) : Vec F S128x512 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.1)

/-- Case A's pieces for scratch `arg13`, which the kernel carries between points, cover it: 1 piece of `S24x512` tiling it (Lib/Ring.lean `Piece.tiledL`). -/
theorem scover0_A_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (y : S24x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.2.1 S24x512.size (by sl_kernel_rfl) y

/-- What case A leaves in scratch `arg13`: its pieces read back over junk. -/
def sout0_A_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) : Vec F S24x512 .f32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6).2.2.2.2.2.1)

/-- Case B stores nothing into output 7 (the window is idle at its points and not written back there):
    no pieces — a placeholder (junk read back) that nothing consults, since at these points the window is neither
    written back nor read at the next point (Lib/Pipeline.lean "Idle points"). -/
def out0_B_7 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) : Vec F S24x4096 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs1 xs2).1)

/-- Case B stores nothing into output 8 (the window is idle at its points and not written back there):
    no pieces — a placeholder (junk read back) that nothing consults, since at these points the window is neither
    written back nor read at the next point (Lib/Pipeline.lean "Idle points"). -/
def out0_B_8 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) : Vec F S1x4096 .i32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs1 xs2).2.1)

/-- Case B stores nothing into output 9 (the window is idle at its points and not written back there):
    no pieces — a placeholder (junk read back) that nothing consults, since at these points the window is neither
    written back nor read at the next point (Lib/Pipeline.lean "Idle points"). -/
def out0_B_9 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) : Vec F S1x4096 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs1 xs2).2.2.1)

/-- What case B leaves in scratch `arg11`: its pieces (stores, a counted loop's segment) read back over the contents it was handed (`xs0`: what the point before left, or at the first point what the scratch held before it). -/
def sout0_B_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (xs0 : Vec F S4x24x1024 .f32) : Vec F S4x24x1024 .f32 :=
  arg11.view.read (Elt F) (arg11.view.writes (Elt F) (harg11.unread xs0) (kernelRun0_B c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs1 xs2).2.2.2.1)

/-- Case B stores nothing into scratch `arg12`: it holds what the point before left. -/
def sout0_B_1 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) : Vec F S128x512 .f32 := xs1

/-- Case B stores nothing into scratch `arg13`: it holds what the point before left. -/
def sout0_B_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : ¬cond0_1 i)
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) : Vec F S24x512 .f32 := xs2

/-- Case C's pieces for output 7 tile its block (4 stores of `S24x1024`, checked by the kernel's evaluation: Lib/Ring.lean `Piece.tiledL`, linear in the pieces, through a loop's `@[irreducible]` trip theorem too), so they cover it. -/
theorem cover0_C_7 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) (y : S24x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).1 S24x1024.size (by sl_kernel_rfl) y

/-- What case C leaves in output 7's staging buffer: its pieces read back over junk. -/
def out0_C_7 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) : Vec F S24x4096 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).1)

/-- Case C's pieces for output 8 tile its block (4 stores of `S1x1024`, checked by the kernel's evaluation: Lib/Ring.lean `Piece.tiledL`, linear in the pieces, through a loop's `@[irreducible]` trip theorem too), so they cover it. -/
theorem cover0_C_8 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) (y : S1x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).2.1 S1x1024.size (by sl_kernel_rfl) y

/-- What case C leaves in output 8's staging buffer: its pieces read back over junk. -/
def out0_C_8 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) : Vec F S1x4096 .i32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).2.1)

/-- Case C's pieces for output 9 tile its block (4 stores of `S1x1024`, checked by the kernel's evaluation: Lib/Ring.lean `Piece.tiledL`, linear in the pieces, through a loop's `@[irreducible]` trip theorem too), so they cover it. -/
theorem cover0_C_9 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) (y : S1x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).2.2.1 S1x1024.size (by sl_kernel_rfl) y

/-- What case C leaves in output 9's staging buffer: its pieces read back over junk. -/
def out0_C_9 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) : Vec F S1x4096 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).2.2.1)

/-- What case C leaves in scratch `arg11`: its pieces (stores, a counted loop's segment) read back over the contents it was handed (`xs0`: what the point before left, or at the first point what the scratch held before it). -/
def sout0_C_0 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) (xs0 : Vec F S4x24x1024 .f32) : Vec F S4x24x1024 .f32 :=
  arg11.view.read (Elt F) (arg11.view.writes (Elt F) (harg11.unread xs0) (kernelRun0_C c i arg1 harg1 arg2 harg2 arg3 harg3 arg4 harg4 arg5 harg5 arg6 harg6 arg7 harg7 arg8 harg8 arg9 harg9 arg10 harg10 arg11 harg11 arg12 harg12 arg13 harg13 hc0 hc1 hl0 x0 x1 x2 x3 x4 x5 x6 xs1 xs2 ps0_0 ps0_1 ps0_2).2.2.2.1)

/-- Case C stores nothing into scratch `arg12`: it holds what the point before left. -/
def sout0_C_1 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) : Vec F S128x512 .f32 := xs1

/-- Case C stores nothing into scratch `arg13`: it holds what the point before left. -/
def sout0_C_2 (c : Dev nD) (i : grid0.Coords) (arg1 : Memref sig .tc .vmem S1024x512 .f32) (harg1 : arg1.IsWhole) (arg2 : Memref sig .tc .vmem S1024x512 .f32) (harg2 : arg2.IsWhole) (arg3 : Memref sig .tc .vmem S1024x512 .f32) (harg3 : arg3.IsWhole) (arg4 : Memref sig .tc .vmem S1024x512 .f32) (harg4 : arg4.IsWhole) (arg5 : Memref sig .tc .vmem S1024x64 .f32) (harg5 : arg5.IsWhole) (arg6 : Memref sig .tc .vmem S128x512 .f32) (harg6 : arg6.IsWhole) (arg7 : Memref sig .tc .vmem S24x512 .f32) (harg7 : arg7.IsWhole) (arg8 : Memref sig .tc .vmem S24x4096 .f32) (harg8 : arg8.IsWhole) (arg9 : Memref sig .tc .vmem S1x4096 .i32) (harg9 : arg9.IsWhole) (arg10 : Memref sig .tc .vmem S1x4096 .f32) (harg10 : arg10.IsWhole) (arg11 : Memref sig .tc .vmem S4x24x1024 .f32) (harg11 : arg11.IsWhole) (arg12 : Memref sig .tc .vmem S128x512 .f32) (harg12 : arg12.IsWhole) (arg13 : Memref sig .tc .vmem S24x512 .f32) (harg13 : arg13.IsWhole) (hc0 : ¬cond0_0 i) (hc1 : cond0_1 i) (hl0 : k0_off1 i = ![3, 0, 0])
    (x0 : Vec F S1024x512 .f32) (x1 : Vec F S1024x512 .f32) (x2 : Vec F S1024x512 .f32) (x3 : Vec F S1024x512 .f32) (x4 : Vec F S1024x64 .f32) (x5 : Vec F S128x512 .f32) (x6 : Vec F S24x512 .f32) (xs1 : Vec F S128x512 .f32) (xs2 : Vec F S24x512 .f32) (ps0_0 : Vec F S1x24x1024 .f32) (ps0_1 : Vec F S1x24x1024 .f32) (ps0_2 : Vec F S1x24x1024 .f32) : Vec F S24x512 .f32 := xs2

/-! ## What the outputs hold after each point -/

/-- At every point of case C the offsets chain `k0_off1` gives the same numbers, `![3, 0, 0]`: where the case's own
    store into the scratch filled one slice per point lands, which its run takes as a hypothesis (`hl·`). -/
theorem hoff0_k0_off1_C : ∀ t : Fin cfg0.N, (¬(t.val % 4 = 0) ∧ t.val % 4 = 3) → k0_off1 (grid0.coords t) = ![3, 0, 0] := by
  decide +kernel

/-- What the first point finds: nothing named in the outputs, each carried scratch at `dS·`. -/
def outs0From0 (dS0 : Vec F S4x24x1024 .f32) (dS1 : Vec F S128x512 .f32) (dS2 : Vec F S24x512 .f32) : Vec F S24x4096 .f32 × Vec F S1x4096 .i32 × Vec F S1x4096 .f32 × Vec F S4x24x1024 .f32 × Vec F S128x512 .f32 × Vec F S24x512 .f32 :=
  (VO0_7.read (Elt F) VO0_7.junk, VO0_8.read (Elt F) VO0_8.junk, VO0_9.read (Elt F) VO0_9.junk, dS0, dS1, dS2)

/-- THE ACCUMULATION from the carried scratch at `dS·` before the first point. What the outputs' staging buffers and the scratch the kernel carries between points hold after the body at position `n` (a tuple: the outputs in window order, then the scratch):
    the case the closed forms select at `n`, run at the point's memrefs and input blocks, a carried scratch it takes named
    at what this leaves at `n - 1` (at `dS·` for the first point). An assignment of the conditions no point meets is no case (`False.elim`). -/
def outsAtFrom0 (c : Dev nD) (dS0 : Vec F S4x24x1024 .f32) (dS1 : Vec F S128x512 .f32) (dS2 : Vec F S24x512 .f32) : (n : ℕ) → n < cfg0.N → Vec F S24x4096 .f32 × Vec F S1x4096 .i32 × Vec F S1x4096 .f32 × Vec F S4x24x1024 .f32 × Vec F S128x512 .f32 × Vec F S24x512 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (outs0From0 dS0 dS1 dS2).2.2.2.1, sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 4 = 0 then
      if h1 : (n + 1) % 4 = 3 then
        False.elim (by have hN : n + 1 < 4 := lt_of_lt_of_eq hn (show cfg0.N = 4 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.1, sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : (n + 1) % 4 = 3 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (hoff0_k0_off1_C ⟨n + 1, hn⟩ ⟨h0, h1⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2 (View.readAt (Elt F) scM0_0.view (Rect.unit (s := S4x24x1024) ![0, 0, 0] S1x24x1024.size inb_S4x24x1024_S1x24x1024_0_0_0).toLoadRect ((Memref.isWhole_whole _).unread (outsAtFrom0 c dS0 dS1 dS2 n (Nat.lt_of_succ_lt hn)).2.2.2.1)) (View.readAt (Elt F) scM0_0.view (Rect.unit (s := S4x24x1024) ![1, 0, 0] S1x24x1024.size inb_S4x24x1024_S1x24x1024_1_0_0).toLoadRect ((Memref.isWhole_whole _).unread (outsAtFrom0 c dS0 dS1 dS2 n (Nat.lt_of_succ_lt hn)).2.2.2.1)) (View.readAt (Elt F) scM0_0.view (Rect.unit (s := S4x24x1024) ![2, 0, 0] S1x24x1024.size inb_S4x24x1024_S1x24x1024_2_0_0).toLoadRect ((Memref.isWhole_whole _).unread (outsAtFrom0 c dS0 dS1 dS2 n (Nat.lt_of_succ_lt hn)).2.2.2.1)), out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (hoff0_k0_off1_C ⟨n + 1, hn⟩ ⟨h0, h1⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2 (View.readAt (Elt F) scM0_0.view (Rect.unit (s := S4x24x1024) ![0, 0, 0] S1x24x1024.size inb_S4x24x1024_S1x24x1024_0_0_0).toLoadRect ((Memref.isWhole_whole _).unread (outsAtFrom0 c dS0 dS1 dS2 n (Nat.lt_of_succ_lt hn)).2.2.2.1)) (View.readAt (Elt F) scM0_0.view (Rect.unit (s := S4x24x1024) ![1, 0, 0] S1x24x1024.size inb_S4x24x1024_S1x24x1024_1_0_0).toLoadRect ((Memref.isWhole_whole _).unread (outsAtFrom0 c dS0 dS1 dS2 n (Nat.lt_of_succ_lt hn)).2.2.2.1)) (View.readAt (Elt F) scM0_0.view (Rect.unit (s := S4x24x1024) ![2, 0, 0] S1x24x1024.size inb_S4x24x1024_S1x24x1024_2_0_0).toLoadRect ((Memref.isWhole_whole _).unread (outsAtFrom0 c dS0 dS1 dS2 n (Nat.lt_of_succ_lt hn)).2.2.2.1)), out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (hoff0_k0_off1_C ⟨n + 1, hn⟩ ⟨h0, h1⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2 (View.readAt (Elt F) scM0_0.view (Rect.unit (s := S4x24x1024) ![0, 0, 0] S1x24x1024.size inb_S4x24x1024_S1x24x1024_0_0_0).toLoadRect ((Memref.isWhole_whole _).unread (outsAtFrom0 c dS0 dS1 dS2 n (Nat.lt_of_succ_lt hn)).2.2.2.1)) (View.readAt (Elt F) scM0_0.view (Rect.unit (s := S4x24x1024) ![1, 0, 0] S1x24x1024.size inb_S4x24x1024_S1x24x1024_1_0_0).toLoadRect ((Memref.isWhole_whole _).unread (outsAtFrom0 c dS0 dS1 dS2 n (Nat.lt_of_succ_lt hn)).2.2.2.1)) (View.readAt (Elt F) scM0_0.view (Rect.unit (s := S4x24x1024) ![2, 0, 0] S1x24x1024.size inb_S4x24x1024_S1x24x1024_2_0_0).toLoadRect ((Memref.isWhole_whole _).unread (outsAtFrom0 c dS0 dS1 dS2 n (Nat.lt_of_succ_lt hn)).2.2.2.1)), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (hoff0_k0_off1_C ⟨n + 1, hn⟩ ⟨h0, h1⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2 (View.readAt (Elt F) scM0_0.view (Rect.unit (s := S4x24x1024) ![0, 0, 0] S1x24x1024.size inb_S4x24x1024_S1x24x1024_0_0_0).toLoadRect ((Memref.isWhole_whole _).unread (outsAtFrom0 c dS0 dS1 dS2 n (Nat.lt_of_succ_lt hn)).2.2.2.1)) (View.readAt (Elt F) scM0_0.view (Rect.unit (s := S4x24x1024) ![1, 0, 0] S1x24x1024.size inb_S4x24x1024_S1x24x1024_1_0_0).toLoadRect ((Memref.isWhole_whole _).unread (outsAtFrom0 c dS0 dS1 dS2 n (Nat.lt_of_succ_lt hn)).2.2.2.1)) (View.readAt (Elt F) scM0_0.view (Rect.unit (s := S4x24x1024) ![2, 0, 0] S1x24x1024.size inb_S4x24x1024_S1x24x1024_2_0_0).toLoadRect ((Memref.isWhole_whole _).unread (outsAtFrom0 c dS0 dS1 dS2 n (Nat.lt_of_succ_lt hn)).2.2.2.1)) (outsAtFrom0 c dS0 dS1 dS2 n (Nat.lt_of_succ_lt hn)).2.2.2.1, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (hoff0_k0_off1_C ⟨n + 1, hn⟩ ⟨h0, h1⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2 (View.readAt (Elt F) scM0_0.view (Rect.unit (s := S4x24x1024) ![0, 0, 0] S1x24x1024.size inb_S4x24x1024_S1x24x1024_0_0_0).toLoadRect ((Memref.isWhole_whole _).unread (outsAtFrom0 c dS0 dS1 dS2 n (Nat.lt_of_succ_lt hn)).2.2.2.1)) (View.readAt (Elt F) scM0_0.view (Rect.unit (s := S4x24x1024) ![1, 0, 0] S1x24x1024.size inb_S4x24x1024_S1x24x1024_1_0_0).toLoadRect ((Memref.isWhole_whole _).unread (outsAtFrom0 c dS0 dS1 dS2 n (Nat.lt_of_succ_lt hn)).2.2.2.1)) (View.readAt (Elt F) scM0_0.view (Rect.unit (s := S4x24x1024) ![2, 0, 0] S1x24x1024.size inb_S4x24x1024_S1x24x1024_2_0_0).toLoadRect ((Memref.isWhole_whole _).unread (outsAtFrom0 c dS0 dS1 dS2 n (Nat.lt_of_succ_lt hn)).2.2.2.1)), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (hoff0_k0_off1_C ⟨n + 1, hn⟩ ⟨h0, h1⟩) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2 (View.readAt (Elt F) scM0_0.view (Rect.unit (s := S4x24x1024) ![0, 0, 0] S1x24x1024.size inb_S4x24x1024_S1x24x1024_0_0_0).toLoadRect ((Memref.isWhole_whole _).unread (outsAtFrom0 c dS0 dS1 dS2 n (Nat.lt_of_succ_lt hn)).2.2.2.1)) (View.readAt (Elt F) scM0_0.view (Rect.unit (s := S4x24x1024) ![1, 0, 0] S1x24x1024.size inb_S4x24x1024_S1x24x1024_1_0_0).toLoadRect ((Memref.isWhole_whole _).unread (outsAtFrom0 c dS0 dS1 dS2 n (Nat.lt_of_succ_lt hn)).2.2.2.1)) (View.readAt (Elt F) scM0_0.view (Rect.unit (s := S4x24x1024) ![2, 0, 0] S1x24x1024.size inb_S4x24x1024_S1x24x1024_2_0_0).toLoadRect ((Memref.isWhole_whole _).unread (outsAtFrom0 c dS0 dS1 dS2 n (Nat.lt_of_succ_lt hn)).2.2.2.1)))
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2 (outsAtFrom0 c dS0 dS1 dS2 n (Nat.lt_of_succ_lt hn)).2.2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAtFrom0 c dS0 dS1 dS2 n (Nat.lt_of_succ_lt hn)).2.2.2.2.1 (outsAtFrom0 c dS0 dS1 dS2 n (Nat.lt_of_succ_lt hn)).2.2.2.2.2)

/-- What point `n` finds: `outs0From0` at the first point, what the point before left at a later one. -/
def prevFrom0 (c : Dev nD) (dS0 : Vec F S4x24x1024 .f32) (dS1 : Vec F S128x512 .f32) (dS2 : Vec F S24x512 .f32) : (n : ℕ) → n ≤ cfg0.N → Vec F S24x4096 .f32 × Vec F S1x4096 .i32 × Vec F S1x4096 .f32 × Vec F S4x24x1024 .f32 × Vec F S128x512 .f32 × Vec F S24x512 .f32
  | 0, _ => outs0From0 dS0 dS1 dS2
  | n + 1, hn => outsAtFrom0 m c dS0 dS1 dS2 n hn

/-- `outsAtFrom0` at a point of case A: that case's contents, over what the point before left. -/
theorem outsAtFrom0_A (c : Dev nD) (dS0 : Vec F S4x24x1024 .f32) (dS1 : Vec F S128x512 .f32) (dS2 : Vec F S24x512 .f32) (t : Fin cfg0.N) (h0 : t.val % 4 = 0) (h1 : ¬t.val % 4 = 3) :
    outsAtFrom0 m c dS0 dS1 dS2 t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.1, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans rfl)

/-- `outsAtFrom0` at a point of case B: that case's contents, over what the point before left. -/
theorem outsAtFrom0_B (c : Dev nD) (dS0 : Vec F S4x24x1024 .f32) (dS1 : Vec F S128x512 .f32) (dS2 : Vec F S24x512 .f32) (t : Fin cfg0.N) (h0 : ¬t.val % 4 = 0) (h1 : ¬t.val % 4 = 3) :
    outsAtFrom0 m c dS0 dS1 dS2 t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (prevFrom0 m c dS0 dS1 dS2 t.val (Nat.le_of_lt t.isLt)).2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAtFrom0` at a point of case C: that case's contents, over what the point before left. -/
theorem outsAtFrom0_C (c : Dev nD) (dS0 : Vec F S4x24x1024 .f32) (dS1 : Vec F S128x512 .f32) (dS2 : Vec F S24x512 .f32) (t : Fin cfg0.N) (h0 : ¬t.val % 4 = 0) (h1 : t.val % 4 = 3) :
    outsAtFrom0 m c dS0 dS1 dS2 t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)), out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)), out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)) (prevFrom0 m c dS0 dS1 dS2 t.val (Nat.le_of_lt t.isLt)).2.2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1))) := by
  obtain ⟨n, hn⟩ := t
  cases n with
  | zero => exact (by exfalso; (try dsimp only at h0); exact absurd (Nat.zero_mod _) h0)
  | succ n => exact (dif_neg h0).trans ((dif_pos h1).trans rfl)

/-- What the outputs and the carried scratch hold after each point with the carried scratch at junk before the first:
    a closed function of the point, what the outputs' proof data read. -/
def outsAt0 (c : Dev nD) (n : ℕ) (hn : n < cfg0.N) : Vec F S24x4096 .f32 × Vec F S1x4096 .i32 × Vec F S1x4096 .f32 × Vec F S4x24x1024 .f32 × Vec F S128x512 .f32 × Vec F S24x512 .f32 :=
  outsAtFrom0 m c (VS0_0.read (Elt F) VS0_0.junk) (VS0_1.read (Elt F) VS0_1.junk) (VS0_2.read (Elt F) VS0_2.junk) n hn

/-- What point `n` finds, likewise from junk. -/
def prev0 (c : Dev nD) (n : ℕ) (hn : n ≤ cfg0.N) : Vec F S24x4096 .f32 × Vec F S1x4096 .i32 × Vec F S1x4096 .f32 × Vec F S4x24x1024 .f32 × Vec F S128x512 .f32 × Vec F S24x512 .f32 :=
  prevFrom0 m c (VS0_0.read (Elt F) VS0_0.junk) (VS0_1.read (Elt F) VS0_1.junk) (VS0_2.read (Elt F) VS0_2.junk) n hn

/-- `outsAt0` at a point of case A: that case's contents, over what the point before left. -/
theorem outsAt0_A (c : Dev nD) (t : Fin cfg0.N) (h0 : t.val % 4 = 0) (h1 : ¬t.val % 4 = 3) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (prev0 m c t.val (Nat.le_of_lt t.isLt)).2.2.2.1, sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)) :=
  outsAtFrom0_A m c (VS0_0.read (Elt F) VS0_0.junk) (VS0_1.read (Elt F) VS0_1.junk) (VS0_2.read (Elt F) VS0_2.junk) t h0 h1

/-- `outsAt0` at a point of case B: that case's contents, over what the point before left. -/
theorem outsAt0_B (c : Dev nD) (t : Fin cfg0.N) (h0 : ¬t.val % 4 = 0) (h1 : ¬t.val % 4 = 3) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2 (prev0 m c t.val (Nat.le_of_lt t.isLt)).2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2) :=
  outsAtFrom0_B m c (VS0_0.read (Elt F) VS0_0.junk) (VS0_1.read (Elt F) VS0_1.junk) (VS0_2.read (Elt F) VS0_2.junk) t h0 h1

/-- `outsAt0` at a point of case C: that case's contents, over what the point before left. -/
theorem outsAt0_C (c : Dev nD) (t : Fin cfg0.N) (h0 : ¬t.val % 4 = 0) (h1 : t.val % 4 = 3) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prev0 m c t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prev0 m c t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prev0 m c t.val (Nat.le_of_lt t.isLt)).2.2.2.1)), out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prev0 m c t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prev0 m c t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prev0 m c t.val (Nat.le_of_lt t.isLt)).2.2.2.1)), out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prev0 m c t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prev0 m c t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prev0 m c t.val (Nat.le_of_lt t.isLt)).2.2.2.1)), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prev0 m c t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prev0 m c t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prev0 m c t.val (Nat.le_of_lt t.isLt)).2.2.2.1)) (prev0 m c t.val (Nat.le_of_lt t.isLt)).2.2.2.1, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prev0 m c t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prev0 m c t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prev0 m c t.val (Nat.le_of_lt t.isLt)).2.2.2.1)), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prev0 m c t.val (Nat.le_of_lt t.isLt)).2.2.2.2.1 (prev0 m c t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prev0 m c t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prev0 m c t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prev0 m c t.val (Nat.le_of_lt t.isLt)).2.2.2.1))) :=
  outsAtFrom0_C m c (VS0_0.read (Elt F) VS0_0.junk) (VS0_1.read (Elt F) VS0_1.junk) (VS0_2.read (Elt F) VS0_2.junk) t h0 h1

end Cert.Proof.Ker

end
-- ==== Proof.KerScr.lean ====
/- The carried scratch after each grid point: the normalised prototypes, and one slice of adjusted probabilities per point. -/
module

public import proofs.«01_k».proof.Proof.KerOuts
public import Idealize.ShloMosaic.Lib.WholeRead
public import Idealize.ShloMosaic.Lib.Pipeline.Value
public import Idealize.ShloMosaic.Lib.Pointwise

@[expose] public section

set_option maxRecDepth 16384
set_option maxHeartbeats 1000000

noncomputable section

namespace Cert.Proof.Ker

open Cert.KernelIdeal Cert.KernelIdeal.Gen Idealize.ShloMosaic Idealize.ShloMosaic.TcCoe Idealize.SL.Sem

variable {F : FTy → Type} [FloatOps F] [Named F]

/-! ## One point's payload -/

section Payload

variable (x0 x1 x2 x3 : Vec F S1024x512 .f32) (x4 : Vec F S1024x64 .f32)

/-- The mixed features of a block of frames, not normalised. -/
def qry : FVec F S1024x512 .f32 := k0_pay24 x1 x2 x3 (k0_pay21 x4) (k0_pay22 x0) (k0_pay23 x1)

/-- The reciprocal norms of the mixed features, along the lanes. -/
def invq : FVec F S1x1024 .f32 := k0_pay25 x1 x2 x3 (k0_pay21 x4) (k0_pay22 x0) (k0_pay23 x1)

/-- The similarities to the step prototypes. -/
def simT (spn : Vec F S128x512 .f32) : FVec F S128x1024 .f32 := k0_pay26 x1 x2 x3 (k0_pay21 x4) (k0_pay22 x0) (k0_pay23 x1) spn

/-- The score of the selected step candidates. -/
def stepT (s : FVec F S128x1024 .f32) : FVec F S1x1024 .f32 :=
  k0_pay57 (k0_pay33 s) (k0_pay34 s) (k0_pay35 s) (k0_pay36 s)
    (k0_pay51 (k0_pay29 s) (k0_pay31 s) (k0_pay35 s) (k0_pay36 s) k0_pay38 k0_pay39 (k0_pay41 s))
    (k0_pay52 (k0_pay27 s) (k0_pay29 s) (k0_pay31 s) (k0_pay35 s) (k0_pay36 s) k0_pay38 k0_pay40 (k0_pay41 s))
    (k0_pay53 (k0_pay33 s) (k0_pay35 s) (k0_pay36 s))
    (k0_pay54 (k0_pay29 s) (k0_pay31 s) (k0_pay33 s) (k0_pay35 s) (k0_pay36 s) k0_pay38 (k0_pay41 s))
    (k0_pay55 (k0_pay29 s) (k0_pay31 s) (k0_pay33 s) (k0_pay35 s) (k0_pay36 s) k0_pay38 (k0_pay41 s))
    k0_pay56

/-- The adjusted probabilities of a block of frames. -/
def padj (spn : Vec F S128x512 .f32) (epn : Vec F S24x512 .f32) : FVec F S1x24x1024 .f32 :=
  k0_pay60 (k0_pay37 (simT x0 x1 x2 x3 x4 spn)) (stepT (simT x0 x1 x2 x3 x4 spn))
    (k0_pay58 (qry x0 x1 x2 x3 x4) (invq x0 x1 x2 x3 x4) epn) (k0_pay59 (qry x0 x1 x2 x3 x4) (invq x0 x1 x2 x3 x4) epn)

end Payload

/-! ## Reads and writes of the scratch -/

/-- A load of the whole of a buffer held at given contents reads them. -/
theorem readAt_whole {sig : RefSig} {κ : Kind} {sp : Space} {s : Shape} {e : EltTy} (M : Memref sig κ sp s e) (hM : M.IsWhole)
    (X : Vec F s e) {off : Fin s.rank → Nat} (h : off = fun _ => 0) (inb : ∀ a, off a + s.size a ≤ s.size a) :
    View.readAt (Elt F) M.view (Rect.unit off s.size inb).toLoadRect (hM.unread X) = X := by
  subst h
  funext x
  rw [Memref.IsWhole.readAt_unread]
  congr 1
  funext a
  exact Fin.ext (by simp [LoadRect.idx, Rect.toLoadRect, Rect.unit])

/-- A load of what one store through the same rectangle left reads its payload. -/
theorem readCov_self {sig : RefSig} {κ : Kind} {sp : Space} {s : Shape} {e : EltTy} (v : View sig κ sp s e) (r : Rect s)
    (w : r.shape.Idx → Elt F e) : v.readCov [(⟨r, w⟩ : View.Piece (Elt F) s e)] r.toLoadRect = w := by
  funext x
  rw [View.readCov_eq_canon']
  exact View.canon_cons_emb r w [] x

theorem off2 : (![0, 0] : Fin 2 → Nat) = fun _ => 0 := by funext a; fin_cases a <;> rfl

theorem rdF (M : Memref sig .tc .vmem S1024x512 .f32) (hM : M.IsWhole) (X : Vec F S1024x512 .f32) (inb) :
    View.readAt (Elt F) M.view (Rect.unit (s := S1024x512) ![0, 0] ![1024, 512] inb).toLoadRect (hM.unread X) = X :=
  readAt_whole M hM X off2 inb
theorem rdU (M : Memref sig .tc .vmem S1024x64 .f32) (hM : M.IsWhole) (X : Vec F S1024x64 .f32) (inb) :
    View.readAt (Elt F) M.view (Rect.unit (s := S1024x64) ![0, 0] ![1024, 64] inb).toLoadRect (hM.unread X) = X :=
  readAt_whole M hM X off2 inb
theorem rdP (M : Memref sig .tc .vmem S128x512 .f32) (hM : M.IsWhole) (X : Vec F S128x512 .f32) (inb) :
    View.readAt (Elt F) M.view (Rect.unit (s := S128x512) ![0, 0] ![128, 512] inb).toLoadRect (hM.unread X) = X :=
  readAt_whole M hM X off2 inb
theorem rdE (M : Memref sig .tc .vmem S24x512 .f32) (hM : M.IsWhole) (X : Vec F S24x512 .f32) (inb) :
    View.readAt (Elt F) M.view (Rect.unit (s := S24x512) ![0, 0] ![24, 512] inb).toLoadRect (hM.unread X) = X :=
  readAt_whole M hM X off2 inb

theorem rdP' (X : Vec F S128x512 .f32) (inb) :
    View.readAt (Elt F) (View.whole cc0_scratch1) (Rect.unit (s := S128x512) ![0, 0] ![128, 512] inb).toLoadRect
      ((Memref.isWhole_whole cc0_scratch1).unread X) = X :=
  rdP (Memref.whole cc0_scratch1) _ X inb
theorem rdE' (X : Vec F S24x512 .f32) (inb) :
    View.readAt (Elt F) (View.whole cc0_scratch2) (Rect.unit (s := S24x512) ![0, 0] ![24, 512] inb).toLoadRect
      ((Memref.isWhole_whole cc0_scratch2).unread X) = X :=
  rdE (Memref.whole cc0_scratch2) _ X inb

/-- The grid has one axis: a point is its own coordinate. -/
theorem coords_val : ∀ t : Fin cfg0.N, ((grid0.coords t) 0).val = t.val := by decide +kernel

/-- The scratch of four slices after slice `n` is stored into it. -/
theorem slice_store (X : Vec F S4x24x1024 .f32) {off : Fin 3 → Nat} (n : Nat) (hoff : off = ![n, 0, 0])
    (inb : ∀ a, off a + S1x24x1024.size a ≤ S4x24x1024.size a) (P : Vec F S1x24x1024 .f32) (k : Fin 4) (r : Fin 24) (l : Fin 1024) :
    scM0_0.view.read (Elt F) (scM0_0.view.writes (Elt F) ((Memref.isWhole_whole cc0_scratch0).unread X)
      [⟨Rect.unit (s := S4x24x1024) off S1x24x1024.size inb, P⟩]) (ix3 k r l)
      = if k.val = n then P (ix3 0 r l) else X (ix3 k r l) := by
  subst hoff
  by_cases h : k.val = n
  · rw [if_pos h]
    have e : (Rect.unit (s := S4x24x1024) ![n, 0, 0] S1x24x1024.size inb).emb (ix3 (0 : Fin 1) r l) = ix3 k r l := by
      funext a
      fin_cases a <;> refine Fin.ext ((Rect.emb_apply _ _ _).trans ?_) <;> simp [Rect.unit, ix3, ← h]
    rw [← e]
    exact View.read_writes_cons_emb _ _ _ _ _ _
  · rw [if_neg h, View.read_writes_apply_of_forall_not_mem]
    · exact congrFun (Memref.IsWhole.read_unread _ X) _
    · intro p hp hm
      rw [List.mem_singleton.1 hp, Rect.mem_set_unit] at hm
      have := hm 0
      simp [ix3] at this
      omega

/-- A load of slice `n` of the scratch. -/
theorem slice_load (X : Vec F S4x24x1024 .f32) (n : Nat) (hn : n < 4)
    (inb : ∀ a, (![n, 0, 0] : Fin 3 → Nat) a + S1x24x1024.size a ≤ S4x24x1024.size a) (P : Vec F S1x24x1024 .f32)
    (h : ∀ (r : Fin 24) (l : Fin 1024), X (ix3 ⟨n, hn⟩ r l) = P (ix3 0 r l)) :
    View.readAt (Elt F) scM0_0.view (Rect.unit (s := S4x24x1024) ![n, 0, 0] S1x24x1024.size inb).toLoadRect
      ((Memref.isWhole_whole cc0_scratch0).unread X) = P := by
  funext x
  rw [Memref.IsWhole.readAt_unread]
  obtain ⟨a, r, l, rfl⟩ : ∃ (a : Fin 1) (r : Fin 24) (l : Fin 1024), x = ix3 a r l := ⟨x 0, x 1, x 2, eq_ix3 x⟩
  obtain rfl : a = 0 := Subsingleton.elim _ _
  rw [← h r l]
  congr 1
  funext a
  fin_cases a <;> exact Fin.ext (by simp [LoadRect.idx, Rect.toLoadRect, Rect.unit, ix3])

/-! ## The scratch, point by point -/

variable (m : (ℓ : Loc nD τ sig) → Buf (Elt F) ℓ)

/-- The normalised step prototypes. -/
def spn (c : Dev nD) (t : Fin cfg0.N) : FVec F S128x512 .f32 := k0_pay19 (iblk m c 5 t)
/-- The normalised error prototypes. -/
def epn (c : Dev nD) (t : Fin cfg0.N) : FVec F S24x512 .f32 := k0_pay20 (iblk m c 6 t)

/-- The slice of adjusted probabilities that point `t` stores, the prototypes being those of the first point. -/
def slc (c : Dev nD) (t₀ t : Fin cfg0.N) : FVec F S1x24x1024 .f32 :=
  padj (iblk m c 0 t) (iblk m c 1 t) (iblk m c 2 t) (iblk m c 3 t) (iblk m c 4 t) (spn m c t₀) (epn m c t₀)

variable (c : Dev nD) (dS0 : Vec F S4x24x1024 .f32) (dS1 : Vec F S128x512 .f32) (dS2 : Vec F S24x512 .f32) (t : Fin cfg0.N)

/-- The first point leaves the normalised step prototypes, -/
theorem scr1_A (h0 : t.val % 4 = 0) (h1 : ¬t.val % 4 = 3) :
    (outsAtFrom0 m c dS0 dS1 dS2 t.val t.isLt).2.2.2.2.1 = spn m c t := by
  rw [outsAtFrom0_A m c dS0 dS1 dS2 t h0 h1]
  unfold sout0_A_1 kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.v75, kernelRun0_A.sl.v194, kernelRun0_A.sl.HS1_1, kernelRun0_A.sl.HS2_1, rdF, rdU, rdP, rdE, rdP', rdE']
  rw [View.read_writes_eq_canon _ _ _ fun y => ⟨_, List.mem_singleton_self _, View.mem_set_unit_zero off2 inb_S128x512_S128x512_0_0 y⟩, View.canon_unit_zero off2]
  rfl

/-- the normalised error prototypes, -/
theorem scr2_A (h0 : t.val % 4 = 0) (h1 : ¬t.val % 4 = 3) :
    (outsAtFrom0 m c dS0 dS1 dS2 t.val t.isLt).2.2.2.2.2 = epn m c t := by
  rw [outsAtFrom0_A m c dS0 dS1 dS2 t h0 h1]
  unfold sout0_A_2 kernelRun0_A
  dsimp only
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.v75, kernelRun0_A.sl.v194, kernelRun0_A.sl.HS1_1, kernelRun0_A.sl.HS2_1, rdF, rdU, rdP, rdE, rdP', rdE']
  rw [View.read_writes_eq_canon _ _ _ fun y => ⟨_, List.mem_singleton_self _, View.mem_set_unit_zero off2 inb_S24x512_S24x512_0_0 y⟩, View.canon_unit_zero off2]
  rfl

/-- and its slice of adjusted probabilities. -/
theorem scr0_A (h0 : t.val % 4 = 0) (h1 : ¬t.val % 4 = 3) (k : Fin 4) (r : Fin 24) (l : Fin 1024) :
    (outsAtFrom0 m c dS0 dS1 dS2 t.val t.isLt).2.2.2.1 (ix3 k r l)
      = if k.val = t.val then slc m c t t (ix3 0 r l) else (prevFrom0 m c dS0 dS1 dS2 t.val (Nat.le_of_lt t.isLt)).2.2.2.1 (ix3 k r l) := by
  rw [outsAtFrom0_A m c dS0 dS1 dS2 t h0 h1]
  unfold sout0_A_0 kernelRun0_A
  dsimp only
  refine (slice_store _ t.val (by rw [k0_off1_eq, coords_val]) _ _ k r l).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.v75, kernelRun0_A.sl.v194, kernelRun0_A.sl.HS1_1, kernelRun0_A.sl.HS2_1, rdF, rdU, rdP, rdE, rdP', rdE', readCov_self]
  rfl

/-- A later point leaves the prototypes as they were, -/
theorem scr1_B (h0 : ¬t.val % 4 = 0) (h1 : ¬t.val % 4 = 3) :
    (outsAtFrom0 m c dS0 dS1 dS2 t.val t.isLt).2.2.2.2.1 = (prevFrom0 m c dS0 dS1 dS2 t.val (Nat.le_of_lt t.isLt)).2.2.2.2.1 := by
  rw [outsAtFrom0_B m c dS0 dS1 dS2 t h0 h1]
  rfl

/-- the step's and the error's, -/
theorem scr2_B (h0 : ¬t.val % 4 = 0) (h1 : ¬t.val % 4 = 3) :
    (outsAtFrom0 m c dS0 dS1 dS2 t.val t.isLt).2.2.2.2.2 = (prevFrom0 m c dS0 dS1 dS2 t.val (Nat.le_of_lt t.isLt)).2.2.2.2.2 := by
  rw [outsAtFrom0_B m c dS0 dS1 dS2 t h0 h1]
  rfl

/-- and stores its slice. -/
theorem scr0_B (h0 : ¬t.val % 4 = 0) (h1 : ¬t.val % 4 = 3) (k : Fin 4) (r : Fin 24) (l : Fin 1024) :
    (outsAtFrom0 m c dS0 dS1 dS2 t.val t.isLt).2.2.2.1 (ix3 k r l)
      = if k.val = t.val then
          padj (iblk m c 0 t) (iblk m c 1 t) (iblk m c 2 t) (iblk m c 3 t) (iblk m c 4 t)
            (prevFrom0 m c dS0 dS1 dS2 t.val (Nat.le_of_lt t.isLt)).2.2.2.2.1 (prevFrom0 m c dS0 dS1 dS2 t.val (Nat.le_of_lt t.isLt)).2.2.2.2.2 (ix3 0 r l)
        else (prevFrom0 m c dS0 dS1 dS2 t.val (Nat.le_of_lt t.isLt)).2.2.2.1 (ix3 k r l) := by
  rw [outsAtFrom0_B m c dS0 dS1 dS2 t h0 h1]
  unfold sout0_B_0 kernelRun0_B
  dsimp only
  refine (slice_store _ t.val (by rw [k0_off1_eq, coords_val]) _ _ k r l).trans ?_
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, rdF, rdU, rdP, rdE, rdP', rdE']
  rfl

end Cert.Proof.Ker

end
-- ==== Proof.KerFin.lean ====
/- What the last grid point writes to the three outputs: four blocks of columns each, from the four slices of adjusted probabilities. -/
module

public import proofs.«01_k».proof.Proof.KerScr

@[expose] public section

set_option maxRecDepth 16384
set_option maxHeartbeats 1000000

noncomputable section

namespace Cert.Proof.Ker

open Cert.KernelIdeal Cert.KernelIdeal.Gen Idealize.ShloMosaic Idealize.ShloMosaic.TcCoe Idealize.SL.Sem

variable {F : FTy → Type} [FloatOps F] [Named F]

/-- Four stores of a block of 1024 columns each, read back. -/
theorem four_blocks {R : ℕ} {e : EltTy} {κ : Kind} {sp : Space} (v : View sig κ sp ⟨2, ![R, 4096]⟩ e) (f : v.ty.Contents (Elt F))
    (h0 h1 h2 h3) (a0 a1 a2 a3 : (⟨2, ![R, 1024]⟩ : Shape).Idx → Elt F e) (k : Fin 4) (r : Fin R) (l : Fin 1024) :
    v.read (Elt F) (v.writes (Elt F) f
      [⟨Rect.unit (s := ⟨2, ![R, 4096]⟩) ![0, 3072] ![R, 1024] h3, a3⟩, ⟨Rect.unit (s := ⟨2, ![R, 4096]⟩) ![0, 2048] ![R, 1024] h2, a2⟩,
       ⟨Rect.unit (s := ⟨2, ![R, 4096]⟩) ![0, 1024] ![R, 1024] h1, a1⟩, ⟨Rect.unit (s := ⟨2, ![R, 4096]⟩) ![0, 0] ![R, 1024] h0, a0⟩])
      (ix2 r ⟨1024 * k.val + l.val, by omega⟩) = (![a0, a1, a2, a3] : Fin 4 → _) k (ix2 r l) := by
  have em : ∀ (n : ℕ) (hn : ∀ a, (![0, n] : Fin 2 → ℕ) a + (![R, 1024] : Fin 2 → ℕ) a ≤ (⟨2, ![R, 4096]⟩ : Shape).size a)
      (hk : 1024 * k.val = n),
      ix2 r ⟨1024 * k.val + l.val, by omega⟩ = (Rect.unit (s := ⟨2, ![R, 4096]⟩) ![0, n] ![R, 1024] hn).emb (ix2 r l) := by
    intro n hn hk
    funext a
    fin_cases a <;> refine Fin.ext (Eq.trans ?_ (Rect.emb_apply _ _ _).symm) <;> simp [Rect.unit, ix2, hk]
  have nm : ∀ (n : ℕ) (hn : ∀ a, (![0, n] : Fin 2 → ℕ) a + (![R, 1024] : Fin 2 → ℕ) a ≤ (⟨2, ![R, 4096]⟩ : Shape).size a)
      (hk : 1024 * k.val + 1024 ≤ n),
      (ix2 r ⟨1024 * k.val + l.val, by omega⟩ : (⟨2, ![R, 4096]⟩ : Shape).Idx) ∉ (Rect.unit (s := ⟨2, ![R, 4096]⟩) ![0, n] ![R, 1024] hn).set := by
    intro n hn hk hm
    rw [Rect.mem_set_unit] at hm
    have := (hm 1).1
    have e : ((ix2 r ⟨1024 * k.val + l.val, by omega⟩ : (⟨2, ![R, 4096]⟩ : Shape).Idx) 1).val = 1024 * k.val + l.val := rfl
    rw [e] at this
    have e' : (![0, n] : Fin 2 → ℕ) 1 = n := rfl
    rw [e'] at this
    omega
  have skip : ∀ (n : ℕ) (hn) (a : (⟨2, ![R, 1024]⟩ : Shape).Idx → Elt F e) (L : List (View.Piece (Elt F) (⟨2, ![R, 4096]⟩ : Shape) e)),
      1024 * k.val + 1024 ≤ n →
      v.read (Elt F) (v.writes (Elt F) f (⟨Rect.unit (s := ⟨2, ![R, 4096]⟩) ![0, n] ![R, 1024] hn, a⟩ :: L))
        (ix2 r ⟨1024 * k.val + l.val, by omega⟩)
      = v.read (Elt F) (v.writes (Elt F) f L) (ix2 r ⟨1024 * k.val + l.val, by omega⟩) := by
    intro n hn a L hk
    rw [View.writes_cons]
    refine View.read_slice_write_of_not_mem _ _ _ _ ?_
    rw [Rect.map_emb_univ]
    exact nm n hn hk
  have hit : ∀ (n : ℕ) (hn) (a : (⟨2, ![R, 1024]⟩ : Shape).Idx → Elt F e) (L : List (View.Piece (Elt F) (⟨2, ![R, 4096]⟩ : Shape) e)),
      1024 * k.val = n →
      v.read (Elt F) (v.writes (Elt F) f (⟨Rect.unit (s := ⟨2, ![R, 4096]⟩) ![0, n] ![R, 1024] hn, a⟩ :: L))
        (ix2 r ⟨1024 * k.val + l.val, by omega⟩) = a (ix2 r l) := by
    intro n hn a L hk
    rw [em n hn hk]
    exact View.read_writes_cons_emb _ _ _ _ _ _
  obtain ⟨k, hk⟩ := k
  dsimp only at skip hit
  obtain rfl | rfl | rfl | rfl : k = 0 ∨ k = 1 ∨ k = 2 ∨ k = 3 := by omega
  · rw [skip _ _ _ _ (by omega), skip _ _ _ _ (by omega), skip _ _ _ _ (by omega), hit _ _ _ _ (by omega)]; rfl
  · rw [skip _ _ _ _ (by omega), skip _ _ _ _ (by omega), hit _ _ _ _ (by omega)]; rfl
  · rw [skip _ _ _ _ (by omega), hit _ _ _ _ (by omega)]; rfl
  · rw [hit _ _ _ _ (by omega)]; rfl

/-- A load of the last slice after a store into it. -/
theorem readCov_slice (v : View sig .tc .vmem S4x24x1024 .f32) {off : Fin 3 → ℕ} (h : off = ![3, 0, 0]) (P : Vec F S1x24x1024 .f32)
    (inb : ∀ a, off a + (![1, 24, 1024] : Fin 3 → ℕ) a ≤ S4x24x1024.size a) (inb') :
    v.readCov [(⟨Rect.unit (s := S4x24x1024) off ![1, 24, 1024] inb, P⟩ : View.Piece (Elt F) S4x24x1024 .f32)]
      (Rect.unit (s := S4x24x1024) ![3, 0, 0] ![1, 24, 1024] inb').toLoadRect = P := by
  subst h
  funext x
  rw [View.readCov_eq_canon']
  exact View.canon_cons_emb (Rect.unit (s := S4x24x1024) ![3, 0, 0] ![1, 24, 1024] inb') P [] x

variable (m : (ℓ : Loc nD τ sig) → Buf (Elt F) ℓ)
variable (c : Dev nD) (dS0 : Vec F S4x24x1024 .f32) (dS1 : Vec F S128x512 .f32) (dS2 : Vec F S24x512 .f32) (hN : cfg0.N = 4)

/-- Point `n` of the four. -/
abbrev pt (n : ℕ) (h : n < 4) : Fin cfg0.N := ⟨n, h.trans_eq hN.symm⟩

/-- What the last point finds: the prototypes of the first point, and the slices of the three before it. -/
theorem prev3 (h : 3 ≤ cfg0.N) :
    (prevFrom0 m c dS0 dS1 dS2 3 h).2.2.2.2.1 = spn m c (pt hN 0 (by omega)) ∧
    (prevFrom0 m c dS0 dS1 dS2 3 h).2.2.2.2.2 = epn m c (pt hN 0 (by omega)) ∧
    ∀ (k : Fin 4) (hk : k.val < 3) (r : Fin 24) (l : Fin 1024), (prevFrom0 m c dS0 dS1 dS2 3 h).2.2.2.1 (ix3 k r l)
      = slc m c (pt hN 0 (by omega)) (pt hN k.val k.isLt) (ix3 0 r l) := by
  have a1 := scr1_A m c dS0 dS1 dS2 (pt hN 0 (by omega)) (by simp) (by simp)
  have a2 := scr2_A m c dS0 dS1 dS2 (pt hN 0 (by omega)) (by simp) (by simp)
  have a0 := scr0_A m c dS0 dS1 dS2 (pt hN 0 (by omega)) (by simp) (by simp)
  have b1 := (scr1_B m c dS0 dS1 dS2 (pt hN 1 (by omega)) (by simp) (by simp)).trans a1
  have b2 := (scr2_B m c dS0 dS1 dS2 (pt hN 1 (by omega)) (by simp) (by simp)).trans a2
  have b0 := scr0_B m c dS0 dS1 dS2 (pt hN 1 (by omega)) (by simp) (by simp)
  have c1 := (scr1_B m c dS0 dS1 dS2 (pt hN 2 (by omega)) (by simp) (by simp)).trans b1
  have c2 := (scr2_B m c dS0 dS1 dS2 (pt hN 2 (by omega)) (by simp) (by simp)).trans b2
  have c0 := scr0_B m c dS0 dS1 dS2 (pt hN 2 (by omega)) (by simp) (by simp)
  refine ⟨c1, c2, fun k hk r l => (c0 k r l).trans ?_⟩
  have e1 : (prevFrom0 m c dS0 dS1 dS2 2 (by omega)).2.2.2.2.1 = spn m c (pt hN 0 (by omega)) := b1
  have e2 : (prevFrom0 m c dS0 dS1 dS2 2 (by omega)).2.2.2.2.2 = epn m c (pt hN 0 (by omega)) := b2
  have d1 : (prevFrom0 m c dS0 dS1 dS2 1 (by omega)).2.2.2.2.1 = spn m c (pt hN 0 (by omega)) := a1
  have d2 : (prevFrom0 m c dS0 dS1 dS2 1 (by omega)).2.2.2.2.2 = epn m c (pt hN 0 (by omega)) := a2
  by_cases k2 : k.val = 2
  · rw [if_pos k2]
    show padj _ _ _ _ _ (prevFrom0 m c dS0 dS1 dS2 2 _).2.2.2.2.1 (prevFrom0 m c dS0 dS1 dS2 2 _).2.2.2.2.2 _ = _
    rw [e1, e2]
    simp only [k2]
    rfl
  · rw [if_neg k2]
    refine (b0 k r l).trans ?_
    by_cases k1 : k.val = 1
    · rw [if_pos k1]
      show padj _ _ _ _ _ (prevFrom0 m c dS0 dS1 dS2 1 _).2.2.2.2.1 (prevFrom0 m c dS0 dS1 dS2 1 _).2.2.2.2.2 _ = _
      rw [d1, d2]
      simp only [k1]
      rfl
    · rw [if_neg k1]
      refine (a0 k r l).trans ?_
      have k0 : k.val = 0 := by omega
      rw [if_pos k0]
      simp only [k0]

/-! ## The outputs of the last point -/

section Blocks
variable (P0 P1 P2 P3 : FVec F S1x24x1024 .f32)

/-- The smoothed probabilities, a block of frames at a time. -/
def smB : Fin 4 → FVec F S24x1024 .f32 :=
  ![k0_pay4 P0 P1, k0_pay8 (k0_pay7 P1) P0 P2, k0_pay13 (k0_pay11 P2) (k0_pay12 P1) P3, k0_pay1 (k0_pay16 P3 P2) (k0_pay17 P3 P2) (k0_pay18 P3 P2)]
/-- The most likely type, likewise. -/
def tyB : Fin 4 → IVec S1x1024 32 :=
  ![k0_pay5 P0 P1, k0_pay9 (k0_pay7 P1) P0 P2, k0_pay14 (k0_pay11 P2) (k0_pay12 P1) P3, k0_pay2 (k0_pay16 P3 P2) (k0_pay17 P3 P2) (k0_pay18 P3 P2)]
/-- Whether it is an error, likewise. -/
def feB : Fin 4 → FVec F S1x1024 .f32 :=
  ![k0_pay6 P0 P1, k0_pay10 (k0_pay7 P1) P0 P2, k0_pay15 (k0_pay11 P2) (k0_pay12 P1) P3, k0_pay3 (k0_pay16 P3 P2) (k0_pay17 P3 P2) (k0_pay18 P3 P2)]
end Blocks

theorem out7_of (t : Fin cfg0.N) (h0 : ¬t.val % 4 = 0) (h1 : t.val % 4 = 3) (sp : FVec F S128x512 .f32) (ep : FVec F S24x512 .f32)
    (S0 S1 S2 : FVec F S1x24x1024 .f32)
    (p1 : (prevFrom0 m c dS0 dS1 dS2 t.val (Nat.le_of_lt t.isLt)).2.2.2.2.1 = sp)
    (p2 : (prevFrom0 m c dS0 dS1 dS2 t.val (Nat.le_of_lt t.isLt)).2.2.2.2.2 = ep)
    (q0 : ∀ inb, View.readAt (Elt F) (View.whole cc0_scratch0) (Rect.unit (s := S4x24x1024) ![0, 0, 0] ![1, 24, 1024] inb).toLoadRect
      ((Memref.isWhole_whole cc0_scratch0).unread (prevFrom0 m c dS0 dS1 dS2 t.val (Nat.le_of_lt t.isLt)).2.2.2.1) = S0)
    (q1 : ∀ inb, View.readAt (Elt F) (View.whole cc0_scratch0) (Rect.unit (s := S4x24x1024) ![1, 0, 0] ![1, 24, 1024] inb).toLoadRect
      ((Memref.isWhole_whole cc0_scratch0).unread (prevFrom0 m c dS0 dS1 dS2 t.val (Nat.le_of_lt t.isLt)).2.2.2.1) = S1)
    (q2 : ∀ inb, View.readAt (Elt F) (View.whole cc0_scratch0) (Rect.unit (s := S4x24x1024) ![2, 0, 0] ![1, 24, 1024] inb).toLoadRect
      ((Memref.isWhole_whole cc0_scratch0).unread (prevFrom0 m c dS0 dS1 dS2 t.val (Nat.le_of_lt t.isLt)).2.2.2.1) = S2)
    (k : Fin 4) (r : Fin 24) (l : Fin 1024) :
    (outsAtFrom0 m c dS0 dS1 dS2 t.val t.isLt).1 (ix2 r ⟨1024 * k.val + l.val, by omega⟩)
      = smB S0 S1 S2 (padj (iblk m c 0 t) (iblk m c 1 t) (iblk m c 2 t) (iblk m c 3 t) (iblk m c 4 t) sp ep) k (ix2 r l) := by
  rw [outsAtFrom0_C m c dS0 dS1 dS2 t h0 h1]
  unfold out0_C_7 kernelRun0_C
  dsimp only
  refine (four_blocks _ _ _ _ _ _ _ _ _ _ k r l).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.HS0_1, kernelRun0_C.sl.v335, rdF, rdU, rdP, rdE, rdP', rdE', q0, q1, q2, p1, p2, fun v P inb inb' => readCov_slice (F := F) v (hoff0_k0_off1_C t ⟨h0, h1⟩) P inb inb']
  rfl

theorem out8_of (t : Fin cfg0.N) (h0 : ¬t.val % 4 = 0) (h1 : t.val % 4 = 3) (sp : FVec F S128x512 .f32) (ep : FVec F S24x512 .f32)
    (S0 S1 S2 : FVec F S1x24x1024 .f32)
    (p1 : (prevFrom0 m c dS0 dS1 dS2 t.val (Nat.le_of_lt t.isLt)).2.2.2.2.1 = sp)
    (p2 : (prevFrom0 m c dS0 dS1 dS2 t.val (Nat.le_of_lt t.isLt)).2.2.2.2.2 = ep)
    (q0 : ∀ inb, View.readAt (Elt F) (View.whole cc0_scratch0) (Rect.unit (s := S4x24x1024) ![0, 0, 0] ![1, 24, 1024] inb).toLoadRect
      ((Memref.isWhole_whole cc0_scratch0).unread (prevFrom0 m c dS0 dS1 dS2 t.val (Nat.le_of_lt t.isLt)).2.2.2.1) = S0)
    (q1 : ∀ inb, View.readAt (Elt F) (View.whole cc0_scratch0) (Rect.unit (s := S4x24x1024) ![1, 0, 0] ![1, 24, 1024] inb).toLoadRect
      ((Memref.isWhole_whole cc0_scratch0).unread (prevFrom0 m c dS0 dS1 dS2 t.val (Nat.le_of_lt t.isLt)).2.2.2.1) = S1)
    (q2 : ∀ inb, View.readAt (Elt F) (View.whole cc0_scratch0) (Rect.unit (s := S4x24x1024) ![2, 0, 0] ![1, 24, 1024] inb).toLoadRect
      ((Memref.isWhole_whole cc0_scratch0).unread (prevFrom0 m c dS0 dS1 dS2 t.val (Nat.le_of_lt t.isLt)).2.2.2.1) = S2)
    (k : Fin 4) (r : Fin 1) (l : Fin 1024) :
    (outsAtFrom0 m c dS0 dS1 dS2 t.val t.isLt).2.1 (ix2 r ⟨1024 * k.val + l.val, by omega⟩)
      = tyB S0 S1 S2 (padj (iblk m c 0 t) (iblk m c 1 t) (iblk m c 2 t) (iblk m c 3 t) (iblk m c 4 t) sp ep) k (ix2 r l) := by
  rw [outsAtFrom0_C m c dS0 dS1 dS2 t h0 h1]
  unfold out0_C_8 kernelRun0_C
  dsimp only
  refine (four_blocks _ _ _ _ _ _ _ _ _ _ k r l).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.HS0_1, kernelRun0_C.sl.v335, rdF, rdU, rdP, rdE, rdP', rdE', q0, q1, q2, p1, p2, fun v P inb inb' => readCov_slice (F := F) v (hoff0_k0_off1_C t ⟨h0, h1⟩) P inb inb']
  rfl

theorem out9_of (t : Fin cfg0.N) (h0 : ¬t.val % 4 = 0) (h1 : t.val % 4 = 3) (sp : FVec F S128x512 .f32) (ep : FVec F S24x512 .f32)
    (S0 S1 S2 : FVec F S1x24x1024 .f32)
    (p1 : (prevFrom0 m c dS0 dS1 dS2 t.val (Nat.le_of_lt t.isLt)).2.2.2.2.1 = sp)
    (p2 : (prevFrom0 m c dS0 dS1 dS2 t.val (Nat.le_of_lt t.isLt)).2.2.2.2.2 = ep)
    (q0 : ∀ inb, View.readAt (Elt F) (View.whole cc0_scratch0) (Rect.unit (s := S4x24x1024) ![0, 0, 0] ![1, 24, 1024] inb).toLoadRect
      ((Memref.isWhole_whole cc0_scratch0).unread (prevFrom0 m c dS0 dS1 dS2 t.val (Nat.le_of_lt t.isLt)).2.2.2.1) = S0)
    (q1 : ∀ inb, View.readAt (Elt F) (View.whole cc0_scratch0) (Rect.unit (s := S4x24x1024) ![1, 0, 0] ![1, 24, 1024] inb).toLoadRect
      ((Memref.isWhole_whole cc0_scratch0).unread (prevFrom0 m c dS0 dS1 dS2 t.val (Nat.le_of_lt t.isLt)).2.2.2.1) = S1)
    (q2 : ∀ inb, View.readAt (Elt F) (View.whole cc0_scratch0) (Rect.unit (s := S4x24x1024) ![2, 0, 0] ![1, 24, 1024] inb).toLoadRect
      ((Memref.isWhole_whole cc0_scratch0).unread (prevFrom0 m c dS0 dS1 dS2 t.val (Nat.le_of_lt t.isLt)).2.2.2.1) = S2)
    (k : Fin 4) (r : Fin 1) (l : Fin 1024) :
    (outsAtFrom0 m c dS0 dS1 dS2 t.val t.isLt).2.2.1 (ix2 r ⟨1024 * k.val + l.val, by omega⟩)
      = feB S0 S1 S2 (padj (iblk m c 0 t) (iblk m c 1 t) (iblk m c 2 t) (iblk m c 3 t) (iblk m c 4 t) sp ep) k (ix2 r l) := by
  rw [outsAtFrom0_C m c dS0 dS1 dS2 t h0 h1]
  unfold out0_C_9 kernelRun0_C
  dsimp only
  refine (four_blocks _ _ _ _ _ _ _ _ _ _ k r l).trans ?_
  simp only [kernelRun0_C.sl.r, kernelRun0_C.sl.r_1, kernelRun0_C.sl.r_2, kernelRun0_C.sl.r_3, kernelRun0_C.sl.r_4, kernelRun0_C.sl.r_5, kernelRun0_C.sl.r_6, kernelRun0_C.sl.r_7, kernelRun0_C.sl.r_8, kernelRun0_C.sl.r_9, kernelRun0_C.sl.r_10, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_23, kernelRun0_C.sl.r_24, kernelRun0_C.sl.r_25, kernelRun0_C.sl.r_26, kernelRun0_C.sl.r_27, kernelRun0_C.sl.r_28, kernelRun0_C.sl.HS0_1, kernelRun0_C.sl.v335, rdF, rdU, rdP, rdE, rdP', rdE', q0, q1, q2, p1, p2, fun v P inb inb' => readCov_slice (F := F) v (hoff0_k0_off1_C t ⟨h0, h1⟩) P inb inb']
  rfl

/-- The last point leaves the smoothed probabilities, -/
theorem out7 (k : Fin 4) (r : Fin 24) (l : Fin 1024) :
    (outsAtFrom0 m c dS0 dS1 dS2 (pt hN 3 (by omega)).val (pt hN 3 (by omega)).isLt).1 (ix2 r ⟨1024 * k.val + l.val, by omega⟩)
      = smB (slc m c (pt hN 0 (by omega)) (pt hN 0 (by omega))) (slc m c (pt hN 0 (by omega)) (pt hN 1 (by omega))) (slc m c (pt hN 0 (by omega)) (pt hN 2 (by omega))) (slc m c (pt hN 0 (by omega)) (pt hN 3 (by omega))) k (ix2 r l) := by
  obtain ⟨p1, p2, p0⟩ := prev3 m c dS0 dS1 dS2 hN (by omega)
  exact out7_of m c dS0 dS1 dS2 (pt hN 3 (by omega)) (by simp) (by simp) _ _ _ _ _ p1 p2
    (fun inb => slice_load _ 0 (by omega) inb _ fun r l => p0 0 (by decide) r l)
    (fun inb => slice_load _ 1 (by omega) inb _ fun r l => p0 1 (by decide) r l)
    (fun inb => slice_load _ 2 (by omega) inb _ fun r l => p0 2 (by decide) r l) k r l

/-- the most likely types -/
theorem out8 (k : Fin 4) (r : Fin 1) (l : Fin 1024) :
    (outsAtFrom0 m c dS0 dS1 dS2 (pt hN 3 (by omega)).val (pt hN 3 (by omega)).isLt).2.1 (ix2 r ⟨1024 * k.val + l.val, by omega⟩)
      = tyB (slc m c (pt hN 0 (by omega)) (pt hN 0 (by omega))) (slc m c (pt hN 0 (by omega)) (pt hN 1 (by omega))) (slc m c (pt hN 0 (by omega)) (pt hN 2 (by omega))) (slc m c (pt hN 0 (by omega)) (pt hN 3 (by omega))) k (ix2 r l) := by
  obtain ⟨p1, p2, p0⟩ := prev3 m c dS0 dS1 dS2 hN (by omega)
  exact out8_of m c dS0 dS1 dS2 (pt hN 3 (by omega)) (by simp) (by simp) _ _ _ _ _ p1 p2
    (fun inb => slice_load _ 0 (by omega) inb _ fun r l => p0 0 (by decide) r l)
    (fun inb => slice_load _ 1 (by omega) inb _ fun r l => p0 1 (by decide) r l)
    (fun inb => slice_load _ 2 (by omega) inb _ fun r l => p0 2 (by decide) r l) k r l

/-- and the error marks. -/
theorem out9 (k : Fin 4) (r : Fin 1) (l : Fin 1024) :
    (outsAtFrom0 m c dS0 dS1 dS2 (pt hN 3 (by omega)).val (pt hN 3 (by omega)).isLt).2.2.1 (ix2 r ⟨1024 * k.val + l.val, by omega⟩)
      = feB (slc m c (pt hN 0 (by omega)) (pt hN 0 (by omega))) (slc m c (pt hN 0 (by omega)) (pt hN 1 (by omega))) (slc m c (pt hN 0 (by omega)) (pt hN 2 (by omega))) (slc m c (pt hN 0 (by omega)) (pt hN 3 (by omega))) k (ix2 r l) := by
  obtain ⟨p1, p2, p0⟩ := prev3 m c dS0 dS1 dS2 hN (by omega)
  exact out9_of m c dS0 dS1 dS2 (pt hN 3 (by omega)) (by simp) (by simp) _ _ _ _ _ p1 p2
    (fun inb => slice_load _ 0 (by omega) inb _ fun r l => p0 0 (by decide) r l)
    (fun inb => slice_load _ 1 (by omega) inb _ fun r l => p0 1 (by decide) r l)
    (fun inb => slice_load _ 2 (by omega) inb _ fun r l => p0 2 (by decide) r l) k r l

/-- A column of the outputs is a column of one of the four blocks. -/
theorem col_split {R : ℕ} (j : (⟨2, ![R, 4096]⟩ : Shape).Idx) :
    ∃ (r : Fin R) (k : Fin 4) (l : Fin 1024), j = ix2 r ⟨1024 * k.val + l.val, by omega⟩ := by
  have h : (j 1).val < 4096 := (j 1).isLt
  refine ⟨j 0, ⟨(j 1).val / 1024, by omega⟩, ⟨(j 1).val % 1024, by omega⟩, ?_⟩
  refine (eq_ix2 j).trans ?_
  congr 1
  exact Fin.ext (Nat.div_add_mod _ _).symm

theorem pt_last (t : Fin cfg0.N) (h1 : t.val % 4 = 3) : t = pt hN 3 (by decide) := Fin.ext (by have := t.isLt; show t.val = 3; omega)

/-- Output 7 of the last point does not depend on what the scratch held before the first. -/
theorem outs_indep0_7_C (t : Fin cfg0.N) (h0 : ¬t.val % 4 = 0) (h1 : t.val % 4 = 3) :
    (outsAtFrom0 m c dS0 dS1 dS2 t.val t.isLt).1 = (outsAt0 m c t.val t.isLt).1 := by
  obtain rfl := pt_last N_0 t h1
  unfold outsAt0
  funext j
  obtain ⟨r, k, l, rfl⟩ := col_split j
  rw [out7 m c dS0 dS1 dS2 N_0, out7 m c _ _ _ N_0]

/-- Output 8 of the last point does not depend on what the scratch held before the first. -/
theorem outs_indep0_8_C (t : Fin cfg0.N) (h0 : ¬t.val % 4 = 0) (h1 : t.val % 4 = 3) :
    (outsAtFrom0 m c dS0 dS1 dS2 t.val t.isLt).2.1 = (outsAt0 m c t.val t.isLt).2.1 := by
  obtain rfl := pt_last N_0 t h1
  unfold outsAt0
  funext j
  obtain ⟨r, k, l, rfl⟩ := col_split j
  rw [out8 m c dS0 dS1 dS2 N_0, out8 m c _ _ _ N_0]

/-- Output 9 of the last point does not depend on what the scratch held before the first. -/
theorem outs_indep0_9_C (t : Fin cfg0.N) (h0 : ¬t.val % 4 = 0) (h1 : t.val % 4 = 3) :
    (outsAtFrom0 m c dS0 dS1 dS2 t.val t.isLt).2.2.1 = (outsAt0 m c t.val t.isLt).2.2.1 := by
  obtain rfl := pt_last N_0 t h1
  unfold outsAt0
  funext j
  obtain ⟨r, k, l, rfl⟩ := col_split j
  rw [out9 m c dS0 dS1 dS2 N_0, out9 m c _ _ _ N_0]

end Cert.Proof.Ker

end
-- ==== Proof.KerFrame.lean ====
/- The launch, from what its grid points leave: every run terminates, and what each array of the pipeline ends with. -/
module

public import proofs.«01_k».proof.Proof.KerFin

@[expose] public section

set_option maxRecDepth 16384

noncomputable section

namespace Cert.Proof.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The region invariant before position `n`, from the carried scratch at `dS·` before the first point: each carried
    scratch at what point `n` finds (`prevFrom0`), the others at anything, and the generator register at some state. -/
def PhiSAt (c : Dev nD) (dS0 : Vec F S4x24x1024 .f32) (dS1 : Vec F S128x512 .f32) (dS2 : Vec F S24x512 .f32) (n : ℕ) (h : n ≤ cfg0.N) : sProp 𝕄 :=
  iprop(iprop(owns (c : Thread nD τ) scM0_0 fullShare ((prevFrom0 m c dS0 dS1 dS2 n h).2.2.2.1) ∗ owns (c : Thread nD τ) scM0_1 fullShare ((prevFrom0 m c dS0 dS1 dS2 n h).2.2.2.2.1) ∗ owns (c : Thread nD τ) scM0_2 fullShare ((prevFrom0 m c dS0 dS1 dS2 n h).2.2.2.2.2)) ∗ (∃ r, prngReg c r))

/-- The region invariant: `PhiSAt` at SOME contents of the carried scratch before the first point (what the launch
    hands the region names none). -/
def PhiS (c : Dev nD) (n : ℕ) (h : n ≤ cfg0.N) : sProp 𝕄 :=
  iprop(∃ dS0 dS1 dS2, PhiSAt m c dS0 dS1 dS2 n h)

/-! ## The pipeline's proof data -/

/-- The proof data of the one pipeline on core `c`: the arrays as the region finds them (`V`); after the body at
    point `t` each input's buffer at its block and the outputs' at `outsAt0`; the invariant the class's
    (`PhiS`: at some contents of the carried scratch before the first point, the scoped rest with the carried scratch at what
    each point finds, `prevFrom0`); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 2000000 in
/-- The body at any point: the inputs' memrefs hold their blocks (`before0_W`); the closed forms say which case the point is in (`by_cases`), an output the case reads before covering holds what the point before left (`before0_W_κ`); so the
    run applies; the invariant (`PhiS`) binds what the carried scratch held before the first point and hands the body the carried scratch at what the point finds (`prevFrom0`), the other scratch buffers and the generator register at some state, and takes the carried scratch back at this point's contents over the same first contents; an output the point stores is the proof data's closed term by `outs_indep0_W_κ`; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.succ = PhiS m c (t.val + 1) t.isLt from rfl, PhiS_castSucc m c t]
  unfold PhiS PhiSAt
  have hN : t.val < 4 := lt_of_lt_of_eq t.isLt (show cfg0.N = 4 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      iintro ⟨⟨%dS0, %dS1, %dS2, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have eS0 : (prevFrom0 m c dS0 dS1 dS2 (t.val + 1) t.isLt).2.2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.1 := by
        show (outsAtFrom0 m c dS0 dS1 dS2 t.val t.isLt).2.2.2.1 = _
        rw [outsAtFrom0_A m c dS0 dS1 dS2 t h0 h1]
      have eS1 : (prevFrom0 m c dS0 dS1 dS2 (t.val + 1) t.isLt).2.2.2.2.1 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
        show (outsAtFrom0 m c dS0 dS1 dS2 t.val t.isLt).2.2.2.2.1 = _
        rw [outsAtFrom0_A m c dS0 dS1 dS2 t h0 h1]
      have eS2 : (prevFrom0 m c dS0 dS1 dS2 (t.val + 1) t.isLt).2.2.2.2.2 = sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) := by
        show (outsAtFrom0 m c dS0 dS1 dS2 t.val t.isLt).2.2.2.2.2 = _
        rw [outsAtFrom0_A m c dS0 dS1 dS2 t h0 h1]
      iapply ((kernelRun0_A c (grid0.coords t) _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t)).2.2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexists _; iexact HS1
      isplitl [HS2]; · iexists _; iexact HS2
      iintro ⟨H0, H1, H2, H3, H4, H5, H6, H7, H8, H9, HS0, ⟨%es1, HS1⟩, ⟨%es2, HS2⟩⟩
      isplitl [HS0 HS1 HS2 Hg]
      · iexists dS0, dS1, dS2
        rw [eS0, eS1, eS2]
        unfold sout0_A_0 sout0_A_1 sout0_A_2
        isplitl [HS0 HS1 HS2]
        · isplitl [HS0]
          · unfold owns; iexists _; isplitr
            swap; · iexact HS0
            ipureintro; rfl
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9
  · by_cases h1 : t.val % 4 = 3
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      iintro ⟨⟨%dS0, %dS1, %dS2, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have eS0 : (prevFrom0 m c dS0 dS1 dS2 (t.val + 1) t.isLt).2.2.2.1 = sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)) (prevFrom0 m c dS0 dS1 dS2 t.val (Nat.le_of_lt t.isLt)).2.2.2.1 := by
        show (outsAtFrom0 m c dS0 dS1 dS2 t.val t.isLt).2.2.2.1 = _
        rw [outsAtFrom0_C m c dS0 dS1 dS2 t h0 h1]
      have eS1 : (prevFrom0 m c dS0 dS1 dS2 (t.val + 1) t.isLt).2.2.2.2.1 = sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)) := by
        show (outsAtFrom0 m c dS0 dS1 dS2 t.val t.isLt).2.2.2.2.1 = _
        rw [outsAtFrom0_C m c dS0 dS1 dS2 t h0 h1]
      have eS2 : (prevFrom0 m c dS0 dS1 dS2 (t.val + 1) t.isLt).2.2.2.2.2 = sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)) := by
        show (outsAtFrom0 m c dS0 dS1 dS2 t.val t.isLt).2.2.2.2.2 = _
        rw [outsAtFrom0_C m c dS0 dS1 dS2 t h0 h1]
      have eO7 : (outsAt0 m c t.val t.isLt).1 = out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)) := by
        rw [← outs_indep0_7_C m c dS0 dS1 dS2 t h0 h1, outsAtFrom0_C m c dS0 dS1 dS2 t h0 h1]
      have eO8 : (outsAt0 m c t.val t.isLt).2.1 = out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)) := by
        rw [← outs_indep0_8_C m c dS0 dS1 dS2 t h0 h1, outsAtFrom0_C m c dS0 dS1 dS2 t h0 h1]
      have eO9 : (outsAt0 m c t.val t.isLt).2.2.1 = out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (View.readAt (Elt F) scM0_0.view (Rect.unit (s := S4x24x1024) ![0, 0, 0] S1x24x1024.size inb_S4x24x1024_S1x24x1024_0_0_0).toLoadRect ((Memref.isWhole_whole _).unread (prevFrom0 m c dS0 dS1 dS2 t.val (Nat.le_of_lt t.isLt)).2.2.2.1)) (View.readAt (Elt F) scM0_0.view (Rect.unit (s := S4x24x1024) ![1, 0, 0] S1x24x1024.size inb_S4x24x1024_S1x24x1024_1_0_0).toLoadRect ((Memref.isWhole_whole _).unread (prevFrom0 m c dS0 dS1 dS2 t.val (Nat.le_of_lt t.isLt)).2.2.2.1)) (View.readAt (Elt F) scM0_0.view (Rect.unit (s := S4x24x1024) ![2, 0, 0] S1x24x1024.size inb_S4x24x1024_S1x24x1024_2_0_0).toLoadRect ((Memref.isWhole_whole _).unread (prevFrom0 m c dS0 dS1 dS2 t.val (Nat.le_of_lt t.isLt)).2.2.2.1)) := by
        rw [← outs_indep0_9_C m c dS0 dS1 dS2 t h0 h1, outsAtFrom0_C m c dS0 dS1 dS2 t h0 h1]
      rw [eO7, eO8, eO9]
      unfold out0_C_7 out0_C_8 out0_C_9
      iapply ((kernelRun0_C c (grid0.coords t) _ _ _ _ _ _ _ _ _ _ _ _ _ _ _ _ _ _ _ _ _ _ _ _ _ _ (fun h => h0 ((hcond0_0 t).mp h)) ((hcond0_1 t).mpr h1) (hoff0_k0_off1_C t ⟨h0, h1⟩) (iblk m c 0 t) (iblk m c 1 t) (iblk m c 2 t) (iblk m c 3 t) (iblk m c 4 t) (iblk m c 5 t) (iblk m c 6 t) _ _ _ _ _).2.2.2.2.2.2 _ rfl rfl rfl Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      isplitl [HS2]; · iexact HS2
      iintro ⟨H0, H1, H2, H3, H4, H5, H6, ⟨%e7, H7⟩, ⟨%e8, H8⟩, ⟨%e9, H9⟩, HS0, HS1, HS2⟩
      isplitl [HS0 HS1 HS2 Hg]
      · iexists dS0, dS1, dS2
        rw [eS0, eS1, eS2]
        unfold sout0_C_0 sout0_C_1 sout0_C_2
        isplitl [HS0 HS1 HS2]
        · isplitl [HS0]
          · unfold owns; iexists _; isplitr
            swap; · iexact HS0
            ipureintro; rfl
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_C_8 c _ _ _ _ _ _ _ _ _ _ _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_C_9 c _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      iintro ⟨⟨%dS0, %dS1, %dS2, ⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      have eS0 : (prevFrom0 m c dS0 dS1 dS2 (t.val + 1) t.isLt).2.2.2.1 = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 (prevFrom0 m c dS0 dS1 dS2 t.val (Nat.le_of_lt t.isLt)).2.2.2.1 := by
        show (outsAtFrom0 m c dS0 dS1 dS2 t.val t.isLt).2.2.2.1 = _
        rw [outsAtFrom0_B m c dS0 dS1 dS2 t h0 h1]
      have eS1 : (prevFrom0 m c dS0 dS1 dS2 (t.val + 1) t.isLt).2.2.2.2.1 = sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 := by
        show (outsAtFrom0 m c dS0 dS1 dS2 t.val t.isLt).2.2.2.2.1 = _
        rw [outsAtFrom0_B m c dS0 dS1 dS2 t h0 h1]
      have eS2 : (prevFrom0 m c dS0 dS1 dS2 (t.val + 1) t.isLt).2.2.2.2.2 = sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (prevFrom0 m c dS0 dS1 dS2 t.val (Nat.le_of_lt t.isLt)).2.2.2.2.1 (prevFrom0 m c dS0 dS1 dS2 t.val (Nat.le_of_lt t.isLt)).2.2.2.2.2 := by
        show (outsAtFrom0 m c dS0 dS1 dS2 t.val t.isLt).2.2.2.2.2 = _
        rw [outsAtFrom0_B m c dS0 dS1 dS2 t h0 h1]
      iapply ((kernelRun0_B c (grid0.coords t) _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _).2.2.2.2.2.2 _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · iexists dS0, dS1, dS2
        rw [eS0, eS1, eS2]
        unfold sout0_B_0 sout0_B_1 sout0_B_2
        isplitl [HS0 HS1 HS2]
        · isplitl [HS0]
          · unfold owns; iexists _; isplitr
            swap; · iexact HS0
            ipureintro; rfl
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iexists _; iexact H9

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point, at whatever the carried scratch holds. -/
theorem hin (c : Dev nD) : Pipeline.ΦA spec0 c ⊢ (dats m 0 c).Φ 0 := by
  rw [show (dats m 0 c).Φ 0 = PhiS m c 0 (Nat.zero_le _) from rfl, PhiA0_eq]
  unfold PhiS PhiSAt
  iintro ⟨⟨⟨%dS0, HS0⟩, ⟨%dS1, HS1⟩, ⟨%dS2, HS2⟩⟩, Hg⟩
  iexists dS0, dS1, dS2
  isplitl [HS0 HS1 HS2]
  · isplitl [HS0]; · iexact HS0
    isplitl [HS1]; · iexact HS1
    iexact HS2
  iexact Hg

/-- After the last point the invariant gives `ΦA` back: what the carried scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS PhiSAt
  iintro ⟨%dS0, %dS1, %dS2, ⟨HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- Every run terminates with the argument arrays unchanged and no counter held. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.Ker

end
-- ==== Proof.BitFrame.lean ====
/- The frame of the kernel over words. Over words the kernel with the named constant and the kernel with the constant's bits are
   one program, once the name is read as its own bits; so the frame proved for the first, over any values, is the second's. -/
module

public import proofs.«01_k».proof.Defs
public import proofs.«01_k».proof.Proof.Gen.Kernel
public import proofs.«01_k».proof.Proof.KerFrame

@[expose] public section

noncomputable section

namespace Cert.Proof.Bit

open Idealize.ShloMosaic Idealize.ShloMosaic.TcCoe Idealize.SL.Sem

/-- Over words a named constant is its own bits. -/
local instance named : Named Bits := ⟨fun _ _ {φ} b => Scalar.ofBits φ b⟩

set_option maxHeartbeats 2000000 in
/-- The two tables of bodies are one table over words. -/
theorem bodies_eq : Cert.Kernel.defs₀ (F := Bits) = Cert.KernelIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

set_option maxHeartbeats 2000000 in
/-- The two tables with the launch's own labels are one table over words. -/
theorem defs_eq : Cert.Kernel.defs (F := Bits) = Cert.KernelIdeal.defs (F := Bits) :=
  congrArg (Pipeline.defs (Cert.KernelIdeal.pcfgs (F := Bits))) bodies_eq

set_option maxHeartbeats 2000000 in
/-- The two main functions are one program over words. -/
theorem main_eq : Cert.Kernel.main (F := Bits) = Cert.KernelIdeal.main (F := Bits) := rfl

set_option maxHeartbeats 2000000 in
/-- Every run of the kernel over words terminates with the argument arrays unchanged and no counter held. -/
theorem frame : Cert.quiescent_Kernel (hKernel := Cert.Kernel.Gen.facts) := by
  intro m g _
  rw [defs_eq, main_eq]
  exact Ker.frame (F := Bits) m g

end Cert.Proof.Bit

end
-- ==== Proof.RefRun.lean ====
/- The reference's run: `main` is one list of 290 host operations, cut here into windows, and every buffer a later window
   reads is named by the term the operations before it compose. The called functions' operations stand in their call's place. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The concatenation that writes `main_call11_v6`. -/
def fn_main_call11_v6 (u0 : (⟨S0x4096, .f32⟩ : BufTy).Contents (Elt F)) (u1 : (⟨S24x4096, .f32⟩ : BufTy).Contents (Elt F)) (u2 : (⟨S0x4096, .f32⟩ : BufTy).Contents (Elt F)) : (⟨S24x4096, .f32⟩ : BufTy).Contents (Elt F) :=
  (concatenate S24x4096 0 [⟨S0x4096, u0⟩, ⟨S24x4096, u1⟩, ⟨S0x4096, u2⟩] concatenates_S0x4096_S24x4096_S0x4096_S24x4096_d0 : (⟨S24x4096, .f32⟩ : BufTy).Contents (Elt F))

/-- The concatenation that writes `main_v164`. -/
def fn_main_v164 (u0 : (⟨S24x2, .f32⟩ : BufTy).Contents (Elt F)) (u1 : (⟨S24x4096, .f32⟩ : BufTy).Contents (Elt F)) (u2 : (⟨S24x2, .f32⟩ : BufTy).Contents (Elt F)) : (⟨S24x4100, .f32⟩ : BufTy).Contents (Elt F) :=
  (concatenate S24x4100 1 [⟨S24x2, u0⟩, ⟨S24x4096, u1⟩, ⟨S24x2, u2⟩] concatenates_S24x2_S24x4096_S24x2_S24x4100_d1 : (⟨S24x4100, .f32⟩ : BufTy).Contents (Elt F))

/-- The concatenation that writes `main_v175`. -/
def fn_main_v175 (u0 : (⟨S1x24x4096, .f32⟩ : BufTy).Contents (Elt F)) (u1 : (⟨S1x24x4096, .f32⟩ : BufTy).Contents (Elt F)) (u2 : (⟨S1x24x4096, .f32⟩ : BufTy).Contents (Elt F)) (u3 : (⟨S1x24x4096, .f32⟩ : BufTy).Contents (Elt F)) (u4 : (⟨S1x24x4096, .f32⟩ : BufTy).Contents (Elt F)) : (⟨S5x24x4096, .f32⟩ : BufTy).Contents (Elt F) :=
  (concatenate S5x24x4096 0 [⟨S1x24x4096, u0⟩, ⟨S1x24x4096, u1⟩, ⟨S1x24x4096, u2⟩, ⟨S1x24x4096, u3⟩, ⟨S1x24x4096, u4⟩] concatenates_S1x24x4096_S1x24x4096_S1x24x4096_S1x24x4096_S1x24x4096_S5x24x4096_d0 : (⟨S5x24x4096, .f32⟩ : BufTy).Contents (Elt F))

/-- The concatenation that writes `main_v92`. -/
def fn_main_v92 (u0 : (⟨S4096x5x1, .i32⟩ : BufTy).Contents (Elt F)) (u1 : (⟨S4096x5x1, .i32⟩ : BufTy).Contents (Elt F)) : (⟨S4096x5x2, .i32⟩ : BufTy).Contents (Elt F) :=
  concatenate S4096x5x2 2 [⟨S4096x5x1, u0⟩, ⟨S4096x5x1, u1⟩] concatenates_S4096x5x1_S4096x5x1_S4096x5x2_d2

/-- `main_v4`: the step prototypes, normalised. -/
def val_v4 (V : Valuation τ sig (Elt F)) : (⟨S128x512, .f32⟩ : BufTy).Contents (Elt F) :=
  Host.divf (V (Proc.devRef .tc main_arg5)) (broadcastInDim S128x512 ![0, 1] bcast_S128x1_S128x512_0_1 (maximumf (Host.sqrt (broadcastInDim S128x1 ![0] bcast_S128_S128x1_0 (Host.reduceAdd (mulf (V (Proc.devRef .tc main_arg5)) (V (Proc.devRef .tc main_arg5))) (constant S_ .f32 0x00000000#32) reducesTo_S128x512_S128_d1 h_S_))) (broadcastInDim S128x1 ![] bcast_S_S128x1 (constant S_ .f32 0x322BCC77#32))))

/-- `main_v9`: the error prototypes, normalised. -/
def val_v9 (V : Valuation τ sig (Elt F)) : (⟨S24x512, .f32⟩ : BufTy).Contents (Elt F) :=
  Host.divf (V (Proc.devRef .tc main_arg6)) (broadcastInDim S24x512 ![0, 1] bcast_S24x1_S24x512_0_1 (maximumf (Host.sqrt (broadcastInDim S24x1 ![0] bcast_S24_S24x1_0 (Host.reduceAdd (mulf (V (Proc.devRef .tc main_arg6)) (V (Proc.devRef .tc main_arg6))) (constant S_ .f32 0x00000000#32) reducesTo_S24x512_S24_d1 h_S_))) (broadcastInDim S24x1 ![] bcast_S_S24x1 (constant S_ .f32 0x322BCC77#32))))

/-- `main_v14`: the frame features, normalised. -/
def val_v14 (V : Valuation τ sig (Elt F)) : (⟨S4096x512, .f32⟩ : BufTy).Contents (Elt F) :=
  Host.divf (V (Proc.devRef .tc main_arg0)) (broadcastInDim S4096x512 ![0, 1] bcast_S4096x1_S4096x512_0_1 (maximumf (Host.sqrt (broadcastInDim S4096x1 ![0] bcast_S4096_S4096x1_0 (Host.reduceAdd (mulf (V (Proc.devRef .tc main_arg0)) (V (Proc.devRef .tc main_arg0))) (constant S_ .f32 0x00000000#32) reducesTo_S4096x512_S4096_d1 h_S_))) (broadcastInDim S4096x1 ![] bcast_S_S4096x1 (constant S_ .f32 0x322BCC77#32))))

/-- `main_v19`: the visual features, normalised. -/
def val_v19 (V : Valuation τ sig (Elt F)) : (⟨S4096x512, .f32⟩ : BufTy).Contents (Elt F) :=
  Host.divf (V (Proc.devRef .tc main_arg1)) (broadcastInDim S4096x512 ![0, 1] bcast_S4096x1_S4096x512_0_1 (maximumf (Host.sqrt (broadcastInDim S4096x1 ![0] bcast_S4096_S4096x1_0 (Host.reduceAdd (mulf (V (Proc.devRef .tc main_arg1)) (V (Proc.devRef .tc main_arg1))) (constant S_ .f32 0x00000000#32) reducesTo_S4096x512_S4096_d1 h_S_))) (broadcastInDim S4096x1 ![] bcast_S_S4096x1 (constant S_ .f32 0x322BCC77#32))))

/-- `main_v24`: the semantic features, normalised. -/
def val_v24 (V : Valuation τ sig (Elt F)) : (⟨S4096x512, .f32⟩ : BufTy).Contents (Elt F) :=
  Host.divf (V (Proc.devRef .tc main_arg2)) (broadcastInDim S4096x512 ![0, 1] bcast_S4096x1_S4096x512_0_1 (maximumf (Host.sqrt (broadcastInDim S4096x1 ![0] bcast_S4096_S4096x1_0 (Host.reduceAdd (mulf (V (Proc.devRef .tc main_arg2)) (V (Proc.devRef .tc main_arg2))) (constant S_ .f32 0x00000000#32) reducesTo_S4096x512_S4096_d1 h_S_))) (broadcastInDim S4096x1 ![] bcast_S_S4096x1 (constant S_ .f32 0x322BCC77#32))))

/-- `main_v29`: the semantic observations, normalised. -/
def val_v29 (V : Valuation τ sig (Elt F)) : (⟨S4096x512, .f32⟩ : BufTy).Contents (Elt F) :=
  Host.divf (V (Proc.devRef .tc main_arg3)) (broadcastInDim S4096x512 ![0, 1] bcast_S4096x1_S4096x512_0_1 (maximumf (Host.sqrt (broadcastInDim S4096x1 ![0] bcast_S4096_S4096x1_0 (Host.reduceAdd (mulf (V (Proc.devRef .tc main_arg3)) (V (Proc.devRef .tc main_arg3))) (constant S_ .f32 0x00000000#32) reducesTo_S4096x512_S4096_d1 h_S_))) (broadcastInDim S4096x1 ![] bcast_S_S4096x1 (constant S_ .f32 0x322BCC77#32))))

/-- `main_v37`: the semantic confidence of each frame. -/
def val_v37 (V : Valuation τ sig (Elt F)) : (⟨S4096, .f32⟩ : BufTy).Contents (Elt F) :=
  minimumf (broadcastInDim S4096 ![] bcast_S_S4096 (constant S_ .f32 0x3F800000#32)) (maximumf (broadcastInDim S4096 ![] bcast_S_S4096 (constant S_ .f32 0x3E800000#32)) (Host.exp (Host.negf (Host.divf (Host.sqrt (Host.reduceAdd (mulf (V (Proc.devRef .tc main_arg4)) (V (Proc.devRef .tc main_arg4))) (constant S_ .f32 0x00000000#32) reducesTo_S4096x64_S4096_d1 h_S_)) (broadcastInDim S4096 ![] bcast_S_S4096 (maximumf (constant S_ .f32 0x41000000#32) (constant S_ .f32 0x3F800000#32)))))))

/-- `main_v40`: a value a later window reads. -/
def val_v40 (V : Valuation τ sig (Elt F)) : (⟨S4096x512, .f32⟩ : BufTy).Contents (Elt F) :=
  addf (val_v14 V) (mulf (broadcastInDim S4096x512 ![] bcast_S_S4096x512 (constant S_ .f32 0x3F000000#32)) (val_v19 V))

/-- `main_v41`: a value a later window reads. -/
def val_v41 (V : Valuation τ sig (Elt F)) : (⟨S4096x1, .f32⟩ : BufTy).Contents (Elt F) :=
  broadcastInDim S4096x1 ![0] bcast_S4096_S4096x1_0 (val_v37 V)

/-- `main_v46`: a value a later window reads. -/
def val_v46 (V : Valuation τ sig (Elt F)) : (⟨S4096x512, .f32⟩ : BufTy).Contents (Elt F) :=
  addf (mulf (broadcastInDim S4096x512 ![] bcast_S_S4096x512 (constant S_ .f32 0x3F333333#32)) (val_v24 V)) (mulf (broadcastInDim S4096x512 ![] bcast_S_S4096x512 (constant S_ .f32 0x3E99999A#32)) (val_v29 V))

/-- `main_v49`: the mixed query before its normalisation. -/
def val_v49 (V : Valuation τ sig (Elt F)) : (⟨S4096x512, .f32⟩ : BufTy).Contents (Elt F) :=
  addf (val_v40 V) (mulf (broadcastInDim S4096x512 ![0, 1] bcast_S4096x1_S4096x512_0_1 (val_v41 V)) (val_v46 V))

/-- `main_v54`: the query. -/
def val_v54 (V : Valuation τ sig (Elt F)) : (⟨S4096x512, .f32⟩ : BufTy).Contents (Elt F) :=
  Host.divf (val_v49 V) (broadcastInDim S4096x512 ![0, 1] bcast_S4096x1_S4096x512_0_1 (maximumf (Host.sqrt (broadcastInDim S4096x1 ![0] bcast_S4096_S4096x1_0 (Host.reduceAdd (mulf (val_v49 V) (val_v49 V)) (constant S_ .f32 0x00000000#32) reducesTo_S4096x512_S4096_d1 h_S_))) (broadcastInDim S4096x1 ![] bcast_S_S4096x1 (constant S_ .f32 0x322BCC77#32))))

/-- `main_v56`: the similarities to the step prototypes. -/
def val_v56 (V : Valuation τ sig (Elt F)) : (⟨S4096x128, .f32⟩ : BufTy).Contents (Elt F) :=
  Host.dotGeneral dot_S4096x512_S512x128_S4096x128_1_0_0_1_n_n none (val_v54 V) (transpose S512x128 [1, 0] (val_v4 V) transposes_S128x512_S512x128_1_0)

/-- `main_v58`: the scaled similarities. -/
def val_v58 (V : Valuation τ sig (Elt F)) : (⟨S4096x128, .f32⟩ : BufTy).Contents (Elt F) :=
  mulf (broadcastInDim S4096x128 ![] bcast_S_S4096x128 (constant S_ .f32 0x41A00000#32)) (val_v56 V)

/-- `main_v65`: their exponentials, shifted by the maximum. -/
def val_v65 (V : Valuation τ sig (Elt F)) : (⟨S4096x128, .f32⟩ : BufTy).Contents (Elt F) :=
  Host.exp (subf (val_v58 V) (broadcastInDim S4096x128 ![0, 1] bcast_S4096x1_S4096x128_0_1 (broadcastInDim S4096x1 ![0] bcast_S4096_S4096x1_0 (maximumf (broadcastInDim S4096 ![] bcast_S_S4096 (constant S_ .f32 0xFF800000#32)) (Host.reduce FloatOps.maximumf (val_v58 V) (constant S_ .f32 0xFF800000#32) reducesTo_S4096x128_S4096_d1 h_S_)))))

/-- `main_v69`: the attention. -/
def val_v69 (V : Valuation τ sig (Elt F)) : (⟨S4096x128, .f32⟩ : BufTy).Contents (Elt F) :=
  Host.divf (val_v65 V) (broadcastInDim S4096x128 ![0, 1] bcast_S4096x1_S4096x128_0_1 (broadcastInDim S4096x1 ![0] bcast_S4096_S4096x1_0 (Host.reduceAdd (val_v65 V) (constant S_ .f32 0x00000000#32) reducesTo_S4096x128_S4096_d1 h_S_)))

/-- `main_values`: the five largest attention weights. -/
def val_values (V : Valuation τ sig (Elt F)) : (⟨S4096x5, .f32⟩ : BufTy).Contents (Elt F) :=
  (Host.topK S4096x5 1 (FloatOps.cmpfTotal .gt) (val_v69 V) sliceFits_S4096x128_S4096x5).1

/-- `main_indices`: where they stand. -/
def val_indices (V : Valuation τ sig (Elt F)) : (⟨S4096x5, .i32⟩ : BufTy).Contents (Elt F) :=
  (Host.topK S4096x5 1 (FloatOps.cmpfTotal .gt) (val_v69 V) sliceFits_S4096x128_S4096x5).2

/-- `main_v70`: a value a later window reads. -/
def val_v70 (V : Valuation τ sig (Elt F)) : (⟨S4096x5, .f32⟩ : BufTy).Contents (Elt F) :=
  Host.reduceWindowAdd ![1, 5] ![1, 1] ![0, 4] ![0, 0] (val_values V) (broadcastInDim S_ ![] bcast_S_S_ (constant S_ .f32 0x00000000#32)) reduceWindows_S4096x5_S4096x5_w1s1p0_0_w5s1p4_0 h_S_

/-- `main_v75`: the kept weights. -/
def val_v75 (V : Valuation τ sig (Elt F)) : (⟨S4096x5, .f32⟩ : BufTy).Contents (Elt F) :=
  mulf (val_values V) (uitofp .f32 (cmpf .olt (subf (val_v70 V) (val_values V)) (broadcastInDim S4096x5 ![] bcast_S_S4096x5 (constant S_ .f32 0x3F59999A#32))))

/-- `main_v76`: a value a later window reads. -/
def val_v76 (V : Valuation τ sig (Elt F)) : (⟨S4096x128, .f32⟩ : BufTy).Contents (Elt F) :=
  broadcastInDim S4096x128 ![] bcast_S_S4096x128 (constant S_ .f32 0x00000000#32)

/-- `main_v83`: the row coordinate of the scatter. -/
def val_v83 (V : Valuation τ sig (Elt F)) : (⟨S4096x1, .i32⟩ : BufTy).Contents (Elt F) :=
  select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0))

/-- `main_v88`: the column coordinate of the scatter. -/
def val_v88 (V : Valuation τ sig (Elt F)) : (⟨S4096x5, .i32⟩ : BufTy).Contents (Elt F) :=
  select (cmpi .slt (val_indices V) (broadcastInDim S4096x5 ![] bcast_S_S4096x5 (constantI S_ 32 0#32))) (addi (val_indices V) (broadcastInDim S4096x5 ![] bcast_S_S4096x5 (constantI S_ 32 128#32))) (val_indices V)

/-- `main_v93`: the attention mask. -/
def val_v93 (V : Valuation τ sig (Elt F)) : (⟨S4096x128, .f32⟩ : BufTy).Contents (Elt F) :=
  Host.scatter scatter_S4096x128_S4096x5x2_S4096x5_n_01_01_2 (fun _ b => b) (val_v76 V) (fn_main_v92 (broadcastInDim S4096x5x1 ![0, 1] bcast_S4096x5_S4096x5x1_0_1 (broadcastInDim S4096x5 ![0, 1] bcast_S4096x1_S4096x5_0_1 (val_v83 V))) (broadcastInDim S4096x5x1 ![0, 1] bcast_S4096x5_S4096x5x1_0_1 (val_v88 V))) (val_v75 V)

/-- `main_v101`: the step score. -/
def val_v101 (V : Valuation τ sig (Elt F)) : (⟨S4096, .f32⟩ : BufTy).Contents (Elt F) :=
  Host.reduceAdd (mulf (Host.divf (val_v93 V) (broadcastInDim S4096x128 ![0, 1] bcast_S4096x1_S4096x128_0_1 (maximumf (broadcastInDim S4096x1 ![0] bcast_S4096_S4096x1_0 (Host.reduceAdd (val_v93 V) (constant S_ .f32 0x00000000#32) reducesTo_S4096x128_S4096_d1 h_S_)) (broadcastInDim S4096x1 ![] bcast_S_S4096x1 (constant S_ .f32 0x322BCC77#32))))) (val_v56 V)) (constant S_ .f32 0x00000000#32) reducesTo_S4096x128_S4096_d1 h_S_

/-- `main_v103`: a value a later window reads. -/
def val_v103 (V : Valuation τ sig (Elt F)) : (⟨S4096x24, .f32⟩ : BufTy).Contents (Elt F) :=
  Host.dotGeneral dot_S4096x512_S512x24_S4096x24_1_0_0_1_n_n none (val_v54 V) (transpose S512x24 [1, 0] (val_v9 V) transposes_S24x512_S512x24_1_0)

/-- `main_cst_25`: a value a later window reads. -/
def val_cst_25 (V : Valuation τ sig (Elt F)) : (⟨S_, .f32⟩ : BufTy).Contents (Elt F) :=
  constant S_ .f32 0x41A00000#32

/-- `main_v105`: the scaled type logits. -/
def val_v105 (V : Valuation τ sig (Elt F)) : (⟨S4096x24, .f32⟩ : BufTy).Contents (Elt F) :=
  mulf (broadcastInDim S4096x24 ![] bcast_S_S4096x24 (val_cst_25 V)) (val_v103 V)

/-- `main_v112`: their exponentials, shifted by the maximum. -/
def val_v112 (V : Valuation τ sig (Elt F)) : (⟨S4096x24, .f32⟩ : BufTy).Contents (Elt F) :=
  Host.exp (subf (val_v105 V) (broadcastInDim S4096x24 ![0, 1] bcast_S4096x1_S4096x24_0_1 (broadcastInDim S4096x1 ![0] bcast_S4096_S4096x1_0 (maximumf (broadcastInDim S4096 ![] bcast_S_S4096 (constant S_ .f32 0xFF800000#32)) (Host.reduce FloatOps.maximumf (val_v105 V) (constant S_ .f32 0xFF800000#32) reducesTo_S4096x24_S4096_d1 h_S_)))))

/-- `main_v116`: the type probabilities. -/
def val_v116 (V : Valuation τ sig (Elt F)) : (⟨S4096x24, .f32⟩ : BufTy).Contents (Elt F) :=
  Host.divf (val_v112 V) (broadcastInDim S4096x24 ![0, 1] bcast_S4096x1_S4096x24_0_1 (broadcastInDim S4096x1 ![0] bcast_S4096_S4096x1_0 (Host.reduceAdd (val_v112 V) (constant S_ .f32 0x00000000#32) reducesTo_S4096x24_S4096_d1 h_S_)))

/-- `main_v118`: the type probabilities clamped from below. -/
def val_v118 (V : Valuation τ sig (Elt F)) : (⟨S4096x24, .f32⟩ : BufTy).Contents (Elt F) :=
  maximumf (val_v116 V) (broadcastInDim S4096x24 ![] bcast_S_S4096x24 (constant S_ .f32 0x322BCC77#32))

/-- `main_v126`: the normalised entropy. -/
def val_v126 (V : Valuation τ sig (Elt F)) : (⟨S4096, .f32⟩ : BufTy).Contents (Elt F) :=
  Host.divf (Host.negf (Host.reduceAdd (mulf (val_v118 V) (Host.log (val_v118 V))) (constant S_ .f32 0x00000000#32) reducesTo_S4096x24_S4096_d1 h_S_)) (broadcastInDim S4096 ![] bcast_S_S4096 (Host.log (constant S_ .f32 0x41C00000#32)))

/-- `main_v127`: the largest attention weight. -/
def val_v127 (V : Valuation τ sig (Elt F)) : (⟨S4096, .f32⟩ : BufTy).Contents (Elt F) :=
  Host.reduce FloatOps.maximumf (val_v69 V) (constant S_ .f32 0xFF800000#32) reducesTo_S4096x128_S4096_d1 h_S_

/-- `main_v138`: the first three terms of the gate logit. -/
def val_v138 (V : Valuation τ sig (Elt F)) : (⟨S4096, .f32⟩ : BufTy).Contents (Elt F) :=
  addf (addf (broadcastInDim S4096 ![] bcast_S_S4096 (constant S_ .f32 0xBFC00000#32)) (mulf (broadcastInDim S4096 ![] bcast_S_S4096 (constant S_ .f32 0x40200000#32)) (shapeCast _ (extractStridedSlice S4096x1 ![0, 0] (val_v116 V) slices_S4096x24_S4096x1_0_0) shapeCasts_S4096x1_S4096))) (mulf (broadcastInDim S4096 ![] bcast_S_S4096 (constant S_ .f32 0x3F800000#32)) (subf (broadcastInDim S4096 ![] bcast_S_S4096 (constant S_ .f32 0x3F800000#32)) (val_v127 V)))

/-- `main_v147`: a value a later window reads. -/
def val_v147 (V : Valuation τ sig (Elt F)) : (⟨S4096, .f32⟩ : BufTy).Contents (Elt F) :=
  addf (addf (val_v138 V) (mulf (broadcastInDim S4096 ![] bcast_S_S4096 (constant S_ .f32 0x3F4CCCCD#32)) (val_v126 V))) (mulf (broadcastInDim S4096 ![] bcast_S_S4096 (constant S_ .f32 0x40000000#32)) (maximumf (subf (broadcastInDim S4096 ![] bcast_S_S4096 (constant S_ .f32 0x3EB33333#32)) (val_v101 V)) (broadcastInDim S4096 ![] bcast_S_S4096 (constant S_ .f32 0x00000000#32))))

/-- `main_v155`: the gate. -/
def val_v155 (V : Valuation τ sig (Elt F)) : (⟨S4096, .f32⟩ : BufTy).Contents (Elt F) :=
  Host.divf (broadcastInDim S4096 ![] bcast_S_S4096 (constant S_ .f32 0x3F800000#32)) (addf (broadcastInDim S4096 ![] bcast_S_S4096 (constant S_ .f32 0x3F800000#32)) (Host.exp (Host.negf (mulf (broadcastInDim S4096 ![] bcast_S_S4096 (constant S_ .f32 0x40000000#32)) (val_v147 V)))))

/-- `main_v163`: the adjusted scores, one row per class. -/
def val_v163 (V : Valuation τ sig (Elt F)) : (⟨S24x4096, .f32⟩ : BufTy).Contents (Elt F) :=
  transpose S24x4096 [1, 0] (Host.scatter scatter_S4096x24_S1_S4096_0_1_1_0 FloatOps.addf (mulf (val_v116 V) (broadcastInDim S4096x24 ![0, 1] bcast_S4096x1_S4096x24_0_1 (subf (broadcastInDim S4096x1 ![] bcast_S_S4096x1 (constant S_ .f32 0x3F800000#32)) (broadcastInDim S4096x1 ![0] bcast_S4096_S4096x1_0 (val_v155 V))))) (broadcastInDim S1 ![] bcast_S_S1 (constantI S_ 32 23#32)) (val_v155 V)) transposes_S4096x24_S24x4096_1_0

/-- `main_call11_v6`: the scores after the padding of the first axis (nothing is added there). -/
def val_call11_v6 (V : Valuation τ sig (Elt F)) : (⟨S24x4096, .f32⟩ : BufTy).Contents (Elt F) :=
  fn_main_call11_v6 (shapeCast _ (broadcastInDim S1x0x4096 ![0, 2] bcast_S1x4096_S1x0x4096_0_2 (extractStridedSlice S1x4096 ![0, 0] (val_v163 V) slices_S24x4096_S1x4096_0_0)) shapeCasts_S1x0x4096_S0x4096) (val_v163 V) (shapeCast _ (broadcastInDim S1x0x4096 ![0, 2] bcast_S1x4096_S1x0x4096_0_2 (extractStridedSlice S1x4096 ![23, 0] (val_v163 V) slices_S24x4096_S1x4096_23_0)) shapeCasts_S1x0x4096_S0x4096)

/-- `main_v164`: the scores padded at both ends with the edge values. -/
def val_v164 (V : Valuation τ sig (Elt F)) : (⟨S24x4100, .f32⟩ : BufTy).Contents (Elt F) :=
  fn_main_v164 (shapeCast _ (broadcastInDim S24x1x2 ![0, 1] bcast_S24x1_S24x1x2_0_1 (extractStridedSlice S24x1 ![0, 0] (val_call11_v6 V) slices_S24x4096_S24x1_0_0)) shapeCasts_S24x1x2_S24x2) (val_call11_v6 V) (shapeCast _ (broadcastInDim S24x1x2 ![0, 1] bcast_S24x1_S24x1x2_0_1 (extractStridedSlice S24x1 ![0, 4095] (val_call11_v6 V) slices_S24x4096_S24x1_0_4095)) shapeCasts_S24x1x2_S24x2)

/-- `main_v176`: the first result. -/
def val_v176 (V : Valuation τ sig (Elt F)) : (⟨S24x4096, .f32⟩ : BufTy).Contents (Elt F) :=
  Host.reduce FloatOps.maximumf (fn_main_v175 (broadcastInDim S1x24x4096 ![1, 2] bcast_S24x4096_S1x24x4096_1_2 (extractStridedSlice S24x4096 ![0, 0] (val_v164 V) slices_S24x4100_S24x4096_0_0)) (broadcastInDim S1x24x4096 ![1, 2] bcast_S24x4096_S1x24x4096_1_2 (extractStridedSlice S24x4096 ![0, 1] (val_v164 V) slices_S24x4100_S24x4096_0_1)) (broadcastInDim S1x24x4096 ![1, 2] bcast_S24x4096_S1x24x4096_1_2 (extractStridedSlice S24x4096 ![0, 2] (val_v164 V) slices_S24x4100_S24x4096_0_2)) (broadcastInDim S1x24x4096 ![1, 2] bcast_S24x4096_S1x24x4096_1_2 (extractStridedSlice S24x4096 ![0, 3] (val_v164 V) slices_S24x4100_S24x4096_0_3)) (broadcastInDim S1x24x4096 ![1, 2] bcast_S24x4096_S1x24x4096_1_2 (extractStridedSlice S24x4096 ![0, 4] (val_v164 V) slices_S24x4100_S24x4096_0_4))) (constant S_ .f32 0xFF800000#32) reducesTo_S5x24x4096_S24x4096_d0 h_S_

/-- `main_v177`: the second result. -/
def val_v177 (V : Valuation τ sig (Elt F)) : (⟨S4096, .i32⟩ : BufTy).Contents (Elt F) :=
  (fun j => (Host.argReduce reducer_argmax_f32_i32 (val_v176 V) (iotaInDim S24x4096 32 0) (constant S_ .f32 0xFF800000#32) (constantI S_ 32 0#32) reducesTo_S24x4096_S4096_d0 h_S_ j).2)

/-- `main_v180`: the third result. -/
def val_v180 (V : Valuation τ sig (Elt F)) : (⟨S4096, .f32⟩ : BufTy).Contents (Elt F) :=
  uitofp .f32 (cmpi .ne (val_v177 V) (broadcastInDim S4096 ![] bcast_S_S4096 (constantI S_ 32 0#32)))

/-- Window 0. -/
abbrev ops_0 : List (HloOp τ sig (Elt F)) :=
  [ binary main_arg5 main_arg5 main_call0_v0 (mulf : (⟨S128x512, .f32⟩ : BufTy).Contents (Elt F) → (⟨S128x512, .f32⟩ : BufTy).Contents (Elt F) → (⟨S128x512, .f32⟩ : BufTy).Contents (Elt F)),
    nullary main_call0_cst (constant S_ .f32 0x00000000#32),
    binary main_call0_v0 main_call0_cst main_call0_v1 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    unary main_call0_v1 main_call0_v2 (broadcastInDim S128x1 ![0] bcast_S128_S128x1_0 : (⟨S128, .f32⟩ : BufTy).Contents (Elt F) → (⟨S128x1, .f32⟩ : BufTy).Contents (Elt F)),
    unary main_call0_v2 main_v0 (Host.sqrt : (⟨S128x1, .f32⟩ : BufTy).Contents (Elt F) → (⟨S128x1, .f32⟩ : BufTy).Contents (Elt F)),
    nullary main_cst (constant S_ .f32 0x322BCC77#32),
    unary main_cst main_v1 (broadcastInDim S128x1 ![] bcast_S_S128x1 : (⟨S_, .f32⟩ : BufTy).Contents (Elt F) → (⟨S128x1, .f32⟩ : BufTy).Contents (Elt F)),
    binary main_v0 main_v1 main_v2 (maximumf : (⟨S128x1, .f32⟩ : BufTy).Contents (Elt F) → (⟨S128x1, .f32⟩ : BufTy).Contents (Elt F) → (⟨S128x1, .f32⟩ : BufTy).Contents (Elt F)),
    unary main_v2 main_v3 (broadcastInDim S128x512 ![0, 1] bcast_S128x1_S128x512_0_1 : (⟨S128x1, .f32⟩ : BufTy).Contents (Elt F) → (⟨S128x512, .f32⟩ : BufTy).Contents (Elt F)),
    binary main_arg5 main_v3 main_v4 (Host.divf : (⟨S128x512, .f32⟩ : BufTy).Contents (Elt F) → (⟨S128x512, .f32⟩ : BufTy).Contents (Elt F) → (⟨S128x512, .f32⟩ : BufTy).Contents (Elt F)),
    binary main_arg6 main_arg6 main_call1_v0 (mulf : (⟨S24x512, .f32⟩ : BufTy).Contents (Elt F) → (⟨S24x512, .f32⟩ : BufTy).Contents (Elt F) → (⟨S24x512, .f32⟩ : BufTy).Contents (Elt F)),
    nullary main_call1_cst (constant S_ .f32 0x00000000#32),
    binary main_call1_v0 main_call1_cst main_call1_v1 ((fun x v => Host.reduceAdd x v reducesTo_S24x512_S24_d1 h_S_) : (⟨S24x512, .f32⟩ : BufTy).Contents (Elt F) → (⟨S_, .f32⟩ : BufTy).Contents (Elt F) → (⟨S24, .f32⟩ : BufTy).Contents (Elt F)),
    unary main_call1_v1 main_call1_v2 (broadcastInDim S24x1 ![0] bcast_S24_S24x1_0 : (⟨S24, .f32⟩ : BufTy).Contents (Elt F) → (⟨S24x1, .f32⟩ : BufTy).Contents (Elt F)),
    unary main_call1_v2 main_v5 (Host.sqrt : (⟨S24x1, .f32⟩ : BufTy).Contents (Elt F) → (⟨S24x1, .f32⟩ : BufTy).Contents (Elt F)),
    nullary main_cst_0 (constant S_ .f32 0x322BCC77#32),
    unary main_cst_0 main_v6 (broadcastInDim S24x1 ![] bcast_S_S24x1 : (⟨S_, .f32⟩ : BufTy).Contents (Elt F) → (⟨S24x1, .f32⟩ : BufTy).Contents (Elt F)),
    binary main_v5 main_v6 main_v7 (maximumf : (⟨S24x1, .f32⟩ : BufTy).Contents (Elt F) → (⟨S24x1, .f32⟩ : BufTy).Contents (Elt F) → (⟨S24x1, .f32⟩ : BufTy).Contents (Elt F)),
    unary main_v7 main_v8 (broadcastInDim S24x512 ![0, 1] bcast_S24x1_S24x512_0_1 : (⟨S24x1, .f32⟩ : BufTy).Contents (Elt F) → (⟨S24x512, .f32⟩ : BufTy).Contents (Elt F)),
    binary main_arg6 main_v8 main_v9 (Host.divf : (⟨S24x512, .f32⟩ : BufTy).Contents (Elt F) → (⟨S24x512, .f32⟩ : BufTy).Contents (Elt F) → (⟨S24x512, .f32⟩ : BufTy).Contents (Elt F)) ]

/-- Window 1. -/
abbrev ops_1 : List (HloOp τ sig (Elt F)) :=
  [ binary main_arg0 main_arg0 main_call2_v0 (mulf : (⟨S4096x512, .f32⟩ : BufTy).Contents (Elt F) → (⟨S4096x512, .f32⟩ : BufTy).Contents (Elt F) → (⟨S4096x512, .f32⟩ : BufTy).Contents (Elt F)),
    nullary main_call2_cst (constant S_ .f32 0x00000000#32),
    binary main_call2_v0 main_call2_cst main_call2_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_call2_v1 main_call2_v2 (broadcastInDim S4096x1 ![0] bcast_S4096_S4096x1_0 : (⟨S4096, .f32⟩ : BufTy).Contents (Elt F) → (⟨S4096x1, .f32⟩ : BufTy).Contents (Elt F)),
    unary main_call2_v2 main_v10 (Host.sqrt : (⟨S4096x1, .f32⟩ : BufTy).Contents (Elt F) → (⟨S4096x1, .f32⟩ : BufTy).Contents (Elt F)),
    nullary main_cst_1 (constant S_ .f32 0x322BCC77#32),
    unary main_cst_1 main_v11 (broadcastInDim S4096x1 ![] bcast_S_S4096x1 : (⟨S_, .f32⟩ : BufTy).Contents (Elt F) → (⟨S4096x1, .f32⟩ : BufTy).Contents (Elt F)),
    binary main_v10 main_v11 main_v12 (maximumf : (⟨S4096x1, .f32⟩ : BufTy).Contents (Elt F) → (⟨S4096x1, .f32⟩ : BufTy).Contents (Elt F) → (⟨S4096x1, .f32⟩ : BufTy).Contents (Elt F)),
    unary main_v12 main_v13 (broadcastInDim S4096x512 ![0, 1] bcast_S4096x1_S4096x512_0_1 : (⟨S4096x1, .f32⟩ : BufTy).Contents (Elt F) → (⟨S4096x512, .f32⟩ : BufTy).Contents (Elt F)),
    binary main_arg0 main_v13 main_v14 (Host.divf : (⟨S4096x512, .f32⟩ : BufTy).Contents (Elt F) → (⟨S4096x512, .f32⟩ : BufTy).Contents (Elt F) → (⟨S4096x512, .f32⟩ : BufTy).Contents (Elt F)),
    binary main_arg1 main_arg1 main_call3_v0 (mulf : (⟨S4096x512, .f32⟩ : BufTy).Contents (Elt F) → (⟨S4096x512, .f32⟩ : BufTy).Contents (Elt F) → (⟨S4096x512, .f32⟩ : BufTy).Contents (Elt F)),
    nullary main_call3_cst (constant S_ .f32 0x00000000#32),
    binary main_call3_v0 main_call3_cst main_call3_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_call3_v1 main_call3_v2 (broadcastInDim S4096x1 ![0] bcast_S4096_S4096x1_0 : (⟨S4096, .f32⟩ : BufTy).Contents (Elt F) → (⟨S4096x1, .f32⟩ : BufTy).Contents (Elt F)),
    unary main_call3_v2 main_v15 (Host.sqrt : (⟨S4096x1, .f32⟩ : BufTy).Contents (Elt F) → (⟨S4096x1, .f32⟩ : BufTy).Contents (Elt F)),
    nullary main_cst_2 (constant S_ .f32 0x322BCC77#32),
    unary main_cst_2 main_v16 (broadcastInDim S4096x1 ![] bcast_S_S4096x1 : (⟨S_, .f32⟩ : BufTy).Contents (Elt F) → (⟨S4096x1, .f32⟩ : BufTy).Contents (Elt F)),
    binary main_v15 main_v16 main_v17 (maximumf : (⟨S4096x1, .f32⟩ : BufTy).Contents (Elt F) → (⟨S4096x1, .f32⟩ : BufTy).Contents (Elt F) → (⟨S4096x1, .f32⟩ : BufTy).Contents (Elt F)),
    unary main_v17 main_v18 (broadcastInDim S4096x512 ![0, 1] bcast_S4096x1_S4096x512_0_1 : (⟨S4096x1, .f32⟩ : BufTy).Contents (Elt F) → (⟨S4096x512, .f32⟩ : BufTy).Contents (Elt F)),
    binary main_arg1 main_v18 main_v19 (Host.divf : (⟨S4096x512, .f32⟩ : BufTy).Contents (Elt F) → (⟨S4096x512, .f32⟩ : BufTy).Contents (Elt F) → (⟨S4096x512, .f32⟩ : BufTy).Contents (Elt F)) ]

/-- Window 2. -/
abbrev ops_2 : List (HloOp τ sig (Elt F)) :=
  [ binary main_arg2 main_arg2 main_call4_v0 (mulf : (⟨S4096x512, .f32⟩ : BufTy).Contents (Elt F) → (⟨S4096x512, .f32⟩ : BufTy).Contents (Elt F) → (⟨S4096x512, .f32⟩ : BufTy).Contents (Elt F)),
    nullary main_call4_cst (constant S_ .f32 0x00000000#32),
    binary main_call4_v0 main_call4_cst main_call4_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_call4_v1 main_call4_v2 (broadcastInDim S4096x1 ![0] bcast_S4096_S4096x1_0 : (⟨S4096, .f32⟩ : BufTy).Contents (Elt F) → (⟨S4096x1, .f32⟩ : BufTy).Contents (Elt F)),
    unary main_call4_v2 main_v20 (Host.sqrt : (⟨S4096x1, .f32⟩ : BufTy).Contents (Elt F) → (⟨S4096x1, .f32⟩ : BufTy).Contents (Elt F)),
    nullary main_cst_3 (constant S_ .f32 0x322BCC77#32),
    unary main_cst_3 main_v21 (broadcastInDim S4096x1 ![] bcast_S_S4096x1 : (⟨S_, .f32⟩ : BufTy).Contents (Elt F) → (⟨S4096x1, .f32⟩ : BufTy).Contents (Elt F)),
    binary main_v20 main_v21 main_v22 (maximumf : (⟨S4096x1, .f32⟩ : BufTy).Contents (Elt F) → (⟨S4096x1, .f32⟩ : BufTy).Contents (Elt F) → (⟨S4096x1, .f32⟩ : BufTy).Contents (Elt F)),
    unary main_v22 main_v23 (broadcastInDim S4096x512 ![0, 1] bcast_S4096x1_S4096x512_0_1 : (⟨S4096x1, .f32⟩ : BufTy).Contents (Elt F) → (⟨S4096x512, .f32⟩ : BufTy).Contents (Elt F)),
    binary main_arg2 main_v23 main_v24 (Host.divf : (⟨S4096x512, .f32⟩ : BufTy).Contents (Elt F) → (⟨S4096x512, .f32⟩ : BufTy).Contents (Elt F) → (⟨S4096x512, .f32⟩ : BufTy).Contents (Elt F)),
    binary main_arg3 main_arg3 main_call5_v0 (mulf : (⟨S4096x512, .f32⟩ : BufTy).Contents (Elt F) → (⟨S4096x512, .f32⟩ : BufTy).Contents (Elt F) → (⟨S4096x512, .f32⟩ : BufTy).Contents (Elt F)),
    nullary main_call5_cst (constant S_ .f32 0x00000000#32),
    binary main_call5_v0 main_call5_cst main_call5_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_call5_v1 main_call5_v2 (broadcastInDim S4096x1 ![0] bcast_S4096_S4096x1_0 : (⟨S4096, .f32⟩ : BufTy).Contents (Elt F) → (⟨S4096x1, .f32⟩ : BufTy).Contents (Elt F)),
    unary main_call5_v2 main_v25 (Host.sqrt : (⟨S4096x1, .f32⟩ : BufTy).Contents (Elt F) → (⟨S4096x1, .f32⟩ : BufTy).Contents (Elt F)),
    nullary main_cst_4 (constant S_ .f32 0x322BCC77#32),
    unary main_cst_4 main_v26 (broadcastInDim S4096x1 ![] bcast_S_S4096x1 : (⟨S_, .f32⟩ : BufTy).Contents (Elt F) → (⟨S4096x1, .f32⟩ : BufTy).Contents (Elt F)),
    binary main_v25 main_v26 main_v27 (maximumf : (⟨S4096x1, .f32⟩ : BufTy).Contents (Elt F) → (⟨S4096x1, .f32⟩ : BufTy).Contents (Elt F) → (⟨S4096x1, .f32⟩ : BufTy).Contents (Elt F)),
    unary main_v27 main_v28 (broadcastInDim S4096x512 ![0, 1] bcast_S4096x1_S4096x512_0_1 : (⟨S4096x1, .f32⟩ : BufTy).Contents (Elt F) → (⟨S4096x512, .f32⟩ : BufTy).Contents (Elt F)),
    binary main_arg3 main_v28 main_v29 (Host.divf : (⟨S4096x512, .f32⟩ : BufTy).Contents (Elt F) → (⟨S4096x512, .f32⟩ : BufTy).Contents (Elt F) → (⟨S4096x512, .f32⟩ : BufTy).Contents (Elt F)) ]

/-- Window 3. -/
abbrev ops_3 : List (HloOp τ sig (Elt F)) :=
  [ binary main_arg4 main_arg4 main_call6_v0 (mulf : (⟨S4096x64, .f32⟩ : BufTy).Contents (Elt F) → (⟨S4096x64, .f32⟩ : BufTy).Contents (Elt F) → (⟨S4096x64, .f32⟩ : BufTy).Contents (Elt F)),
    nullary main_call6_cst (constant S_ .f32 0x00000000#32),
    binary main_call6_v0 main_call6_cst main_call6_v1 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    unary main_call6_v1 main_v30 (Host.sqrt : (⟨S4096, .f32⟩ : BufTy).Contents (Elt F) → (⟨S4096, .f32⟩ : BufTy).Contents (Elt F)),
    nullary main_cst_5 (constant S_ .f32 0x41000000#32),
    nullary main_cst_6 (constant S_ .f32 0x3F800000#32),
    binary main_cst_5 main_cst_6 main_v31 (maximumf : (⟨S_, .f32⟩ : BufTy).Contents (Elt F) → (⟨S_, .f32⟩ : BufTy).Contents (Elt F) → (⟨S_, .f32⟩ : BufTy).Contents (Elt F)),
    unary main_v31 main_v32 (id : (⟨S_, .f32⟩ : BufTy).Contents (Elt F) → (⟨S_, .f32⟩ : BufTy).Contents (Elt F)),
    unary main_v32 main_v33 (broadcastInDim S4096 ![] bcast_S_S4096 : (⟨S_, .f32⟩ : BufTy).Contents (Elt F) → (⟨S4096, .f32⟩ : BufTy).Contents (Elt F)),
    binary main_v30 main_v33 main_v34 (Host.divf : (⟨S4096, .f32⟩ : BufTy).Contents (Elt F) → (⟨S4096, .f32⟩ : BufTy).Contents (Elt F) → (⟨S4096, .f32⟩ : BufTy).Contents (Elt F)),
    unary main_v34 main_v35 (Host.negf : (⟨S4096, .f32⟩ : BufTy).Contents (Elt F) → (⟨S4096, .f32⟩ : BufTy).Contents (Elt F)),
    unary main_v35 main_v36 (Host.exp : (⟨S4096, .f32⟩ : BufTy).Contents (Elt F) → (⟨S4096, .f32⟩ : BufTy).Contents (Elt F)),
    nullary main_cst_7 (constant S_ .f32 0x3E800000#32),
    nullary main_cst_8 (constant S_ .f32 0x3F800000#32),
    unary main_cst_7 main_call7_v0 (id : (⟨S_, .f32⟩ : BufTy).Contents (Elt F) → (⟨S_, .f32⟩ : BufTy).Contents (Elt F)),
    unary main_call7_v0 main_call7_v1 (broadcastInDim S4096 ![] bcast_S_S4096 : (⟨S_, .f32⟩ : BufTy).Contents (Elt F) → (⟨S4096, .f32⟩ : BufTy).Contents (Elt F)),
    binary main_call7_v1 main_v36 main_call7_v2 (maximumf : (⟨S4096, .f32⟩ : BufTy).Contents (Elt F) → (⟨S4096, .f32⟩ : BufTy).Contents (Elt F) → (⟨S4096, .f32⟩ : BufTy).Contents (Elt F)),
    unary main_cst_8 main_call7_v3 (id : (⟨S_, .f32⟩ : BufTy).Contents (Elt F) → (⟨S_, .f32⟩ : BufTy).Contents (Elt F)),
    unary main_call7_v3 main_call7_v4 (broadcastInDim S4096 ![] bcast_S_S4096 : (⟨S_, .f32⟩ : BufTy).Contents (Elt F) → (⟨S4096, .f32⟩ : BufTy).Contents (Elt F)),
    binary main_call7_v4 main_call7_v2 main_v37 (minimumf : (⟨S4096, .f32⟩ : BufTy).Contents (Elt F) → (⟨S4096, .f32⟩ : BufTy).Contents (Elt F) → (⟨S4096, .f32⟩ : BufTy).Contents (Elt F)),
    nullary main_cst_9 (constant S_ .f32 0x3F000000#32),
    unary main_cst_9 main_v38 (broadcastInDim S4096x512 ![] bcast_S_S4096x512 : (⟨S_, .f32⟩ : BufTy).Contents (Elt F) → (⟨S4096x512, .f32⟩ : BufTy).Contents (Elt F)),
    binary main_v38 main_v19 main_v39 (mulf : (⟨S4096x512, .f32⟩ : BufTy).Contents (Elt F) → (⟨S4096x512, .f32⟩ : BufTy).Contents (Elt F) → (⟨S4096x512, .f32⟩ : BufTy).Contents (Elt F)),
    binary main_v14 main_v39 main_v40 (addf : (⟨S4096x512, .f32⟩ : BufTy).Contents (Elt F) → (⟨S4096x512, .f32⟩ : BufTy).Contents (Elt F) → (⟨S4096x512, .f32⟩ : BufTy).Contents (Elt F)),
    unary main_v37 main_v41 (broadcastInDim S4096x1 ![0] bcast_S4096_S4096x1_0 : (⟨S4096, .f32⟩ : BufTy).Contents (Elt F) → (⟨S4096x1, .f32⟩ : BufTy).Contents (Elt F)),
    nullary main_cst_10 (constant S_ .f32 0x3F333333#32),
    unary main_cst_10 main_v42 (broadcastInDim S4096x512 ![] bcast_S_S4096x512 : (⟨S_, .f32⟩ : BufTy).Contents (Elt F) → (⟨S4096x512, .f32⟩ : BufTy).Contents (Elt F)),
    binary main_v42 main_v24 main_v43 (mulf : (⟨S4096x512, .f32⟩ : BufTy).Contents (Elt F) → (⟨S4096x512, .f32⟩ : BufTy).Contents (Elt F) → (⟨S4096x512, .f32⟩ : BufTy).Contents (Elt F)),
    nullary main_cst_11 (constant S_ .f32 0x3E99999A#32),
    unary main_cst_11 main_v44 (broadcastInDim S4096x512 ![] bcast_S_S4096x512 : (⟨S_, .f32⟩ : BufTy).Contents (Elt F) → (⟨S4096x512, .f32⟩ : BufTy).Contents (Elt F)),
    binary main_v44 main_v29 main_v45 (mulf : (⟨S4096x512, .f32⟩ : BufTy).Contents (Elt F) → (⟨S4096x512, .f32⟩ : BufTy).Contents (Elt F) → (⟨S4096x512, .f32⟩ : BufTy).Contents (Elt F)),
    binary main_v43 main_v45 main_v46 (addf : (⟨S4096x512, .f32⟩ : BufTy).Contents (Elt F) → (⟨S4096x512, .f32⟩ : BufTy).Contents (Elt F) → (⟨S4096x512, .f32⟩ : BufTy).Contents (Elt F)) ]

/-- Window 4. -/
abbrev ops_4 : List (HloOp τ sig (Elt F)) :=
  [ unary main_v41 main_v47 (broadcastInDim S4096x512 ![0, 1] bcast_S4096x1_S4096x512_0_1 : (⟨S4096x1, .f32⟩ : BufTy).Contents (Elt F) → (⟨S4096x512, .f32⟩ : BufTy).Contents (Elt F)),
    binary main_v47 main_v46 main_v48 (mulf : (⟨S4096x512, .f32⟩ : BufTy).Contents (Elt F) → (⟨S4096x512, .f32⟩ : BufTy).Contents (Elt F) → (⟨S4096x512, .f32⟩ : BufTy).Contents (Elt F)),
    binary main_v40 main_v48 main_v49 (addf : (⟨S4096x512, .f32⟩ : BufTy).Contents (Elt F) → (⟨S4096x512, .f32⟩ : BufTy).Contents (Elt F) → (⟨S4096x512, .f32⟩ : BufTy).Contents (Elt F)),
    binary main_v49 main_v49 main_call8_v0 (mulf : (⟨S4096x512, .f32⟩ : BufTy).Contents (Elt F) → (⟨S4096x512, .f32⟩ : BufTy).Contents (Elt F) → (⟨S4096x512, .f32⟩ : BufTy).Contents (Elt F)),
    nullary main_call8_cst (constant S_ .f32 0x00000000#32),
    binary main_call8_v0 main_call8_cst main_call8_v1 ((fun x v => Host.reduceAdd x v reducesTo_S4096x512_S4096_d1 h_S_) : (⟨S4096x512, .f32⟩ : BufTy).Contents (Elt F) → (⟨S_, .f32⟩ : BufTy).Contents (Elt F) → (⟨S4096, .f32⟩ : BufTy).Contents (Elt F)),
    unary main_call8_v1 main_call8_v2 (broadcastInDim S4096x1 ![0] bcast_S4096_S4096x1_0 : (⟨S4096, .f32⟩ : BufTy).Contents (Elt F) → (⟨S4096x1, .f32⟩ : BufTy).Contents (Elt F)),
    unary main_call8_v2 main_v50 (Host.sqrt : (⟨S4096x1, .f32⟩ : BufTy).Contents (Elt F) → (⟨S4096x1, .f32⟩ : BufTy).Contents (Elt F)),
    nullary main_cst_12 (constant S_ .f32 0x322BCC77#32),
    unary main_cst_12 main_v51 (broadcastInDim S4096x1 ![] bcast_S_S4096x1 : (⟨S_, .f32⟩ : BufTy).Contents (Elt F) → (⟨S4096x1, .f32⟩ : BufTy).Contents (Elt F)),
    binary main_v50 main_v51 main_v52 (maximumf : (⟨S4096x1, .f32⟩ : BufTy).Contents (Elt F) → (⟨S4096x1, .f32⟩ : BufTy).Contents (Elt F) → (⟨S4096x1, .f32⟩ : BufTy).Contents (Elt F)),
    unary main_v52 main_v53 (broadcastInDim S4096x512 ![0, 1] bcast_S4096x1_S4096x512_0_1 : (⟨S4096x1, .f32⟩ : BufTy).Contents (Elt F) → (⟨S4096x512, .f32⟩ : BufTy).Contents (Elt F)),
    binary main_v49 main_v53 main_v54 (Host.divf : (⟨S4096x512, .f32⟩ : BufTy).Contents (Elt F) → (⟨S4096x512, .f32⟩ : BufTy).Contents (Elt F) → (⟨S4096x512, .f32⟩ : BufTy).Contents (Elt F)),
    unary main_v4 main_v55 ((transpose S512x128 [1, 0] · transposes_S128x512_S512x128_1_0) : (⟨S128x512, .f32⟩ : BufTy).Contents (Elt F) → (⟨S512x128, .f32⟩ : BufTy).Contents (Elt F)),
    binary main_v54 main_v55 main_v56 ((fun l r => Host.dotGeneral dot_S4096x512_S512x128_S4096x128_1_0_0_1_n_n none l r) : (⟨S4096x512, .f32⟩ : BufTy).Contents (Elt F) → (⟨S512x128, .f32⟩ : BufTy).Contents (Elt F) → (⟨S4096x128, .f32⟩ : BufTy).Contents (Elt F)),
    nullary main_cst_13 (constant S_ .f32 0x41A00000#32),
    unary main_cst_13 main_v57 (broadcastInDim S4096x128 ![] bcast_S_S4096x128 : (⟨S_, .f32⟩ : BufTy).Contents (Elt F) → (⟨S4096x128, .f32⟩ : BufTy).Contents (Elt F)),
    binary main_v57 main_v56 main_v58 (mulf : (⟨S4096x128, .f32⟩ : BufTy).Contents (Elt F) → (⟨S4096x128, .f32⟩ : BufTy).Contents (Elt F) → (⟨S4096x128, .f32⟩ : BufTy).Contents (Elt F)),
    nullary main_cst_14 (constant S_ .f32 0xFF800000#32),
    binary main_v58 main_cst_14 main_v59 ((fun x v => Host.reduce FloatOps.maximumf x v reducesTo_S4096x128_S4096_d1 h_S_) : (⟨S4096x128, .f32⟩ : BufTy).Contents (Elt F) → (⟨S_, .f32⟩ : BufTy).Contents (Elt F) → (⟨S4096, .f32⟩ : BufTy).Contents (Elt F)),
    nullary main_cst_15 (constant S_ .f32 0xFF800000#32),
    unary main_cst_15 main_v60 (broadcastInDim S4096 ![] bcast_S_S4096 : (⟨S_, .f32⟩ : BufTy).Contents (Elt F) → (⟨S4096, .f32⟩ : BufTy).Contents (Elt F)),
    binary main_v60 main_v59 main_v61 (maximumf : (⟨S4096, .f32⟩ : BufTy).Contents (Elt F) → (⟨S4096, .f32⟩ : BufTy).Contents (Elt F) → (⟨S4096, .f32⟩ : BufTy).Contents (Elt F)),
    unary main_v61 main_v62 (broadcastInDim S4096x1 ![0] bcast_S4096_S4096x1_0 : (⟨S4096, .f32⟩ : BufTy).Contents (Elt F) → (⟨S4096x1, .f32⟩ : BufTy).Contents (Elt F)),
    unary main_v62 main_v63 (broadcastInDim S4096x128 ![0, 1] bcast_S4096x1_S4096x128_0_1 : (⟨S4096x1, .f32⟩ : BufTy).Contents (Elt F) → (⟨S4096x128, .f32⟩ : BufTy).Contents (Elt F)),
    binary main_v58 main_v63 main_v64 (subf : (⟨S4096x128, .f32⟩ : BufTy).Contents (Elt F) → (⟨S4096x128, .f32⟩ : BufTy).Contents (Elt F) → (⟨S4096x128, .f32⟩ : BufTy).Contents (Elt F)),
    unary main_v64 main_v65 (Host.exp : (⟨S4096x128, .f32⟩ : BufTy).Contents (Elt F) → (⟨S4096x128, .f32⟩ : BufTy).Contents (Elt F)) ]

/-- Window 5. -/
abbrev ops_5 : List (HloOp τ sig (Elt F)) :=
  [ nullary main_cst_16 (constant S_ .f32 0x00000000#32),
    binary main_v65 main_cst_16 main_v66 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v66 main_v67 (broadcastInDim S4096x1 ![0] bcast_S4096_S4096x1_0 : (⟨S4096, .f32⟩ : BufTy).Contents (Elt F) → (⟨S4096x1, .f32⟩ : BufTy).Contents (Elt F)),
    unary main_v67 main_v68 (broadcastInDim S4096x128 ![0, 1] bcast_S4096x1_S4096x128_0_1 : (⟨S4096x1, .f32⟩ : BufTy).Contents (Elt F) → (⟨S4096x128, .f32⟩ : BufTy).Contents (Elt F)),
    binary main_v65 main_v68 main_v69 (Host.divf : (⟨S4096x128, .f32⟩ : BufTy).Contents (Elt F) → (⟨S4096x128, .f32⟩ : BufTy).Contents (Elt F) → (⟨S4096x128, .f32⟩ : BufTy).Contents (Elt F)),
    unary main_v69 main_values ((fun x => (Host.topK S4096x5 1 (FloatOps.cmpfTotal .gt) x sliceFits_S4096x128_S4096x5).1) : (⟨S4096x128, .f32⟩ : BufTy).Contents (Elt F) → (⟨S4096x5, .f32⟩ : BufTy).Contents (Elt F)),
    unary main_v69 main_indices ((fun x => (Host.topK S4096x5 1 (FloatOps.cmpfTotal .gt) x sliceFits_S4096x128_S4096x5).2) : (⟨S4096x128, .f32⟩ : BufTy).Contents (Elt F) → (⟨S4096x5, .i32⟩ : BufTy).Contents (Elt F)),
    nullary main_call9_call0_cst (constant S_ .f32 0x00000000#32),
    unary main_call9_call0_cst main_call9_call0_v0 (broadcastInDim S_ ![] bcast_S_S_ : (⟨S_, .f32⟩ : BufTy).Contents (Elt F) → (⟨S_, .f32⟩ : BufTy).Contents (Elt F)),
    binary main_values main_call9_call0_v0 main_v70 ((fun x v => Host.reduceWindowAdd ![1, 5] ![1, 1] ![0, 4] ![0, 0] x v reduceWindows_S4096x5_S4096x5_w1s1p0_0_w5s1p4_0 h_S_) : (⟨S4096x5, .f32⟩ : BufTy).Contents (Elt F) → (⟨S_, .f32⟩ : BufTy).Contents (Elt F) → (⟨S4096x5, .f32⟩ : BufTy).Contents (Elt F)) ]

/-- Window 6. -/
abbrev ops_6 : List (HloOp τ sig (Elt F)) :=
  [ binary main_v70 main_values main_v71 (subf : (⟨S4096x5, .f32⟩ : BufTy).Contents (Elt F) → (⟨S4096x5, .f32⟩ : BufTy).Contents (Elt F) → (⟨S4096x5, .f32⟩ : BufTy).Contents (Elt F)),
    nullary main_cst_17 (constant S_ .f32 0x3F59999A#32),
    unary main_cst_17 main_v72 (broadcastInDim S4096x5 ![] bcast_S_S4096x5 : (⟨S_, .f32⟩ : BufTy).Contents (Elt F) → (⟨S4096x5, .f32⟩ : BufTy).Contents (Elt F)),
    binary main_v71 main_v72 main_v73 (cmpf .olt : (⟨S4096x5, .f32⟩ : BufTy).Contents (Elt F) → (⟨S4096x5, .f32⟩ : BufTy).Contents (Elt F) → (⟨S4096x5, .i1⟩ : BufTy).Contents (Elt F)),
    unary main_v73 main_v74 (uitofp .f32 : (⟨S4096x5, .i1⟩ : BufTy).Contents (Elt F) → (⟨S4096x5, .f32⟩ : BufTy).Contents (Elt F)),
    binary main_values main_v74 main_v75 (mulf : (⟨S4096x5, .f32⟩ : BufTy).Contents (Elt F) → (⟨S4096x5, .f32⟩ : BufTy).Contents (Elt F) → (⟨S4096x5, .f32⟩ : BufTy).Contents (Elt F)),
    nullary main_cst_18 (constant S_ .f32 0x00000000#32),
    unary main_cst_18 main_v76 (broadcastInDim S4096x128 ![] bcast_S_S4096x128 : (⟨S_, .f32⟩ : BufTy).Contents (Elt F) → (⟨S4096x128, .f32⟩ : BufTy).Contents (Elt F)),
    nullary main_v77 (iotaInDim S4096 32 0),
    unary main_v77 main_v78 (broadcastInDim S4096x1 ![0] bcast_S4096_S4096x1_0 : (⟨S4096, .i32⟩ : BufTy).Contents (Elt F) → (⟨S4096x1, .i32⟩ : BufTy).Contents (Elt F)),
    nullary main_c (constantI S_ 32 0#32),
    unary main_c main_v79 (broadcastInDim S4096x1 ![] bcast_S_S4096x1 : (⟨S_, .i32⟩ : BufTy).Contents (Elt F) → (⟨S4096x1, .i32⟩ : BufTy).Contents (Elt F)),
    binary main_v78 main_v79 main_v80 (cmpi .slt : (⟨S4096x1, .i32⟩ : BufTy).Contents (Elt F) → (⟨S4096x1, .i32⟩ : BufTy).Contents (Elt F) → (⟨S4096x1, .i1⟩ : BufTy).Contents (Elt F)),
    nullary main_c_19 (constantI S_ 32 4096#32),
    unary main_c_19 main_v81 (broadcastInDim S4096x1 ![] bcast_S_S4096x1 : (⟨S_, .i32⟩ : BufTy).Contents (Elt F) → (⟨S4096x1, .i32⟩ : BufTy).Contents (Elt F)),
    binary main_v78 main_v81 main_v82 (addi : (⟨S4096x1, .i32⟩ : BufTy).Contents (Elt F) → (⟨S4096x1, .i32⟩ : BufTy).Contents (Elt F) → (⟨S4096x1, .i32⟩ : BufTy).Contents (Elt F)),
    ternary main_v80 main_v82 main_v78 main_v83 (select : (⟨S4096x1, .i1⟩ : BufTy).Contents (Elt F) → (⟨S4096x1, .i32⟩ : BufTy).Contents (Elt F) → (⟨S4096x1, .i32⟩ : BufTy).Contents (Elt F) → (⟨S4096x1, .i32⟩ : BufTy).Contents (Elt F)) ]

/-- Window 7. -/
abbrev ops_7 : List (HloOp τ sig (Elt F)) :=
  [ nullary main_c_20 (constantI S_ 32 0#32),
    unary main_c_20 main_v84 (broadcastInDim S4096x5 ![] bcast_S_S4096x5 : (⟨S_, .i32⟩ : BufTy).Contents (Elt F) → (⟨S4096x5, .i32⟩ : BufTy).Contents (Elt F)),
    binary main_indices main_v84 main_v85 (cmpi .slt : (⟨S4096x5, .i32⟩ : BufTy).Contents (Elt F) → (⟨S4096x5, .i32⟩ : BufTy).Contents (Elt F) → (⟨S4096x5, .i1⟩ : BufTy).Contents (Elt F)),
    nullary main_c_21 (constantI S_ 32 128#32),
    unary main_c_21 main_v86 (broadcastInDim S4096x5 ![] bcast_S_S4096x5 : (⟨S_, .i32⟩ : BufTy).Contents (Elt F) → (⟨S4096x5, .i32⟩ : BufTy).Contents (Elt F)),
    binary main_indices main_v86 main_v87 (addi : (⟨S4096x5, .i32⟩ : BufTy).Contents (Elt F) → (⟨S4096x5, .i32⟩ : BufTy).Contents (Elt F) → (⟨S4096x5, .i32⟩ : BufTy).Contents (Elt F)),
    ternary main_v85 main_v87 main_indices main_v88 (select : (⟨S4096x5, .i1⟩ : BufTy).Contents (Elt F) → (⟨S4096x5, .i32⟩ : BufTy).Contents (Elt F) → (⟨S4096x5, .i32⟩ : BufTy).Contents (Elt F) → (⟨S4096x5, .i32⟩ : BufTy).Contents (Elt F)),
    unary main_v83 main_v89 (broadcastInDim S4096x5 ![0, 1] bcast_S4096x1_S4096x5_0_1 : (⟨S4096x1, .i32⟩ : BufTy).Contents (Elt F) → (⟨S4096x5, .i32⟩ : BufTy).Contents (Elt F)),
    unary main_v89 main_v90 (broadcastInDim S4096x5x1 ![0, 1] bcast_S4096x5_S4096x5x1_0_1 : (⟨S4096x5, .i32⟩ : BufTy).Contents (Elt F) → (⟨S4096x5x1, .i32⟩ : BufTy).Contents (Elt F)),
    unary main_v88 main_v91 (broadcastInDim S4096x5x1 ![0, 1] bcast_S4096x5_S4096x5x1_0_1 : (⟨S4096x5, .i32⟩ : BufTy).Contents (Elt F) → (⟨S4096x5x1, .i32⟩ : BufTy).Contents (Elt F)),
    binary main_v90 main_v91 main_v92 (fn_main_v92 (F := F)),
    ternary main_v76 main_v92 main_v75 main_v93 ((fun x i u => Host.scatter scatter_S4096x128_S4096x5x2_S4096x5_n_01_01_2 (fun _ b => b) x i u) : (⟨S4096x128, .f32⟩ : BufTy).Contents (Elt F) → (⟨S4096x5x2, .i32⟩ : BufTy).Contents (Elt F) → (⟨S4096x5, .f32⟩ : BufTy).Contents (Elt F) → (⟨S4096x128, .f32⟩ : BufTy).Contents (Elt F)) ]

/-- Window 8. -/
abbrev ops_8 : List (HloOp τ sig (Elt F)) :=
  [ nullary main_cst_22 (constant S_ .f32 0x00000000#32),
    binary main_v93 main_cst_22 main_v94 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v94 main_v95 (broadcastInDim S4096x1 ![0] bcast_S4096_S4096x1_0 : (⟨S4096, .f32⟩ : BufTy).Contents (Elt F) → (⟨S4096x1, .f32⟩ : BufTy).Contents (Elt F)),
    nullary main_cst_23 (constant S_ .f32 0x322BCC77#32),
    unary main_cst_23 main_v96 (broadcastInDim S4096x1 ![] bcast_S_S4096x1 : (⟨S_, .f32⟩ : BufTy).Contents (Elt F) → (⟨S4096x1, .f32⟩ : BufTy).Contents (Elt F)),
    binary main_v95 main_v96 main_v97 (maximumf : (⟨S4096x1, .f32⟩ : BufTy).Contents (Elt F) → (⟨S4096x1, .f32⟩ : BufTy).Contents (Elt F) → (⟨S4096x1, .f32⟩ : BufTy).Contents (Elt F)),
    unary main_v97 main_v98 (broadcastInDim S4096x128 ![0, 1] bcast_S4096x1_S4096x128_0_1 : (⟨S4096x1, .f32⟩ : BufTy).Contents (Elt F) → (⟨S4096x128, .f32⟩ : BufTy).Contents (Elt F)),
    binary main_v93 main_v98 main_v99 (Host.divf : (⟨S4096x128, .f32⟩ : BufTy).Contents (Elt F) → (⟨S4096x128, .f32⟩ : BufTy).Contents (Elt F) → (⟨S4096x128, .f32⟩ : BufTy).Contents (Elt F)),
    binary main_v99 main_v56 main_v100 (mulf : (⟨S4096x128, .f32⟩ : BufTy).Contents (Elt F) → (⟨S4096x128, .f32⟩ : BufTy).Contents (Elt F) → (⟨S4096x128, .f32⟩ : BufTy).Contents (Elt F)),
    nullary main_cst_24 (constant S_ .f32 0x00000000#32),
    binary main_v100 main_cst_24 main_v101 ((fun x v => Host.reduceAdd x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v9 main_v102 ((transpose S512x24 [1, 0] · transposes_S24x512_S512x24_1_0) : (⟨S24x512, .f32⟩ : BufTy).Contents (Elt F) → (⟨S512x24, .f32⟩ : BufTy).Contents (Elt F)),
    binary main_v54 main_v102 main_v103 ((fun l r => Host.dotGeneral dot_S4096x512_S512x24_S4096x24_1_0_0_1_n_n none l r) : (⟨S4096x512, .f32⟩ : BufTy).Contents (Elt F) → (⟨S512x24, .f32⟩ : BufTy).Contents (Elt F) → (⟨S4096x24, .f32⟩ : BufTy).Contents (Elt F)),
    nullary main_cst_25 (constant S_ .f32 0x41A00000#32) ]

/-- Window 9. -/
abbrev ops_9 : List (HloOp τ sig (Elt F)) :=
  [ unary main_cst_25 main_v104 (broadcastInDim S4096x24 ![] bcast_S_S4096x24 : (⟨S_, .f32⟩ : BufTy).Contents (Elt F) → (⟨S4096x24, .f32⟩ : BufTy).Contents (Elt F)),
    binary main_v104 main_v103 main_v105 (mulf : (⟨S4096x24, .f32⟩ : BufTy).Contents (Elt F) → (⟨S4096x24, .f32⟩ : BufTy).Contents (Elt F) → (⟨S4096x24, .f32⟩ : BufTy).Contents (Elt F)),
    nullary main_cst_26 (constant S_ .f32 0xFF800000#32),
    binary main_v105 main_cst_26 main_v106 ((fun x v => Host.reduce FloatOps.maximumf x v reducesTo_S4096x24_S4096_d1 h_S_) : (⟨S4096x24, .f32⟩ : BufTy).Contents (Elt F) → (⟨S_, .f32⟩ : BufTy).Contents (Elt F) → (⟨S4096, .f32⟩ : BufTy).Contents (Elt F)),
    nullary main_cst_27 (constant S_ .f32 0xFF800000#32),
    unary main_cst_27 main_v107 (broadcastInDim S4096 ![] bcast_S_S4096 : (⟨S_, .f32⟩ : BufTy).Contents (Elt F) → (⟨S4096, .f32⟩ : BufTy).Contents (Elt F)),
    binary main_v107 main_v106 main_v108 (maximumf : (⟨S4096, .f32⟩ : BufTy).Contents (Elt F) → (⟨S4096, .f32⟩ : BufTy).Contents (Elt F) → (⟨S4096, .f32⟩ : BufTy).Contents (Elt F)),
    unary main_v108 main_v109 (broadcastInDim S4096x1 ![0] bcast_S4096_S4096x1_0 : (⟨S4096, .f32⟩ : BufTy).Contents (Elt F) → (⟨S4096x1, .f32⟩ : BufTy).Contents (Elt F)),
    unary main_v109 main_v110 (broadcastInDim S4096x24 ![0, 1] bcast_S4096x1_S4096x24_0_1 : (⟨S4096x1, .f32⟩ : BufTy).Contents (Elt F) → (⟨S4096x24, .f32⟩ : BufTy).Contents (Elt F)),
    binary main_v105 main_v110 main_v111 (subf : (⟨S4096x24, .f32⟩ : BufTy).Contents (Elt F) → (⟨S4096x24, .f32⟩ : BufTy).Contents (Elt F) → (⟨S4096x24, .f32⟩ : BufTy).Contents (Elt F)),
    unary main_v111 main_v112 (Host.exp : (⟨S4096x24, .f32⟩ : BufTy).Contents (Elt F) → (⟨S4096x24, .f32⟩ : BufTy).Contents (Elt F)),
    nullary main_cst_28 (constant S_ .f32 0x00000000#32),
    binary main_v112 main_cst_28 main_v113 ((fun x v => Host.reduceAdd x v reducesTo_S4096x24_S4096_d1 h_S_) : (⟨S4096x24, .f32⟩ : BufTy).Contents (Elt F) → (⟨S_, .f32⟩ : BufTy).Contents (Elt F) → (⟨S4096, .f32⟩ : BufTy).Contents (Elt F)),
    unary main_v113 main_v114 (broadcastInDim S4096x1 ![0] bcast_S4096_S4096x1_0 : (⟨S4096, .f32⟩ : BufTy).Contents (Elt F) → (⟨S4096x1, .f32⟩ : BufTy).Contents (Elt F)),
    unary main_v114 main_v115 (broadcastInDim S4096x24 ![0, 1] bcast_S4096x1_S4096x24_0_1 : (⟨S4096x1, .f32⟩ : BufTy).Contents (Elt F) → (⟨S4096x24, .f32⟩ : BufTy).Contents (Elt F)),
    binary main_v112 main_v115 main_v116 (Host.divf : (⟨S4096x24, .f32⟩ : BufTy).Contents (Elt F) → (⟨S4096x24, .f32⟩ : BufTy).Contents (Elt F) → (⟨S4096x24, .f32⟩ : BufTy).Contents (Elt F)) ]

/-- Window 10. -/
abbrev ops_10 : List (HloOp τ sig (Elt F)) :=
  [ nullary main_cst_29 (constant S_ .f32 0x322BCC77#32),
    unary main_cst_29 main_v117 (broadcastInDim S4096x24 ![] bcast_S_S4096x24 : (⟨S_, .f32⟩ : BufTy).Contents (Elt F) → (⟨S4096x24, .f32⟩ : BufTy).Contents (Elt F)),
    binary main_v116 main_v117 main_v118 (maximumf : (⟨S4096x24, .f32⟩ : BufTy).Contents (Elt F) → (⟨S4096x24, .f32⟩ : BufTy).Contents (Elt F) → (⟨S4096x24, .f32⟩ : BufTy).Contents (Elt F)),
    unary main_v118 main_v119 (Host.log : (⟨S4096x24, .f32⟩ : BufTy).Contents (Elt F) → (⟨S4096x24, .f32⟩ : BufTy).Contents (Elt F)),
    binary main_v118 main_v119 main_v120 (mulf : (⟨S4096x24, .f32⟩ : BufTy).Contents (Elt F) → (⟨S4096x24, .f32⟩ : BufTy).Contents (Elt F) → (⟨S4096x24, .f32⟩ : BufTy).Contents (Elt F)),
    nullary main_cst_30 (constant S_ .f32 0x00000000#32),
    binary main_v120 main_cst_30 main_v121 ((fun x v => Host.reduceAdd x v reducesTo_S4096x24_S4096_d1 h_S_) : (⟨S4096x24, .f32⟩ : BufTy).Contents (Elt F) → (⟨S_, .f32⟩ : BufTy).Contents (Elt F) → (⟨S4096, .f32⟩ : BufTy).Contents (Elt F)),
    unary main_v121 main_v122 (Host.negf : (⟨S4096, .f32⟩ : BufTy).Contents (Elt F) → (⟨S4096, .f32⟩ : BufTy).Contents (Elt F)),
    nullary main_cst_31 (constant S_ .f32 0x41C00000#32),
    unary main_cst_31 main_v123 (Host.log : (⟨S_, .f32⟩ : BufTy).Contents (Elt F) → (⟨S_, .f32⟩ : BufTy).Contents (Elt F)),
    unary main_v123 main_v124 (id : (⟨S_, .f32⟩ : BufTy).Contents (Elt F) → (⟨S_, .f32⟩ : BufTy).Contents (Elt F)),
    unary main_v124 main_v125 (broadcastInDim S4096 ![] bcast_S_S4096 : (⟨S_, .f32⟩ : BufTy).Contents (Elt F) → (⟨S4096, .f32⟩ : BufTy).Contents (Elt F)),
    binary main_v122 main_v125 main_v126 (Host.divf : (⟨S4096, .f32⟩ : BufTy).Contents (Elt F) → (⟨S4096, .f32⟩ : BufTy).Contents (Elt F) → (⟨S4096, .f32⟩ : BufTy).Contents (Elt F)),
    nullary main_cst_32 (constant S_ .f32 0xFF800000#32),
    binary main_v69 main_cst_32 main_v127 ((fun x v => Host.reduce FloatOps.maximumf x v reducesTo_S4096x128_S4096_d1 h_S_) : (⟨S4096x128, .f32⟩ : BufTy).Contents (Elt F) → (⟨S_, .f32⟩ : BufTy).Contents (Elt F) → (⟨S4096, .f32⟩ : BufTy).Contents (Elt F)),
    unary main_v116 main_v128 ((extractStridedSlice S4096x1 ![0, 0] · slices_S4096x24_S4096x1_0_0) : (⟨S4096x24, .f32⟩ : BufTy).Contents (Elt F) → (⟨S4096x1, .f32⟩ : BufTy).Contents (Elt F)),
    reshape main_v128 main_v129 (rfl : (.f32 : EltTy) = .f32) shapeCasts_S4096x1_S4096,
    nullary main_cst_33 (constant S_ .f32 0x40200000#32),
    unary main_cst_33 main_v130 (broadcastInDim S4096 ![] bcast_S_S4096 : (⟨S_, .f32⟩ : BufTy).Contents (Elt F) → (⟨S4096, .f32⟩ : BufTy).Contents (Elt F)),
    binary main_v130 main_v129 main_v131 (mulf : (⟨S4096, .f32⟩ : BufTy).Contents (Elt F) → (⟨S4096, .f32⟩ : BufTy).Contents (Elt F) → (⟨S4096, .f32⟩ : BufTy).Contents (Elt F)),
    nullary main_cst_34 (constant S_ .f32 0xBFC00000#32),
    unary main_cst_34 main_v132 (broadcastInDim S4096 ![] bcast_S_S4096 : (⟨S_, .f32⟩ : BufTy).Contents (Elt F) → (⟨S4096, .f32⟩ : BufTy).Contents (Elt F)),
    binary main_v132 main_v131 main_v133 (addf : (⟨S4096, .f32⟩ : BufTy).Contents (Elt F) → (⟨S4096, .f32⟩ : BufTy).Contents (Elt F) → (⟨S4096, .f32⟩ : BufTy).Contents (Elt F)),
    nullary main_cst_35 (constant S_ .f32 0x3F800000#32),
    unary main_cst_35 main_v134 (broadcastInDim S4096 ![] bcast_S_S4096 : (⟨S_, .f32⟩ : BufTy).Contents (Elt F) → (⟨S4096, .f32⟩ : BufTy).Contents (Elt F)),
    binary main_v134 main_v127 main_v135 (subf : (⟨S4096, .f32⟩ : BufTy).Contents (Elt F) → (⟨S4096, .f32⟩ : BufTy).Contents (Elt F) → (⟨S4096, .f32⟩ : BufTy).Contents (Elt F)),
    nullary main_cst_36 (constant S_ .f32 0x3F800000#32),
    unary main_cst_36 main_v136 (broadcastInDim S4096 ![] bcast_S_S4096 : (⟨S_, .f32⟩ : BufTy).Contents (Elt F) → (⟨S4096, .f32⟩ : BufTy).Contents (Elt F)),
    binary main_v136 main_v135 main_v137 (mulf : (⟨S4096, .f32⟩ : BufTy).Contents (Elt F) → (⟨S4096, .f32⟩ : BufTy).Contents (Elt F) → (⟨S4096, .f32⟩ : BufTy).Contents (Elt F)),
    binary main_v133 main_v137 main_v138 (addf : (⟨S4096, .f32⟩ : BufTy).Contents (Elt F) → (⟨S4096, .f32⟩ : BufTy).Contents (Elt F) → (⟨S4096, .f32⟩ : BufTy).Contents (Elt F)) ]

/-- Window 11. -/
abbrev ops_11 : List (HloOp τ sig (Elt F)) :=
  [ nullary main_cst_37 (constant S_ .f32 0x3F4CCCCD#32),
    unary main_cst_37 main_v139 (broadcastInDim S4096 ![] bcast_S_S4096 : (⟨S_, .f32⟩ : BufTy).Contents (Elt F) → (⟨S4096, .f32⟩ : BufTy).Contents (Elt F)),
    binary main_v139 main_v126 main_v140 (mulf : (⟨S4096, .f32⟩ : BufTy).Contents (Elt F) → (⟨S4096, .f32⟩ : BufTy).Contents (Elt F) → (⟨S4096, .f32⟩ : BufTy).Contents (Elt F)),
    binary main_v138 main_v140 main_v141 (addf : (⟨S4096, .f32⟩ : BufTy).Contents (Elt F) → (⟨S4096, .f32⟩ : BufTy).Contents (Elt F) → (⟨S4096, .f32⟩ : BufTy).Contents (Elt F)),
    nullary main_cst_38 (constant S_ .f32 0x3EB33333#32),
    unary main_cst_38 main_v142 (broadcastInDim S4096 ![] bcast_S_S4096 : (⟨S_, .f32⟩ : BufTy).Contents (Elt F) → (⟨S4096, .f32⟩ : BufTy).Contents (Elt F)),
    binary main_v142 main_v101 main_v143 (subf : (⟨S4096, .f32⟩ : BufTy).Contents (Elt F) → (⟨S4096, .f32⟩ : BufTy).Contents (Elt F) → (⟨S4096, .f32⟩ : BufTy).Contents (Elt F)),
    nullary main_call10_cst (constant S_ .f32 0x00000000#32),
    unary main_call10_cst main_call10_v0 (broadcastInDim S4096 ![] bcast_S_S4096 : (⟨S_, .f32⟩ : BufTy).Contents (Elt F) → (⟨S4096, .f32⟩ : BufTy).Contents (Elt F)),
    binary main_v143 main_call10_v0 main_v144 (maximumf : (⟨S4096, .f32⟩ : BufTy).Contents (Elt F) → (⟨S4096, .f32⟩ : BufTy).Contents (Elt F) → (⟨S4096, .f32⟩ : BufTy).Contents (Elt F)),
    nullary main_cst_39 (constant S_ .f32 0x40000000#32),
    unary main_cst_39 main_v145 (broadcastInDim S4096 ![] bcast_S_S4096 : (⟨S_, .f32⟩ : BufTy).Contents (Elt F) → (⟨S4096, .f32⟩ : BufTy).Contents (Elt F)),
    binary main_v145 main_v144 main_v146 (mulf : (⟨S4096, .f32⟩ : BufTy).Contents (Elt F) → (⟨S4096, .f32⟩ : BufTy).Contents (Elt F) → (⟨S4096, .f32⟩ : BufTy).Contents (Elt F)),
    binary main_v141 main_v146 main_v147 (addf : (⟨S4096, .f32⟩ : BufTy).Contents (Elt F) → (⟨S4096, .f32⟩ : BufTy).Contents (Elt F) → (⟨S4096, .f32⟩ : BufTy).Contents (Elt F)) ]

/-- Window 12. -/
abbrev ops_12 : List (HloOp τ sig (Elt F)) :=
  [ nullary main_cst_40 (constant S_ .f32 0x40000000#32),
    unary main_cst_40 main_v148 (broadcastInDim S4096 ![] bcast_S_S4096 : (⟨S_, .f32⟩ : BufTy).Contents (Elt F) → (⟨S4096, .f32⟩ : BufTy).Contents (Elt F)),
    binary main_v148 main_v147 main_v149 (mulf : (⟨S4096, .f32⟩ : BufTy).Contents (Elt F) → (⟨S4096, .f32⟩ : BufTy).Contents (Elt F) → (⟨S4096, .f32⟩ : BufTy).Contents (Elt F)),
    unary main_v149 main_v150 (Host.negf : (⟨S4096, .f32⟩ : BufTy).Contents (Elt F) → (⟨S4096, .f32⟩ : BufTy).Contents (Elt F)),
    unary main_v150 main_v151 (Host.exp : (⟨S4096, .f32⟩ : BufTy).Contents (Elt F) → (⟨S4096, .f32⟩ : BufTy).Contents (Elt F)),
    nullary main_cst_41 (constant S_ .f32 0x3F800000#32),
    unary main_cst_41 main_v152 (broadcastInDim S4096 ![] bcast_S_S4096 : (⟨S_, .f32⟩ : BufTy).Contents (Elt F) → (⟨S4096, .f32⟩ : BufTy).Contents (Elt F)),
    binary main_v152 main_v151 main_v153 (addf : (⟨S4096, .f32⟩ : BufTy).Contents (Elt F) → (⟨S4096, .f32⟩ : BufTy).Contents (Elt F) → (⟨S4096, .f32⟩ : BufTy).Contents (Elt F)),
    nullary main_cst_42 (constant S_ .f32 0x3F800000#32),
    unary main_cst_42 main_v154 (broadcastInDim S4096 ![] bcast_S_S4096 : (⟨S_, .f32⟩ : BufTy).Contents (Elt F) → (⟨S4096, .f32⟩ : BufTy).Contents (Elt F)),
    binary main_v154 main_v153 main_v155 (Host.divf : (⟨S4096, .f32⟩ : BufTy).Contents (Elt F) → (⟨S4096, .f32⟩ : BufTy).Contents (Elt F) → (⟨S4096, .f32⟩ : BufTy).Contents (Elt F)),
    unary main_v155 main_v156 (broadcastInDim S4096x1 ![0] bcast_S4096_S4096x1_0 : (⟨S4096, .f32⟩ : BufTy).Contents (Elt F) → (⟨S4096x1, .f32⟩ : BufTy).Contents (Elt F)),
    nullary main_cst_43 (constant S_ .f32 0x3F800000#32),
    unary main_cst_43 main_v157 (broadcastInDim S4096x1 ![] bcast_S_S4096x1 : (⟨S_, .f32⟩ : BufTy).Contents (Elt F) → (⟨S4096x1, .f32⟩ : BufTy).Contents (Elt F)),
    binary main_v157 main_v156 main_v158 (subf : (⟨S4096x1, .f32⟩ : BufTy).Contents (Elt F) → (⟨S4096x1, .f32⟩ : BufTy).Contents (Elt F) → (⟨S4096x1, .f32⟩ : BufTy).Contents (Elt F)),
    unary main_v158 main_v159 (broadcastInDim S4096x24 ![0, 1] bcast_S4096x1_S4096x24_0_1 : (⟨S4096x1, .f32⟩ : BufTy).Contents (Elt F) → (⟨S4096x24, .f32⟩ : BufTy).Contents (Elt F)),
    binary main_v116 main_v159 main_v160 (mulf : (⟨S4096x24, .f32⟩ : BufTy).Contents (Elt F) → (⟨S4096x24, .f32⟩ : BufTy).Contents (Elt F) → (⟨S4096x24, .f32⟩ : BufTy).Contents (Elt F)),
    nullary main_c_44 (constantI S_ 32 23#32),
    unary main_c_44 main_v161 (broadcastInDim S1 ![] bcast_S_S1 : (⟨S_, .i32⟩ : BufTy).Contents (Elt F) → (⟨S1, .i32⟩ : BufTy).Contents (Elt F)),
    ternary main_v160 main_v161 main_v155 main_v162 ((fun x i u => Host.scatter scatter_S4096x24_S1_S4096_0_1_1_0 FloatOps.addf x i u) : (⟨S4096x24, .f32⟩ : BufTy).Contents (Elt F) → (⟨S1, .i32⟩ : BufTy).Contents (Elt F) → (⟨S4096, .f32⟩ : BufTy).Contents (Elt F) → (⟨S4096x24, .f32⟩ : BufTy).Contents (Elt F)),
    unary main_v162 main_v163 ((transpose S24x4096 [1, 0] · transposes_S4096x24_S24x4096_1_0) : (⟨S4096x24, .f32⟩ : BufTy).Contents (Elt F) → (⟨S24x4096, .f32⟩ : BufTy).Contents (Elt F)) ]

/-- Window 13. -/
abbrev ops_13 : List (HloOp τ sig (Elt F)) :=
  [ nullary main_c_45 (constantI S_ 32 0#32),
    unary main_v163 main_call11_v0 ((extractStridedSlice S1x4096 ![0, 0] · slices_S24x4096_S1x4096_0_0) : (⟨S24x4096, .f32⟩ : BufTy).Contents (Elt F) → (⟨S1x4096, .f32⟩ : BufTy).Contents (Elt F)),
    unary main_call11_v0 main_call11_v1 (broadcastInDim S1x0x4096 ![0, 2] bcast_S1x4096_S1x0x4096_0_2 : (⟨S1x4096, .f32⟩ : BufTy).Contents (Elt F) → (⟨S1x0x4096, .f32⟩ : BufTy).Contents (Elt F)),
    reshape main_call11_v1 main_call11_v2 (rfl : (.f32 : EltTy) = .f32) shapeCasts_S1x0x4096_S0x4096,
    unary main_v163 main_call11_v3 ((extractStridedSlice S1x4096 ![23, 0] · slices_S24x4096_S1x4096_23_0) : (⟨S24x4096, .f32⟩ : BufTy).Contents (Elt F) → (⟨S1x4096, .f32⟩ : BufTy).Contents (Elt F)),
    unary main_call11_v3 main_call11_v4 (broadcastInDim S1x0x4096 ![0, 2] bcast_S1x4096_S1x0x4096_0_2 : (⟨S1x4096, .f32⟩ : BufTy).Contents (Elt F) → (⟨S1x0x4096, .f32⟩ : BufTy).Contents (Elt F)),
    reshape main_call11_v4 main_call11_v5 (rfl : (.f32 : EltTy) = .f32) shapeCasts_S1x0x4096_S0x4096,
    nary ![main_call11_v2, main_v163, main_call11_v5] main_call11_v6 (fun u => fn_main_call11_v6 (F := F) (u 0) (u 1) (u 2)),
    unary main_call11_v6 main_call11_v7 ((extractStridedSlice S24x1 ![0, 0] · slices_S24x4096_S24x1_0_0) : (⟨S24x4096, .f32⟩ : BufTy).Contents (Elt F) → (⟨S24x1, .f32⟩ : BufTy).Contents (Elt F)),
    unary main_call11_v7 main_call11_v8 (broadcastInDim S24x1x2 ![0, 1] bcast_S24x1_S24x1x2_0_1 : (⟨S24x1, .f32⟩ : BufTy).Contents (Elt F) → (⟨S24x1x2, .f32⟩ : BufTy).Contents (Elt F)),
    reshape main_call11_v8 main_call11_v9 (rfl : (.f32 : EltTy) = .f32) shapeCasts_S24x1x2_S24x2,
    unary main_call11_v6 main_call11_v10 ((extractStridedSlice S24x1 ![0, 4095] · slices_S24x4096_S24x1_0_4095) : (⟨S24x4096, .f32⟩ : BufTy).Contents (Elt F) → (⟨S24x1, .f32⟩ : BufTy).Contents (Elt F)),
    unary main_call11_v10 main_call11_v11 (broadcastInDim S24x1x2 ![0, 1] bcast_S24x1_S24x1x2_0_1 : (⟨S24x1, .f32⟩ : BufTy).Contents (Elt F) → (⟨S24x1x2, .f32⟩ : BufTy).Contents (Elt F)),
    reshape main_call11_v11 main_call11_v12 (rfl : (.f32 : EltTy) = .f32) shapeCasts_S24x1x2_S24x2,
    nary ![main_call11_v9, main_call11_v6, main_call11_v12] main_v164 (fun u => fn_main_v164 (F := F) (u 0) (u 1) (u 2)) ]

/-- Window 14. -/
abbrev ops_14 : List (HloOp τ sig (Elt F)) :=
  [ unary main_v164 main_v165 ((extractStridedSlice S24x4096 ![0, 0] · slices_S24x4100_S24x4096_0_0) : (⟨S24x4100, .f32⟩ : BufTy).Contents (Elt F) → (⟨S24x4096, .f32⟩ : BufTy).Contents (Elt F)),
    unary main_v164 main_v166 ((extractStridedSlice S24x4096 ![0, 1] · slices_S24x4100_S24x4096_0_1) : (⟨S24x4100, .f32⟩ : BufTy).Contents (Elt F) → (⟨S24x4096, .f32⟩ : BufTy).Contents (Elt F)),
    unary main_v164 main_v167 ((extractStridedSlice S24x4096 ![0, 2] · slices_S24x4100_S24x4096_0_2) : (⟨S24x4100, .f32⟩ : BufTy).Contents (Elt F) → (⟨S24x4096, .f32⟩ : BufTy).Contents (Elt F)),
    unary main_v164 main_v168 ((extractStridedSlice S24x4096 ![0, 3] · slices_S24x4100_S24x4096_0_3) : (⟨S24x4100, .f32⟩ : BufTy).Contents (Elt F) → (⟨S24x4096, .f32⟩ : BufTy).Contents (Elt F)),
    unary main_v164 main_v169 ((extractStridedSlice S24x4096 ![0, 4] · slices_S24x4100_S24x4096_0_4) : (⟨S24x4100, .f32⟩ : BufTy).Contents (Elt F) → (⟨S24x4096, .f32⟩ : BufTy).Contents (Elt F)),
    unary main_v165 main_v170 (broadcastInDim S1x24x4096 ![1, 2] bcast_S24x4096_S1x24x4096_1_2 : (⟨S24x4096, .f32⟩ : BufTy).Contents (Elt F) → (⟨S1x24x4096, .f32⟩ : BufTy).Contents (Elt F)),
    unary main_v166 main_v171 (broadcastInDim S1x24x4096 ![1, 2] bcast_S24x4096_S1x24x4096_1_2 : (⟨S24x4096, .f32⟩ : BufTy).Contents (Elt F) → (⟨S1x24x4096, .f32⟩ : BufTy).Contents (Elt F)),
    unary main_v167 main_v172 (broadcastInDim S1x24x4096 ![1, 2] bcast_S24x4096_S1x24x4096_1_2 : (⟨S24x4096, .f32⟩ : BufTy).Contents (Elt F) → (⟨S1x24x4096, .f32⟩ : BufTy).Contents (Elt F)),
    unary main_v168 main_v173 (broadcastInDim S1x24x4096 ![1, 2] bcast_S24x4096_S1x24x4096_1_2 : (⟨S24x4096, .f32⟩ : BufTy).Contents (Elt F) → (⟨S1x24x4096, .f32⟩ : BufTy).Contents (Elt F)),
    unary main_v169 main_v174 (broadcastInDim S1x24x4096 ![1, 2] bcast_S24x4096_S1x24x4096_1_2 : (⟨S24x4096, .f32⟩ : BufTy).Contents (Elt F) → (⟨S1x24x4096, .f32⟩ : BufTy).Contents (Elt F)),
    nary ![main_v170, main_v171, main_v172, main_v173, main_v174] main_v175 (fun u => fn_main_v175 (F := F) (u 0) (u 1) (u 2) (u 3) (u 4)),
    nullary main_cst_46 (constant S_ .f32 0xFF800000#32),
    binary main_v175 main_cst_46 main_v176 ((fun x v => Host.reduce FloatOps.maximumf x v reducesTo_S5x24x4096_S24x4096_d0 h_S_) : (⟨S5x24x4096, .f32⟩ : BufTy).Contents (Elt F) → (⟨S_, .f32⟩ : BufTy).Contents (Elt F) → (⟨S24x4096, .f32⟩ : BufTy).Contents (Elt F)),
    nullary main_call12_v0 (iotaInDim S24x4096 32 0),
    nullary main_call12_cst (constant S_ .f32 0xFF800000#32),
    nullary main_call12_c (constantI S_ 32 0#32),
    quaternary main_v176 main_call12_v0 main_call12_cst main_call12_c main_call12_v1_0 ((fun x y u v j => (Host.argReduce reducer_argmax_f32_i32 x y u v reducesTo_S24x4096_S4096_d0 h_S_ j).1) : (⟨S24x4096, .f32⟩ : BufTy).Contents (Elt F) → (⟨S24x4096, .i32⟩ : BufTy).Contents (Elt F) → (⟨S_, .f32⟩ : BufTy).Contents (Elt F) → (⟨S_, .i32⟩ : BufTy).Contents (Elt F) → (⟨S4096, .f32⟩ : BufTy).Contents (Elt F)),
    quaternary main_v176 main_call12_v0 main_call12_cst main_call12_c main_v177 ((fun x y u v j => (Host.argReduce reducer_argmax_f32_i32 x y u v reducesTo_S24x4096_S4096_d0 h_S_ j).2) : (⟨S24x4096, .f32⟩ : BufTy).Contents (Elt F) → (⟨S24x4096, .i32⟩ : BufTy).Contents (Elt F) → (⟨S_, .f32⟩ : BufTy).Contents (Elt F) → (⟨S_, .i32⟩ : BufTy).Contents (Elt F) → (⟨S4096, .i32⟩ : BufTy).Contents (Elt F)),
    nullary main_c_47 (constantI S_ 32 0#32),
    unary main_c_47 main_v178 (broadcastInDim S4096 ![] bcast_S_S4096 : (⟨S_, .i32⟩ : BufTy).Contents (Elt F) → (⟨S4096, .i32⟩ : BufTy).Contents (Elt F)),
    binary main_v177 main_v178 main_v179 (cmpi .ne : (⟨S4096, .i32⟩ : BufTy).Contents (Elt F) → (⟨S4096, .i32⟩ : BufTy).Contents (Elt F) → (⟨S4096, .i1⟩ : BufTy).Contents (Elt F)),
    unary main_v179 main_v180 (uitofp .f32 : (⟨S4096, .i1⟩ : BufTy).Contents (Elt F) → (⟨S4096, .f32⟩ : BufTy).Contents (Elt F)) ]

variable (V : Valuation τ sig (Elt F))

def part_0 : List (HloOp τ sig (Elt F)) := ops_0 ++ (ops_1 ++ (ops_2 ++ (ops_3)))
def part_1 : List (HloOp τ sig (Elt F)) := ops_4 ++ (ops_5 ++ (ops_6 ++ (ops_7)))
def part_2 : List (HloOp τ sig (Elt F)) := ops_8 ++ (ops_9 ++ (ops_10))
def part_3 : List (HloOp τ sig (Elt F)) := ops_11 ++ (ops_12 ++ (ops_13 ++ (ops_14)))
/-- The operations of `main`, in order. -/
def ops : List (HloOp τ sig (Elt F)) := part_0 ++ (part_1 ++ (part_2 ++ part_3))

set_option maxRecDepth 8192 in
set_option maxHeartbeats 4000000 in
theorem main_part0_eq (c : Dev nD) : main_part0 (F := F) c = seq part_0 := rfl
set_option maxRecDepth 8192 in
set_option maxHeartbeats 4000000 in
theorem main_part1_eq (c : Dev nD) : main_part1 (F := F) c = seq part_1 := rfl
set_option maxRecDepth 8192 in
set_option maxHeartbeats 4000000 in
theorem main_part2_eq (c : Dev nD) : main_part2 (F := F) c = seq part_2 := rfl
set_option maxRecDepth 8192 in
set_option maxHeartbeats 4000000 in
theorem main_part3_eq (c : Dev nD) : main_part3 (F := F) c = seq part_3 := rfl
set_option maxRecDepth 8192 in
/-- `main` runs the operations in order. -/
theorem main_eq (c : Dev nD) : main (F := F) c = seq ops := by
  simp only [ops, seq_append, ← main_part0_eq c, ← main_part1_eq c, ← main_part2_eq c, ← main_part3_eq c]
  rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_0_sub : (ops_0 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem ops_0_fresh : (ops_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
theorem ops_1_sub : (ops_1 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem ops_1_fresh : (ops_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
theorem ops_2_sub : (ops_2 : List (HloOp τ sig (Elt F))).Forall fun op => op.bufs ⊆ tcRefs τ sig :=
  ⟨binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
set_option maxRecDepth 8192 in
theorem ops_2_fresh : (ops_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
set_option maxRecDepth 8192 in
theorem ops_3_sub : (ops_3 : List (HloOp τ sig (Elt F))).Forall fun op => op.bufs ⊆ tcRefs τ sig :=
  ⟨binary_bufs_sub .., nullary_bufs_sub .., binary_bufs_sub .., unary_bufs_sub .., nullary_bufs_sub .., nullary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub ..⟩
set_option maxRecDepth 8192 in
theorem ops_3_fresh : (ops_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_4_sub : (ops_4 : List (HloOp τ sig (Elt F))).Forall fun op => op.bufs ⊆ tcRefs τ sig :=
  ⟨unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub ..⟩
set_option maxRecDepth 8192 in
theorem ops_4_fresh : (ops_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_5_sub : (ops_5 : List (HloOp τ sig (Elt F))).Forall fun op => op.bufs ⊆ tcRefs τ sig :=
  ⟨nullary_bufs_sub .., binary_bufs_sub .., unary_bufs_sub .., unary_bufs_sub .., binary_bufs_sub .., unary_bufs_sub .., unary_bufs_sub .., nullary_bufs_sub .., unary_bufs_sub .., binary_bufs_sub ..⟩
set_option maxRecDepth 8192 in
theorem ops_5_fresh : (ops_5 : List (HloOp τ sig (Elt F))).Forall fun op => op.fresh = ∅ :=
  ⟨rfl, rfl, rfl, rfl, rfl, rfl, rfl, rfl, rfl, rfl⟩
set_option maxRecDepth 8192 in
theorem ops_6_sub : (ops_6 : List (HloOp τ sig (Elt F))).Forall fun op => op.bufs ⊆ tcRefs τ sig :=
  ⟨binary_bufs_sub .., nullary_bufs_sub .., unary_bufs_sub .., binary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub .., binary_bufs_sub .., ternary_bufs_sub ..⟩
set_option maxRecDepth 8192 in
theorem ops_6_fresh : (ops_6 : List (HloOp τ sig (Elt F))).Forall fun op => op.fresh = ∅ :=
  ⟨rfl, rfl, rfl, rfl, rfl, rfl, rfl, rfl, rfl, rfl, rfl, rfl, rfl, rfl, rfl, rfl, rfl⟩
set_option maxRecDepth 8192 in
theorem ops_7_sub : (ops_7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub ..⟩
set_option maxRecDepth 8192 in
theorem ops_7_fresh : (ops_7 : List (HloOp τ sig (Elt F))).Forall fun op => op.fresh = ∅ :=
  ⟨rfl, rfl, rfl, rfl, rfl, rfl, rfl, rfl, rfl, rfl, rfl, rfl⟩
set_option maxRecDepth 8192 in
theorem ops_8_sub : (ops_8 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., binary_bufs_sub .., nullary_bufs_sub ..⟩
set_option maxRecDepth 8192 in
theorem ops_8_fresh : (ops_8 : List (HloOp τ sig (Elt F))).Forall fun op => op.fresh = ∅ :=
  ⟨rfl, rfl, rfl, rfl, rfl, rfl, rfl, rfl, rfl, rfl, rfl, rfl, rfl, rfl⟩
set_option maxRecDepth 8192 in
theorem ops_9_sub : (ops_9 : List (HloOp τ sig (Elt F))).Forall fun op => op.bufs ⊆ tcRefs τ sig :=
  ⟨unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩
set_option maxRecDepth 8192 in
theorem ops_9_fresh : (ops_9 : List (HloOp τ sig (Elt F))).Forall fun op => op.fresh = ∅ :=
  ⟨rfl, rfl, rfl, rfl, rfl, rfl, rfl, rfl, rfl, rfl, rfl, rfl, rfl, rfl, rfl, rfl⟩
set_option maxRecDepth 8192 in
theorem ops_10_sub : (ops_10 : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., unary_bufs_sub .., nullary_bufs_sub .., unary_bufs_sub .., unary_bufs_sub .., unary_bufs_sub .., binary_bufs_sub .., nullary_bufs_sub .., binary_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_10_fresh : (ops_10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_11_sub : (ops_11 : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub ..⟩
set_option maxRecDepth 8192 in
theorem ops_11_fresh : (ops_11 : List (HloOp τ sig (Elt F))).Forall fun op => op.fresh = ∅ :=
  ⟨rfl, rfl, rfl, rfl, rfl, rfl, rfl, rfl, rfl, rfl, rfl, rfl, rfl, rfl⟩
set_option maxRecDepth 8192 in
theorem ops_12_sub : (ops_12 : List (HloOp τ sig (Elt F))).Forall fun op => op.bufs ⊆ tcRefs τ sig :=
  ⟨nullary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., binary_bufs_sub .., nullary_bufs_sub .., unary_bufs_sub .., ternary_bufs_sub .., unary_bufs_sub ..⟩
set_option maxRecDepth 8192 in
theorem ops_12_fresh : (ops_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
set_option maxRecDepth 8192 in
theorem ops_13_sub : (ops_13 : List (HloOp τ sig (Elt F))).Forall fun op => op.bufs ⊆ tcRefs τ sig :=
  ⟨nullary_bufs_sub .., unary_bufs_sub .., unary_bufs_sub .., reshape_bufs_sub .., unary_bufs_sub .., unary_bufs_sub .., reshape_bufs_sub .., nary_bufs_sub .., unary_bufs_sub .., unary_bufs_sub .., reshape_bufs_sub .., unary_bufs_sub .., unary_bufs_sub .., reshape_bufs_sub .., nary_bufs_sub ..⟩
set_option maxRecDepth 8192 in
theorem ops_13_fresh : (ops_13 : List (HloOp τ sig (Elt F))).Forall fun op => op.fresh = ∅ :=
  ⟨rfl, rfl, rfl, rfl, rfl, rfl, rfl, rfl, rfl, rfl, rfl, rfl, rfl, rfl, rfl⟩
set_option maxRecDepth 8192 in
theorem ops_14_sub : (ops_14 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., unary_bufs_sub ..⟩
set_option maxRecDepth 8192 in
theorem ops_14_fresh : (ops_14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, part_0, part_1, part_2, part_3, List.mem_append, or_assoc] at h
    rcases h with h | h | h | h | h | h | h | h | h | h | h | h | h | h | h
    exacts [List.forall_iff_forall_mem.mp ops_0_sub op h, List.forall_iff_forall_mem.mp ops_1_sub op h, List.forall_iff_forall_mem.mp ops_2_sub op h, List.forall_iff_forall_mem.mp ops_3_sub op h, List.forall_iff_forall_mem.mp ops_4_sub op h, List.forall_iff_forall_mem.mp ops_5_sub op h, List.forall_iff_forall_mem.mp ops_6_sub op h, List.forall_iff_forall_mem.mp ops_7_sub op h, List.forall_iff_forall_mem.mp ops_8_sub op h, List.forall_iff_forall_mem.mp ops_9_sub op h, List.forall_iff_forall_mem.mp ops_10_sub op h, List.forall_iff_forall_mem.mp ops_11_sub op h, List.forall_iff_forall_mem.mp ops_12_sub op h, List.forall_iff_forall_mem.mp ops_13_sub op h, List.forall_iff_forall_mem.mp ops_14_sub op h]
theorem ops_fresh : ∀ op ∈ (ops : List (HloOp τ sig (Elt F))), op.fresh = ∅ := fun op h => by
    simp only [ops, part_0, part_1, part_2, part_3, List.mem_append, or_assoc] at h
    rcases h with h | h | h | h | h | h | h | h | h | h | h | h | h | h | h
    exacts [List.forall_iff_forall_mem.mp ops_0_fresh op h, List.forall_iff_forall_mem.mp ops_1_fresh op h, List.forall_iff_forall_mem.mp ops_2_fresh op h, List.forall_iff_forall_mem.mp ops_3_fresh op h, List.forall_iff_forall_mem.mp ops_4_fresh op h, List.forall_iff_forall_mem.mp ops_5_fresh op h, List.forall_iff_forall_mem.mp ops_6_fresh op h, List.forall_iff_forall_mem.mp ops_7_fresh op h, List.forall_iff_forall_mem.mp ops_8_fresh op h, List.forall_iff_forall_mem.mp ops_9_fresh op h, List.forall_iff_forall_mem.mp ops_10_fresh op h, List.forall_iff_forall_mem.mp ops_11_fresh op h, List.forall_iff_forall_mem.mp ops_12_fresh op h, List.forall_iff_forall_mem.mp ops_13_fresh op h, List.forall_iff_forall_mem.mp ops_14_fresh op h]

/-- The arguments' buffers. -/
abbrev args : List (Ref sig .tc) := [main_arg0, main_arg1, main_arg2, main_arg3, main_arg4, main_arg5, main_arg6]
/-- The contents before the first window. -/
def st_0 : Valuation τ sig (Elt F) := V
theorem st_0_arg (r : Ref sig .tc) (_ : r ∈ args) : st_0 V (no_index (Proc.devRef .tc r)) = V (Proc.devRef .tc r) := rfl

/-- The contents after window 0. -/
def st_1 : Valuation τ sig (Elt F) := after ops_0 (st_0 V)
/-- The buffers window 0 writes. -/
abbrev wr_0 : List (Ref sig .tc) := [main_call0_v0, main_call0_cst, main_call0_v1, main_call0_v2, main_v0, main_cst, main_v1, main_v2, main_v3, main_v4, main_call1_v0, main_call1_cst, main_call1_v1, main_call1_v2, main_v5, main_cst_0, main_v6, main_v7, main_v8, main_v9]
set_option maxRecDepth 8192 in
theorem ops_0_writes : (ops_0 : List (HloOp τ sig (Elt F))).Forall fun op => op.writes ⊆ (wr_0.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 0 does not write keeps its contents through it. -/
theorem st_1_keep (r : Ref sig .tc) (h : r ∉ wr_0) : st_1 V (Proc.devRef .tc r) = st_0 V (Proc.devRef .tc r) :=
  after_of_writes_sub ops_0 _ ops_0_writes h
theorem wr_0_args : ∀ r ∈ args, r ∉ wr_0 := by decide
theorem st_1_arg (r : Ref sig .tc) (h : r ∈ args) : st_1 V (no_index (Proc.devRef .tc r)) = V (Proc.devRef .tc r) :=
  (st_1_keep V r (wr_0_args r h)).trans (st_0_arg V r h)
set_option maxRecDepth 8192 in
set_option maxHeartbeats 2000000 in
theorem st_1_v4 : st_1 V (no_index (Proc.devRef .tc main_v4)) = val_v4 V := by
  unfold st_1
  simp only [ops_0]
  after_results_simp
  try simp only [st_0_arg V main_arg5 (by decide), st_0_arg V main_arg6 (by decide)]
  all_goals rfl
set_option maxRecDepth 8192 in
set_option maxHeartbeats 2000000 in
theorem st_1_v9 : st_1 V (no_index (Proc.devRef .tc main_v9)) = val_v9 V := by
  unfold st_1
  simp only [ops_0]
  after_results_simp
  try simp only [st_0_arg V main_arg5 (by decide), st_0_arg V main_arg6 (by decide)]
  all_goals rfl

/-- The contents after window 1. -/
def st_2 : Valuation τ sig (Elt F) := after ops_1 (st_1 V)
/-- The buffers window 1 writes. -/
abbrev wr_1 : List (Ref sig .tc) := [main_call2_v0, main_call2_cst, main_call2_v1, main_call2_v2, main_v10, main_cst_1, main_v11, main_v12, main_v13, main_v14, main_call3_v0, main_call3_cst, main_call3_v1, main_call3_v2, main_v15, main_cst_2, main_v16, main_v17, main_v18, main_v19]
set_option maxRecDepth 8192 in
theorem ops_1_writes : (ops_1 : List (HloOp τ sig (Elt F))).Forall fun op => op.writes ⊆ (wr_1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 1 does not write keeps its contents through it. -/
theorem st_2_keep (r : Ref sig .tc) (h : r ∉ wr_1) : st_2 V (Proc.devRef .tc r) = st_1 V (Proc.devRef .tc r) :=
  after_of_writes_sub ops_1 _ ops_1_writes h
theorem wr_1_args : ∀ r ∈ args, r ∉ wr_1 := by decide
theorem st_2_arg (r : Ref sig .tc) (h : r ∈ args) : st_2 V (no_index (Proc.devRef .tc r)) = V (Proc.devRef .tc r) :=
  (st_2_keep V r (wr_1_args r h)).trans (st_1_arg V r h)
theorem st_2_v4 : st_2 V (no_index (Proc.devRef .tc main_v4)) = val_v4 V :=
  (st_2_keep V main_v4 (by decide)).trans (st_1_v4 V)
theorem st_2_v9 : st_2 V (no_index (Proc.devRef .tc main_v9)) = val_v9 V :=
  (st_2_keep V main_v9 (by decide)).trans (st_1_v9 V)
set_option maxRecDepth 8192 in
set_option maxHeartbeats 2000000 in
theorem st_2_v14 : st_2 V (no_index (Proc.devRef .tc main_v14)) = val_v14 V := by
  unfold st_2
  simp only [ops_1]
  after_results_simp
  try simp only [st_1_arg V main_arg0 (by decide), st_1_arg V main_arg1 (by decide)]
  all_goals rfl
set_option maxRecDepth 8192 in
set_option maxHeartbeats 2000000 in
theorem st_2_v19 : st_2 V (no_index (Proc.devRef .tc main_v19)) = val_v19 V := by
  unfold st_2
  simp only [ops_1]
  after_results_simp
  try simp only [st_1_arg V main_arg0 (by decide), st_1_arg V main_arg1 (by decide)]
  all_goals rfl

/-- The contents after window 2. -/
def st_3 : Valuation τ sig (Elt F) := after ops_2 (st_2 V)
/-- The buffers window 2 writes. -/
abbrev wr_2 : List (Ref sig .tc) := [main_call4_v0, main_call4_cst, main_call4_v1, main_call4_v2, main_v20, main_cst_3, main_v21, main_v22, main_v23, main_v24, main_call5_v0, main_call5_cst, main_call5_v1, main_call5_v2, main_v25, main_cst_4, main_v26, main_v27, main_v28, main_v29]
set_option maxRecDepth 8192 in
theorem ops_2_writes : (ops_2 : List (HloOp τ sig (Elt F))).Forall fun op => op.writes ⊆ (wr_2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 2 does not write keeps its contents through it. -/
theorem st_3_keep (r : Ref sig .tc) (h : r ∉ wr_2) : st_3 V (Proc.devRef .tc r) = st_2 V (Proc.devRef .tc r) :=
  after_of_writes_sub ops_2 _ ops_2_writes h
theorem wr_2_args : ∀ r ∈ args, r ∉ wr_2 := by decide
theorem st_3_arg (r : Ref sig .tc) (h : r ∈ args) : st_3 V (no_index (Proc.devRef .tc r)) = V (Proc.devRef .tc r) :=
  (st_3_keep V r (wr_2_args r h)).trans (st_2_arg V r h)
theorem st_3_v4 : st_3 V (no_index (Proc.devRef .tc main_v4)) = val_v4 V :=
  (st_3_keep V main_v4 (by decide)).trans (st_2_v4 V)
theorem st_3_v9 : st_3 V (no_index (Proc.devRef .tc main_v9)) = val_v9 V :=
  (st_3_keep V main_v9 (by decide)).trans (st_2_v9 V)
theorem st_3_v14 : st_3 V (no_index (Proc.devRef .tc main_v14)) = val_v14 V :=
  (st_3_keep V main_v14 (by decide)).trans (st_2_v14 V)
theorem st_3_v19 : st_3 V (no_index (Proc.devRef .tc main_v19)) = val_v19 V :=
  (st_3_keep V main_v19 (by decide)).trans (st_2_v19 V)
set_option maxRecDepth 8192 in
set_option maxHeartbeats 2000000 in
theorem st_3_v24 : st_3 V (no_index (Proc.devRef .tc main_v24)) = val_v24 V := by
  unfold st_3
  simp only [ops_2]
  after_results_simp
  try simp only [st_2_arg V main_arg2 (by decide), st_2_arg V main_arg3 (by decide)]
  all_goals rfl
set_option maxRecDepth 8192 in
set_option maxHeartbeats 2000000 in
theorem st_3_v29 : st_3 V (no_index (Proc.devRef .tc main_v29)) = val_v29 V := by
  unfold st_3
  simp only [ops_2]
  after_results_simp
  try simp only [st_2_arg V main_arg2 (by decide), st_2_arg V main_arg3 (by decide)]
  all_goals rfl

/-- The contents after window 3. -/
def st_4 : Valuation τ sig (Elt F) := after ops_3 (st_3 V)
/-- The buffers window 3 writes. -/
abbrev wr_3 : List (Ref sig .tc) := [main_call6_v0, main_call6_cst, main_call6_v1, main_v30, main_cst_5, main_cst_6, main_v31, main_v32, main_v33, main_v34, main_v35, main_v36, main_cst_7, main_cst_8, main_call7_v0, main_call7_v1, main_call7_v2, main_call7_v3, main_call7_v4, main_v37, main_cst_9, main_v38, main_v39, main_v40, main_v41, main_cst_10, main_v42, main_v43, main_cst_11, main_v44, main_v45, main_v46]
set_option maxRecDepth 8192 in
theorem ops_3_writes : (ops_3 : List (HloOp τ sig (Elt F))).Forall fun op => op.writes ⊆ (wr_3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 3 does not write keeps its contents through it. -/
theorem st_4_keep (r : Ref sig .tc) (h : r ∉ wr_3) : st_4 V (Proc.devRef .tc r) = st_3 V (Proc.devRef .tc r) :=
  after_of_writes_sub ops_3 _ ops_3_writes h
theorem wr_3_args : ∀ r ∈ args, r ∉ wr_3 := by decide
theorem st_4_arg (r : Ref sig .tc) (h : r ∈ args) : st_4 V (no_index (Proc.devRef .tc r)) = V (Proc.devRef .tc r) :=
  (st_4_keep V r (wr_3_args r h)).trans (st_3_arg V r h)
theorem st_4_v4 : st_4 V (no_index (Proc.devRef .tc main_v4)) = val_v4 V :=
  (st_4_keep V main_v4 (by decide)).trans (st_3_v4 V)
theorem st_4_v9 : st_4 V (no_index (Proc.devRef .tc main_v9)) = val_v9 V :=
  (st_4_keep V main_v9 (by decide)).trans (st_3_v9 V)
set_option maxRecDepth 8192 in
set_option maxHeartbeats 2000000 in
theorem st_4_v40 : st_4 V (no_index (Proc.devRef .tc main_v40)) = val_v40 V := by
  unfold st_4
  simp only [ops_3]
  after_results_simp
  try simp only [st_3_v14, st_3_v19, st_3_v24, st_3_v29, st_3_arg V main_arg4 (by decide)]
  all_goals rfl
set_option maxRecDepth 8192 in
set_option maxHeartbeats 2000000 in
theorem st_4_v41 : st_4 V (no_index (Proc.devRef .tc main_v41)) = val_v41 V := by
  unfold st_4
  simp only [ops_3]
  after_results_simp
  try simp only [st_3_v14, st_3_v19, st_3_v24, st_3_v29, st_3_arg V main_arg4 (by decide)]
  all_goals rfl
set_option maxRecDepth 8192 in
set_option maxHeartbeats 2000000 in
theorem st_4_v46 : st_4 V (no_index (Proc.devRef .tc main_v46)) = val_v46 V := by
  unfold st_4
  simp only [ops_3]
  after_results_simp
  try simp only [st_3_v14, st_3_v19, st_3_v24, st_3_v29, st_3_arg V main_arg4 (by decide)]
  all_goals rfl

/-- The contents after window 4. -/
def st_5 : Valuation τ sig (Elt F) := after ops_4 (st_4 V)
/-- The buffers window 4 writes. -/
abbrev wr_4 : List (Ref sig .tc) := [main_v47, main_v48, main_v49, main_call8_v0, main_call8_cst, main_call8_v1, main_call8_v2, main_v50, main_cst_12, main_v51, main_v52, main_v53, main_v54, main_v55, main_v56, main_cst_13, main_v57, main_v58, main_cst_14, main_v59, main_cst_15, main_v60, main_v61, main_v62, main_v63, main_v64, main_v65]
set_option maxRecDepth 8192 in
theorem ops_4_writes : (ops_4 : List (HloOp τ sig (Elt F))).Forall fun op => op.writes ⊆ (wr_4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 4 does not write keeps its contents through it. -/
theorem st_5_keep (r : Ref sig .tc) (h : r ∉ wr_4) : st_5 V (Proc.devRef .tc r) = st_4 V (Proc.devRef .tc r) :=
  after_of_writes_sub ops_4 _ ops_4_writes h
theorem wr_4_args : ∀ r ∈ args, r ∉ wr_4 := by decide
theorem st_5_arg (r : Ref sig .tc) (h : r ∈ args) : st_5 V (no_index (Proc.devRef .tc r)) = V (Proc.devRef .tc r) :=
  (st_5_keep V r (wr_4_args r h)).trans (st_4_arg V r h)
theorem st_5_v9 : st_5 V (no_index (Proc.devRef .tc main_v9)) = val_v9 V :=
  (st_5_keep V main_v9 (by decide)).trans (st_4_v9 V)
set_option maxRecDepth 8192 in
set_option maxHeartbeats 2000000 in
theorem st_5_v54 : st_5 V (no_index (Proc.devRef .tc main_v54)) = val_v54 V := by
  unfold st_5
  simp only [ops_4]
  after_results_simp
  try simp only [st_4_v4, st_4_v40, st_4_v41, st_4_v46]
  all_goals rfl
set_option maxRecDepth 8192 in
set_option maxHeartbeats 2000000 in
theorem st_5_v56 : st_5 V (no_index (Proc.devRef .tc main_v56)) = val_v56 V := by
  unfold st_5
  simp only [ops_4]
  after_results_simp
  try simp only [st_4_v4, st_4_v40, st_4_v41, st_4_v46]
  all_goals rfl
set_option maxRecDepth 8192 in
set_option maxHeartbeats 2000000 in
theorem st_5_v65 : st_5 V (no_index (Proc.devRef .tc main_v65)) = val_v65 V := by
  unfold st_5
  simp only [ops_4]
  after_results_simp
  try simp only [st_4_v4, st_4_v40, st_4_v41, st_4_v46]
  all_goals rfl

/-- The contents after window 5. -/
def st_6 : Valuation τ sig (Elt F) := after ops_5 (st_5 V)
/-- The buffers window 5 writes. -/
abbrev wr_5 : List (Ref sig .tc) := [main_cst_16, main_v66, main_v67, main_v68, main_v69, main_values, main_indices, main_call9_call0_cst, main_call9_call0_v0, main_v70]
set_option maxRecDepth 8192 in
theorem ops_5_writes : (ops_5 : List (HloOp τ sig (Elt F))).Forall fun op => op.writes ⊆ (wr_5.map (Proc.devRef (τ := τ) .tc)).toFinset := by
  simp only [List.Forall]
  refine ⟨?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 5 does not write keeps its contents through it. -/
theorem st_6_keep (r : Ref sig .tc) (h : r ∉ wr_5) : st_6 V (Proc.devRef .tc r) = st_5 V (Proc.devRef .tc r) :=
  after_of_writes_sub ops_5 _ ops_5_writes h
theorem wr_5_args : ∀ r ∈ args, r ∉ wr_5 := by decide
theorem st_6_arg (r : Ref sig .tc) (h : r ∈ args) : st_6 V (no_index (Proc.devRef .tc r)) = V (Proc.devRef .tc r) :=
  (st_6_keep V r (wr_5_args r h)).trans (st_5_arg V r h)
theorem st_6_v9 : st_6 V (no_index (Proc.devRef .tc main_v9)) = val_v9 V :=
  (st_6_keep V main_v9 (by decide)).trans (st_5_v9 V)
theorem st_6_v54 : st_6 V (no_index (Proc.devRef .tc main_v54)) = val_v54 V :=
  (st_6_keep V main_v54 (by decide)).trans (st_5_v54 V)
theorem st_6_v56 : st_6 V (no_index (Proc.devRef .tc main_v56)) = val_v56 V :=
  (st_6_keep V main_v56 (by decide)).trans (st_5_v56 V)
set_option maxRecDepth 8192 in
set_option maxHeartbeats 2000000 in
theorem st_6_v69 : st_6 V (no_index (Proc.devRef .tc main_v69)) = val_v69 V := by
  unfold st_6
  simp only [ops_5]
  after_results_simp
  try simp only [st_5_v65]
  all_goals rfl
set_option maxRecDepth 8192 in
set_option maxHeartbeats 2000000 in
theorem st_6_values : st_6 V (no_index (Proc.devRef .tc main_values)) = val_values V := by
  unfold st_6
  simp only [ops_5]
  after_results_simp
  try simp only [st_5_v65]
  all_goals rfl
set_option maxRecDepth 8192 in
set_option maxHeartbeats 2000000 in
theorem st_6_indices : st_6 V (no_index (Proc.devRef .tc main_indices)) = val_indices V := by
  unfold st_6
  simp only [ops_5]
  after_results_simp
  try simp only [st_5_v65]
  all_goals rfl
set_option maxRecDepth 8192 in
set_option maxHeartbeats 2000000 in
theorem st_6_v70 : st_6 V (no_index (Proc.devRef .tc main_v70)) = val_v70 V := by
  unfold st_6
  simp only [ops_5]
  after_results_simp
  try simp only [st_5_v65]
  all_goals rfl

/-- The contents after window 6. -/
def st_7 : Valuation τ sig (Elt F) := after ops_6 (st_6 V)
/-- The buffers window 6 writes. -/
abbrev wr_6 : List (Ref sig .tc) := [main_v71, main_cst_17, main_v72, main_v73, main_v74, main_v75, main_cst_18, main_v76, main_v77, main_v78, main_c, main_v79, main_v80, main_c_19, main_v81, main_v82, main_v83]
set_option maxRecDepth 8192 in
theorem ops_6_writes : (ops_6 : List (HloOp τ sig (Elt F))).Forall fun op => op.writes ⊆ (wr_6.map (Proc.devRef (τ := τ) .tc)).toFinset := by
  simp only [List.Forall]
  refine ⟨?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 6 does not write keeps its contents through it. -/
theorem st_7_keep (r : Ref sig .tc) (h : r ∉ wr_6) : st_7 V (Proc.devRef .tc r) = st_6 V (Proc.devRef .tc r) :=
  after_of_writes_sub ops_6 _ ops_6_writes h
theorem wr_6_args : ∀ r ∈ args, r ∉ wr_6 := by decide
theorem st_7_arg (r : Ref sig .tc) (h : r ∈ args) : st_7 V (no_index (Proc.devRef .tc r)) = V (Proc.devRef .tc r) :=
  (st_7_keep V r (wr_6_args r h)).trans (st_6_arg V r h)
theorem st_7_v9 : st_7 V (no_index (Proc.devRef .tc main_v9)) = val_v9 V :=
  (st_7_keep V main_v9 (by decide)).trans (st_6_v9 V)
theorem st_7_v54 : st_7 V (no_index (Proc.devRef .tc main_v54)) = val_v54 V :=
  (st_7_keep V main_v54 (by decide)).trans (st_6_v54 V)
theorem st_7_v56 : st_7 V (no_index (Proc.devRef .tc main_v56)) = val_v56 V :=
  (st_7_keep V main_v56 (by decide)).trans (st_6_v56 V)
theorem st_7_v69 : st_7 V (no_index (Proc.devRef .tc main_v69)) = val_v69 V :=
  (st_7_keep V main_v69 (by decide)).trans (st_6_v69 V)
theorem st_7_indices : st_7 V (no_index (Proc.devRef .tc main_indices)) = val_indices V :=
  (st_7_keep V main_indices (by decide)).trans (st_6_indices V)
set_option maxRecDepth 8192 in
set_option maxHeartbeats 2000000 in
theorem st_7_v75 : st_7 V (no_index (Proc.devRef .tc main_v75)) = val_v75 V := by
  unfold st_7
  simp only [ops_6]
  after_results_simp
  try simp only [st_6_values, st_6_v70]
  all_goals rfl
set_option maxRecDepth 8192 in
set_option maxHeartbeats 2000000 in
theorem st_7_v76 : st_7 V (no_index (Proc.devRef .tc main_v76)) = val_v76 V := by
  unfold st_7
  simp only [ops_6]
  after_results_simp
  try simp only [st_6_values, st_6_v70]
  all_goals rfl
set_option maxRecDepth 8192 in
set_option maxHeartbeats 2000000 in
theorem st_7_v83 : st_7 V (no_index (Proc.devRef .tc main_v83)) = val_v83 V := by
  unfold st_7
  simp only [ops_6]
  after_results_simp
  try simp only [st_6_values, st_6_v70]
  all_goals rfl

/-- The contents after window 7. -/
def st_8 : Valuation τ sig (Elt F) := after ops_7 (st_7 V)
/-- The buffers window 7 writes. -/
abbrev wr_7 : List (Ref sig .tc) := [main_c_20, main_v84, main_v85, main_c_21, main_v86, main_v87, main_v88, main_v89, main_v90, main_v91, main_v92, main_v93]
set_option maxRecDepth 8192 in
theorem ops_7_writes : (ops_7 : List (HloOp τ sig (Elt F))).Forall fun op => op.writes ⊆ (wr_7.map (Proc.devRef (τ := τ) .tc)).toFinset := by
  simp only [List.Forall]
  refine ⟨?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 7 does not write keeps its contents through it. -/
theorem st_8_keep (r : Ref sig .tc) (h : r ∉ wr_7) : st_8 V (Proc.devRef .tc r) = st_7 V (Proc.devRef .tc r) :=
  after_of_writes_sub ops_7 _ ops_7_writes h
theorem wr_7_args : ∀ r ∈ args, r ∉ wr_7 := by decide
theorem st_8_arg (r : Ref sig .tc) (h : r ∈ args) : st_8 V (no_index (Proc.devRef .tc r)) = V (Proc.devRef .tc r) :=
  (st_8_keep V r (wr_7_args r h)).trans (st_7_arg V r h)
theorem st_8_v9 : st_8 V (no_index (Proc.devRef .tc main_v9)) = val_v9 V :=
  (st_8_keep V main_v9 (by decide)).trans (st_7_v9 V)
theorem st_8_v54 : st_8 V (no_index (Proc.devRef .tc main_v54)) = val_v54 V :=
  (st_8_keep V main_v54 (by decide)).trans (st_7_v54 V)
theorem st_8_v56 : st_8 V (no_index (Proc.devRef .tc main_v56)) = val_v56 V :=
  (st_8_keep V main_v56 (by decide)).trans (st_7_v56 V)
theorem st_8_v69 : st_8 V (no_index (Proc.devRef .tc main_v69)) = val_v69 V :=
  (st_8_keep V main_v69 (by decide)).trans (st_7_v69 V)
set_option maxRecDepth 8192 in
set_option maxHeartbeats 2000000 in
theorem st_8_v93 : st_8 V (no_index (Proc.devRef .tc main_v93)) = val_v93 V := by
  unfold st_8
  simp only [ops_7]
  after_results_simp
  try simp only [st_7_indices, st_7_v75, st_7_v76, st_7_v83]
  all_goals rfl

/-- The contents after window 8. -/
def st_9 : Valuation τ sig (Elt F) := after ops_8 (st_8 V)
/-- The buffers window 8 writes. -/
abbrev wr_8 : List (Ref sig .tc) := [main_cst_22, main_v94, main_v95, main_cst_23, main_v96, main_v97, main_v98, main_v99, main_v100, main_cst_24, main_v101, main_v102, main_v103, main_cst_25]
set_option maxRecDepth 8192 in
theorem ops_8_writes : (ops_8 : List (HloOp τ sig (Elt F))).Forall fun op => op.writes ⊆ (wr_8.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 8 does not write keeps its contents through it. -/
theorem st_9_keep (r : Ref sig .tc) (h : r ∉ wr_8) : st_9 V (Proc.devRef .tc r) = st_8 V (Proc.devRef .tc r) :=
  after_of_writes_sub ops_8 _ ops_8_writes h
theorem wr_8_args : ∀ r ∈ args, r ∉ wr_8 := by decide
theorem st_9_arg (r : Ref sig .tc) (h : r ∈ args) : st_9 V (no_index (Proc.devRef .tc r)) = V (Proc.devRef .tc r) :=
  (st_9_keep V r (wr_8_args r h)).trans (st_8_arg V r h)
theorem st_9_v69 : st_9 V (no_index (Proc.devRef .tc main_v69)) = val_v69 V :=
  (st_9_keep V main_v69 (by decide)).trans (st_8_v69 V)
set_option maxRecDepth 8192 in
set_option maxHeartbeats 2000000 in
theorem st_9_v101 : st_9 V (no_index (Proc.devRef .tc main_v101)) = val_v101 V := by
  unfold st_9
  simp only [ops_8]
  after_results_simp
  try simp only [st_8_v9, st_8_v54, st_8_v56, st_8_v93]
  all_goals rfl
set_option maxRecDepth 8192 in
set_option maxHeartbeats 2000000 in
theorem st_9_v103 : st_9 V (no_index (Proc.devRef .tc main_v103)) = val_v103 V := by
  unfold st_9
  simp only [ops_8]
  after_results_simp
  try simp only [st_8_v9, st_8_v54, st_8_v56, st_8_v93]
  all_goals rfl
set_option maxRecDepth 8192 in
set_option maxHeartbeats 2000000 in
theorem st_9_cst_25 : st_9 V (no_index (Proc.devRef .tc main_cst_25)) = val_cst_25 V := by
  unfold st_9
  simp only [ops_8]
  after_results_simp
  try simp only [st_8_v9, st_8_v54, st_8_v56, st_8_v93]
  all_goals rfl

/-- The contents after window 9. -/
def st_10 : Valuation τ sig (Elt F) := after ops_9 (st_9 V)
/-- The buffers window 9 writes. -/
abbrev wr_9 : List (Ref sig .tc) := [main_v104, main_v105, main_cst_26, main_v106, main_cst_27, main_v107, main_v108, main_v109, main_v110, main_v111, main_v112, main_cst_28, main_v113, main_v114, main_v115, main_v116]
set_option maxRecDepth 8192 in
theorem ops_9_writes : (ops_9 : List (HloOp τ sig (Elt F))).Forall fun op => op.writes ⊆ (wr_9.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 9 does not write keeps its contents through it. -/
theorem st_10_keep (r : Ref sig .tc) (h : r ∉ wr_9) : st_10 V (Proc.devRef .tc r) = st_9 V (Proc.devRef .tc r) :=
  after_of_writes_sub ops_9 _ ops_9_writes h
theorem wr_9_args : ∀ r ∈ args, r ∉ wr_9 := by decide
theorem st_10_arg (r : Ref sig .tc) (h : r ∈ args) : st_10 V (no_index (Proc.devRef .tc r)) = V (Proc.devRef .tc r) :=
  (st_10_keep V r (wr_9_args r h)).trans (st_9_arg V r h)
theorem st_10_v69 : st_10 V (no_index (Proc.devRef .tc main_v69)) = val_v69 V :=
  (st_10_keep V main_v69 (by decide)).trans (st_9_v69 V)
theorem st_10_v101 : st_10 V (no_index (Proc.devRef .tc main_v101)) = val_v101 V :=
  (st_10_keep V main_v101 (by decide)).trans (st_9_v101 V)
set_option maxRecDepth 8192 in
set_option maxHeartbeats 2000000 in
theorem st_10_v116 : st_10 V (no_index (Proc.devRef .tc main_v116)) = val_v116 V := by
  unfold st_10
  simp only [ops_9]
  after_results_simp
  try simp only [st_9_v103, st_9_cst_25]
  all_goals rfl

/-- The contents after window 10. -/
def st_11 : Valuation τ sig (Elt F) := after ops_10 (st_10 V)
/-- The buffers window 10 writes. -/
abbrev wr_10 : List (Ref sig .tc) := [main_cst_29, main_v117, main_v118, main_v119, main_v120, main_cst_30, main_v121, main_v122, main_cst_31, main_v123, main_v124, main_v125, main_v126, main_cst_32, main_v127, main_v128, main_v129, main_cst_33, main_v130, main_v131, main_cst_34, main_v132, main_v133, main_cst_35, main_v134, main_v135, main_cst_36, main_v136, main_v137, main_v138]
set_option maxRecDepth 8192 in
theorem ops_10_writes : (ops_10 : List (HloOp τ sig (Elt F))).Forall fun op => op.writes ⊆ (wr_10.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 10 does not write keeps its contents through it. -/
theorem st_11_keep (r : Ref sig .tc) (h : r ∉ wr_10) : st_11 V (Proc.devRef .tc r) = st_10 V (Proc.devRef .tc r) :=
  after_of_writes_sub ops_10 _ ops_10_writes h
theorem wr_10_args : ∀ r ∈ args, r ∉ wr_10 := by decide
theorem st_11_arg (r : Ref sig .tc) (h : r ∈ args) : st_11 V (no_index (Proc.devRef .tc r)) = V (Proc.devRef .tc r) :=
  (st_11_keep V r (wr_10_args r h)).trans (st_10_arg V r h)
theorem st_11_v101 : st_11 V (no_index (Proc.devRef .tc main_v101)) = val_v101 V :=
  (st_11_keep V main_v101 (by decide)).trans (st_10_v101 V)
theorem st_11_v116 : st_11 V (no_index (Proc.devRef .tc main_v116)) = val_v116 V :=
  (st_11_keep V main_v116 (by decide)).trans (st_10_v116 V)
set_option maxRecDepth 8192 in
set_option maxHeartbeats 2000000 in
theorem st_11_v126 : st_11 V (no_index (Proc.devRef .tc main_v126)) = val_v126 V := by
  unfold st_11
  simp only [ops_10]
  after_results_simp
  try simp only [st_10_v69, st_10_v116]
  all_goals rfl
set_option maxRecDepth 8192 in
set_option maxHeartbeats 2000000 in
theorem st_11_v138 : st_11 V (no_index (Proc.devRef .tc main_v138)) = val_v138 V := by
  unfold st_11
  simp only [ops_10]
  after_results_simp
  try simp only [st_10_v69, st_10_v116]
  all_goals rfl

/-- The contents after window 11. -/
def st_12 : Valuation τ sig (Elt F) := after ops_11 (st_11 V)
/-- The buffers window 11 writes. -/
abbrev wr_11 : List (Ref sig .tc) := [main_cst_37, main_v139, main_v140, main_v141, main_cst_38, main_v142, main_v143, main_call10_cst, main_call10_v0, main_v144, main_cst_39, main_v145, main_v146, main_v147]
set_option maxRecDepth 8192 in
theorem ops_11_writes : (ops_11 : List (HloOp τ sig (Elt F))).Forall fun op => op.writes ⊆ (wr_11.map (Proc.devRef (τ := τ) .tc)).toFinset := by
  simp only [List.Forall]
  refine ⟨?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 11 does not write keeps its contents through it. -/
theorem st_12_keep (r : Ref sig .tc) (h : r ∉ wr_11) : st_12 V (Proc.devRef .tc r) = st_11 V (Proc.devRef .tc r) :=
  after_of_writes_sub ops_11 _ ops_11_writes h
theorem wr_11_args : ∀ r ∈ args, r ∉ wr_11 := by decide
theorem st_12_arg (r : Ref sig .tc) (h : r ∈ args) : st_12 V (no_index (Proc.devRef .tc r)) = V (Proc.devRef .tc r) :=
  (st_12_keep V r (wr_11_args r h)).trans (st_11_arg V r h)
theorem st_12_v116 : st_12 V (no_index (Proc.devRef .tc main_v116)) = val_v116 V :=
  (st_12_keep V main_v116 (by decide)).trans (st_11_v116 V)
set_option maxRecDepth 8192 in
set_option maxHeartbeats 2000000 in
theorem st_12_v147 : st_12 V (no_index (Proc.devRef .tc main_v147)) = val_v147 V := by
  unfold st_12
  simp only [ops_11]
  after_results_simp
  try simp only [st_11_v101, st_11_v126, st_11_v138]
  all_goals rfl

/-- The contents after window 12. -/
def st_13 : Valuation τ sig (Elt F) := after ops_12 (st_12 V)
/-- The buffers window 12 writes. -/
abbrev wr_12 : List (Ref sig .tc) := [main_cst_40, main_v148, main_v149, main_v150, main_v151, main_cst_41, main_v152, main_v153, main_cst_42, main_v154, main_v155, main_v156, main_cst_43, main_v157, main_v158, main_v159, main_v160, main_c_44, main_v161, main_v162, main_v163]
set_option maxRecDepth 8192 in
theorem ops_12_writes : (ops_12 : List (HloOp τ sig (Elt F))).Forall fun op => op.writes ⊆ (wr_12.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 12 does not write keeps its contents through it. -/
theorem st_13_keep (r : Ref sig .tc) (h : r ∉ wr_12) : st_13 V (Proc.devRef .tc r) = st_12 V (Proc.devRef .tc r) :=
  after_of_writes_sub ops_12 _ ops_12_writes h
theorem wr_12_args : ∀ r ∈ args, r ∉ wr_12 := by decide
theorem st_13_arg (r : Ref sig .tc) (h : r ∈ args) : st_13 V (no_index (Proc.devRef .tc r)) = V (Proc.devRef .tc r) :=
  (st_13_keep V r (wr_12_args r h)).trans (st_12_arg V r h)
set_option maxRecDepth 8192 in
set_option maxHeartbeats 2000000 in
theorem st_13_v163 : st_13 V (no_index (Proc.devRef .tc main_v163)) = val_v163 V := by
  unfold st_13
  simp only [ops_12]
  after_results_simp
  try simp only [st_12_v116, st_12_v147]
  all_goals rfl

/-- The contents after window 13. -/
def st_14 : Valuation τ sig (Elt F) := after ops_13 (st_13 V)
/-- The buffers window 13 writes. -/
abbrev wr_13 : List (Ref sig .tc) := [main_c_45, main_call11_v0, main_call11_v1, main_call11_v2, main_call11_v3, main_call11_v4, main_call11_v5, main_call11_v6, main_call11_v7, main_call11_v8, main_call11_v9, main_call11_v10, main_call11_v11, main_call11_v12, main_v164]
set_option maxRecDepth 8192 in
theorem ops_13_writes : (ops_13 : List (HloOp τ sig (Elt F))).Forall fun op => op.writes ⊆ (wr_13.map (Proc.devRef (τ := τ) .tc)).toFinset := by
  simp only [List.Forall]
  refine ⟨?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 13 does not write keeps its contents through it. -/
theorem st_14_keep (r : Ref sig .tc) (h : r ∉ wr_13) : st_14 V (Proc.devRef .tc r) = st_13 V (Proc.devRef .tc r) :=
  after_of_writes_sub ops_13 _ ops_13_writes h
theorem wr_13_args : ∀ r ∈ args, r ∉ wr_13 := by decide
theorem st_14_arg (r : Ref sig .tc) (h : r ∈ args) : st_14 V (no_index (Proc.devRef .tc r)) = V (Proc.devRef .tc r) :=
  (st_14_keep V r (wr_13_args r h)).trans (st_13_arg V r h)
set_option maxRecDepth 8192 in
set_option maxHeartbeats 2000000 in
theorem st_14_v164 : st_14 V (no_index (Proc.devRef .tc main_v164)) = val_v164 V := by
  unfold st_14
  simp only [ops_13]
  after_results_simp
  try dsimp only [Matrix.cons_val]
  try after_results_simp
  try dsimp only [Matrix.cons_val]
  try after_results_simp
  try simp only [st_13_v163]
  all_goals rfl

/-- The contents after window 14. -/
def st_15 : Valuation τ sig (Elt F) := after ops_14 (st_14 V)
/-- The buffers window 14 writes. -/
abbrev wr_14 : List (Ref sig .tc) := [main_v165, main_v166, main_v167, main_v168, main_v169, main_v170, main_v171, main_v172, main_v173, main_v174, main_v175, main_cst_46, main_v176, main_call12_v0, main_call12_cst, main_call12_c, main_call12_v1_0, main_v177, main_c_47, main_v178, main_v179, main_v180]
set_option maxRecDepth 8192 in
theorem ops_14_writes : (ops_14 : List (HloOp τ sig (Elt F))).Forall fun op => op.writes ⊆ (wr_14.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes, nary_writes, Finset.singleton_subset_iff, List.mem_toFinset]; exact List.mem_map_of_mem (by decide))
/-- A buffer that window 14 does not write keeps its contents through it. -/
theorem st_15_keep (r : Ref sig .tc) (h : r ∉ wr_14) : st_15 V (Proc.devRef .tc r) = st_14 V (Proc.devRef .tc r) :=
  after_of_writes_sub ops_14 _ ops_14_writes h
theorem wr_14_args : ∀ r ∈ args, r ∉ wr_14 := by decide
theorem st_15_arg (r : Ref sig .tc) (h : r ∈ args) : st_15 V (no_index (Proc.devRef .tc r)) = V (Proc.devRef .tc r) :=
  (st_15_keep V r (wr_14_args r h)).trans (st_14_arg V r h)
set_option maxRecDepth 8192 in
set_option maxHeartbeats 2000000 in
theorem st_15_v176 : st_15 V (no_index (Proc.devRef .tc main_v176)) = val_v176 V := by
  unfold st_15
  simp only [ops_14]
  after_results_simp
  try dsimp only [Matrix.cons_val]
  try after_results_simp
  try dsimp only [Matrix.cons_val]
  try after_results_simp
  try simp only [st_14_v164]
  all_goals rfl
set_option maxRecDepth 8192 in
set_option maxHeartbeats 2000000 in
theorem st_15_v177 : st_15 V (no_index (Proc.devRef .tc main_v177)) = val_v177 V := by
  unfold st_15
  simp only [ops_14]
  after_results_simp
  try dsimp only [Matrix.cons_val]
  try after_results_simp
  try dsimp only [Matrix.cons_val]
  try after_results_simp
  try simp only [st_14_v164]
  all_goals rfl
set_option maxRecDepth 8192 in
set_option maxHeartbeats 2000000 in
theorem st_15_v180 : st_15 V (no_index (Proc.devRef .tc main_v180)) = val_v180 V := by
  unfold st_15
  simp only [ops_14]
  after_results_simp
  try dsimp only [Matrix.cons_val]
  try after_results_simp
  try dsimp only [Matrix.cons_val]
  try after_results_simp
  try simp only [st_14_v164]
  all_goals rfl

theorem after_ops : after ops V = st_15 V := by
  simp only [ops, part_0, part_1, part_2, part_3, after_append]
  rfl

set_option maxRecDepth 8192 in
/-- On every device, for any float values, from any memory with zero counters: every weakly fair execution of
    `main` ends with the three results at their terms and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v176) = val_v176 (launchContents m c)
      ∧ r.2.mem ((c.tc : Thread nD τ).loc main_v177) = val_v177 (launchContents m c)
      ∧ r.2.mem ((c.tc : Thread nD τ).loc main_v180) = val_v180 (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v176).trans ((congrFun (after_ops (launchContents m c)) (Proc.devRef .tc main_v176)).trans (st_15_v176 (launchContents m c))),
      (h c main_v177).trans ((congrFun (after_ops (launchContents m c)) (Proc.devRef .tc main_v177)).trans (st_15_v177 (launchContents m c))),
      (h c main_v180).trans ((congrFun (after_ops (launchContents m c)) (Proc.devRef .tc main_v180)).trans (st_15_v180 (launchContents m c))),
      (h c main_arg0).trans ((congrFun (after_ops (launchContents m c)) (Proc.devRef .tc main_arg0)).trans (st_15_arg (launchContents m c) main_arg0 (by decide))),
      (h c main_arg1).trans ((congrFun (after_ops (launchContents m c)) (Proc.devRef .tc main_arg1)).trans (st_15_arg (launchContents m c) main_arg1 (by decide))),
      (h c main_arg2).trans ((congrFun (after_ops (launchContents m c)) (Proc.devRef .tc main_arg2)).trans (st_15_arg (launchContents m c) main_arg2 (by decide))),
      (h c main_arg3).trans ((congrFun (after_ops (launchContents m c)) (Proc.devRef .tc main_arg3)).trans (st_15_arg (launchContents m c) main_arg3 (by decide))),
      (h c main_arg4).trans ((congrFun (after_ops (launchContents m c)) (Proc.devRef .tc main_arg4)).trans (st_15_arg (launchContents m c) main_arg4 (by decide))),
      (h c main_arg5).trans ((congrFun (after_ops (launchContents m c)) (Proc.devRef .tc main_arg5)).trans (st_15_arg (launchContents m c) main_arg5 (by decide))),
      (h c main_arg6).trans ((congrFun (after_ops (launchContents m c)) (Proc.devRef .tc main_arg6)).trans (st_15_arg (launchContents m c) main_arg6 (by decide)))⟩)
    (run_seq scopedRefs_eq scopedSems_eq defs main (fun _ => ops) main_eq (fun _ => ops_sub) m ρ fun _ => ops_fresh)

end Cert.Proof.Ref

end
-- ==== Proof.Row.lean ====
/- One frame at a time, over the extended reals: the rows the two programs compute, and that they agree. -/
module

public import Idealize.ShloMosaic.PureOps.Ideal
public import Idealize.ShloMosaic.PureOps.Ideal.Laws
public import Idealize.ShloMosaic.Lib.IdealHost

@[expose] public section

noncomputable section

namespace Cert.Proof.Row

open Idealize.ShloMosaic

/-! ## The constants -/

/-- The lower bound of a norm, `1e-8` as a binary32 number. -/
abbrev cEps : EReal := Ideal.ofBits .f32 0x322BCC77#32
/-- The scale `20`. -/
abbrev c20 : EReal := Ideal.ofBits .f32 0x41A00000#32
/-- The weight of the visual features, `0.5`. -/
abbrev cVis : EReal := Ideal.ofBits .f32 0x3F000000#32
/-- The weight of the semantic features, `0.7`. -/
abbrev cSem : EReal := Ideal.ofBits .f32 0x3F333333#32
/-- The weight of the semantic observations, `0.3`. -/
abbrev cObs : EReal := Ideal.ofBits .f32 0x3E99999A#32
/-- The square root `8` of the number of uncertainty entries. -/
abbrev c8 : EReal := Ideal.ofBits .f32 0x41000000#32
/-- The least confidence, `0.25`. -/
abbrev cQuarter : EReal := Ideal.ofBits .f32 0x3E800000#32
/-- The mark of an element already taken, `-3`. -/
abbrev cMark : EReal := Ideal.ofBits .f32 0xC0400000#32
/-- The mass at which no further candidate is kept, `0.85`. -/
abbrev cRho : EReal := Ideal.ofBits .f32 0x3F59999A#32

/-- The lower bound of a norm as a real number. -/
def eps : ℝ := 11258999 / 2 ^ 50
/-- Its square, the named constant. -/
def epsSq : ℝ := 126765058482001 / 1267650600228229401496703205376

theorem epsSq_eq : epsSq = eps ^ 2 := by norm_num [epsSq, eps]
theorem eps_pos : 0 < eps := by norm_num [eps]
theorem cEps_eq : cEps = (eps : EReal) := by
  simp [cEps, eps, Ideal.ofBits, Ideal.ieee, -EReal.coe_mul]; norm_num
theorem c20_eq : c20 = ((20 : ℝ) : EReal) := by
  simp [Ideal.ofBits, Ideal.ieee, -EReal.coe_mul]; norm_num
theorem cVis_eq : cVis = ((1 / 2 : ℝ) : EReal) := by
  simp [Ideal.ofBits, Ideal.ieee, -EReal.coe_mul]; norm_num
theorem cSem_eq : cSem = ((11744051 / 2 ^ 24 : ℝ) : EReal) := by
  simp [Ideal.ofBits, Ideal.ieee, -EReal.coe_mul]; norm_num
theorem cObs_eq : cObs = ((10066330 / 2 ^ 25 : ℝ) : EReal) := by
  simp [Ideal.ofBits, Ideal.ieee, -EReal.coe_mul]; norm_num
theorem c8_eq : c8 = ((8 : ℝ) : EReal) := by
  simp [Ideal.ofBits, Ideal.ieee, -EReal.coe_mul]; norm_num
theorem cQuarter_eq : cQuarter = ((1 / 4 : ℝ) : EReal) := by
  simp [Ideal.ofBits, Ideal.ieee, -EReal.coe_mul]; norm_num
theorem cMark_eq : cMark = ((-3 : ℝ) : EReal) := by
  simp [Ideal.ofBits, Ideal.ieee, -EReal.coe_mul]; norm_num
theorem cNegInf_eq : Ideal.ofBits .f32 0xFF800000#32 = (⊥ : EReal) := by
  simp [Ideal.ofBits, Ideal.ieee]

/-! ## Sums and folds -/

/-- A sum of reals read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals read in the extended reals. -/
theorem coe_max (a b : ℝ) : max (a : EReal) (b : EReal) = ((max a b : ℝ) : EReal) :=
  (EReal.coe_strictMono.monotone.map_max).symm

/-- The smaller of two reals read in the extended reals. -/
theorem coe_min (a b : ℝ) : min (a : EReal) (b : EReal) = ((min a b : ℝ) : EReal) :=
  (EReal.coe_strictMono.monotone.map_min).symm

/-- The fold of `max` is the greatest element, when one is attained above the start. -/
theorem fold_max_eq {ι : Type} [Fintype ι] (b a : EReal) (f : ι → EReal) (hb : b ≤ a) (hle : ∀ i, f i ≤ a)
    (hat : ∃ i, f i = a) : Finset.univ.fold max b f = a := by
  apply le_antisymm
  · exact (Finset.fold_max_le a).2 ⟨hb, fun i _ => hle i⟩
  · obtain ⟨i, hi⟩ := hat
    exact (Finset.le_fold_max a).2 (.inr ⟨i, Finset.mem_univ i, hi.ge⟩)

/-- A quotient of reals. -/
theorem div_real (x y : ℝ) (h : y ≠ 0) : Ideal.div (x : EReal) (y : EReal) = ((x / y : ℝ) : EReal) := by
  rw [Ideal.div_coe h, ← EReal.coe_mul, mul_one_div]

/-! ## A row divided by its norm -/

/-- The sum of the squares. -/
def ssq {n : Nat} (x : Fin n → EReal) : EReal := ∑ k, x k * x k

/-- The row over the larger of its norm and the bound. -/
def l2 {n : Nat} (x : Fin n → EReal) (k : Fin n) : EReal := Ideal.div (x k) (max (Ideal.sqrt (ssq x)) cEps)

/-- The reciprocal of the larger of the norm and the bound, taken under the root. -/
def rs {n : Nat} (x : Fin n → EReal) : EReal := Ideal.rsqrt (max (ssq x) (epsSq : EReal))

theorem mul_self_nonneg' (a : EReal) : 0 ≤ a * a := by
  induction a with
  | bot => simp
  | top => simp
  | coe r => rw [← EReal.coe_mul]; exact EReal.coe_nonneg.2 (mul_self_nonneg r)

/-- The norm of a real row. -/
def nrm {n : Nat} (y : Fin n → ℝ) : ℝ := max (√(∑ k, y k * y k)) eps

theorem nrm_pos {n : Nat} (y : Fin n → ℝ) : 0 < nrm y := lt_max_of_lt_right eps_pos

theorem ssq_coe {n : Nat} (y : Fin n → ℝ) : ssq (fun k => (y k : EReal)) = ((∑ k, y k * y k : ℝ) : EReal) := by
  rw [coe_sum]; rfl

theorem sum_sq_nonneg {n : Nat} (y : Fin n → ℝ) : 0 ≤ ∑ k, y k * y k := Finset.sum_nonneg fun k _ => mul_self_nonneg _

theorem l2_coe {n : Nat} (y : Fin n → ℝ) (k : Fin n) : l2 (fun k => (y k : EReal)) k = ((y k / nrm y : ℝ) : EReal) := by
  unfold l2
  rw [ssq_coe, Ideal.sqrt_coe, if_neg (not_lt.2 (sum_sq_nonneg y)), cEps_eq, coe_max]
  exact div_real _ _ (nrm_pos y).ne'

theorem rs_coe {n : Nat} (y : Fin n → ℝ) : rs (fun k => (y k : EReal)) = (((nrm y)⁻¹ : ℝ) : EReal) := by
  unfold rs
  have h0 : 0 < max (∑ k, y k * y k) epsSq := lt_max_of_lt_right (by rw [epsSq_eq]; exact pow_pos eps_pos 2)
  rw [ssq_coe, coe_max, Ideal.rsqrt_coe, if_neg (not_lt.2 h0.le), if_neg h0.ne']
  congr 2
  unfold nrm
  rw [Real.sqrt_monotone.map_max, epsSq_eq, Real.sqrt_sq eps_pos.le]

/-- Either the sum of the squares is infinite or every entry is a real number. -/
theorem ssq_cases {n : Nat} (x : Fin n → EReal) : ssq x = ⊤ ∨ ∃ y : Fin n → ℝ, x = fun k => (y k : EReal) := by
  by_cases h : ∀ k, x k ≠ ⊤ ∧ x k ≠ ⊥
  · right
    exact ⟨fun k => (x k).toReal, funext fun k => (EReal.coe_toReal (h k).1 (h k).2).symm⟩
  · left
    push Not at h
    obtain ⟨k, hk⟩ := h
    have hkk : x k * x k = ⊤ := by
      by_cases ht : x k = ⊤
      · rw [ht]; rfl
      · rw [hk ht]; rfl
    have : x k * x k ≤ ssq x := Finset.single_le_sum (f := fun k => x k * x k) (fun i _ => mul_self_nonneg' _) (Finset.mem_univ k)
    exact top_le_iff.1 (hkk ▸ this)

/-- A normalised row is real, its squares sum to at most one, and multiplying by the reciprocal gives the same row
    (with a real weight on the reciprocal, the same row weighted). -/
theorem l2_real {n : Nat} (x : Fin n → EReal) : ∃ r : Fin n → ℝ, (∀ k, l2 x k = (r k : EReal)) ∧ (∑ k, r k * r k ≤ 1) ∧
    (∀ k, x k * rs x = (r k : EReal)) ∧ ∀ (c : ℝ) k, x k * ((c : EReal) * rs x) = ((c * r k : ℝ) : EReal) := by
  rcases ssq_cases x with h | ⟨y, rfl⟩
  · have hrs : rs x = 0 := by unfold rs; rw [h, max_eq_left le_top]; rfl
    refine ⟨fun _ => 0, fun k => ?_, by simp, fun k => ?_, fun c k => ?_⟩
    · unfold l2
      rw [h, Ideal.sqrt_top, max_eq_left le_top]
      simp [Ideal.div]
    · rw [hrs]; simp
    · rw [hrs]; simp
  · refine ⟨fun k => y k / nrm y, fun k => l2_coe y k, ?_, fun k => ?_, fun c k => ?_⟩
    · have hN := nrm_pos y
      have h1 : (∑ k, y k * y k) ≤ nrm y ^ 2 := by
        have := le_max_left (√(∑ k, y k * y k)) eps
        calc (∑ k, y k * y k) = (√(∑ k, y k * y k)) ^ 2 := (Real.sq_sqrt (sum_sq_nonneg y)).symm
          _ ≤ nrm y ^ 2 := by gcongr; exact this
      calc ∑ k, y k / nrm y * (y k / nrm y) = (∑ k, y k * y k) / nrm y ^ 2 := by
            rw [Finset.sum_div]; exact Finset.sum_congr rfl fun k _ => by field_simp
        _ ≤ 1 := by rw [div_le_one (by positivity)]; exact h1
    · rw [rs_coe, ← EReal.coe_mul]; rfl
    · rw [rs_coe, ← EReal.coe_mul, ← EReal.coe_mul]; congr 1; ring

end Cert.Proof.Row

end
-- ==== Proof.Step.lean ====
/- The step score of one frame: the kernel peels off the five largest similarities one maximum at a time; the reference
   takes the five largest attention weights by a sort. -/
module

public import proofs.«01_k».proof.Proof.Row

@[expose] public section

noncomputable section

namespace Cert.Proof.Row

open Idealize.ShloMosaic

/-- The start of a running maximum. -/
abbrev cNegInf : EReal := Ideal.ofBits .f32 0xFF800000#32

section
variable (S : Fin 128 → EReal)

/-- The largest similarity. -/
def top : EReal := Finset.univ.fold max cNegInf S
/-- The similarities with every copy of the largest marked as taken. -/
def peel (i : Fin 128) : EReal := if top S ≤ S i then cMark else S i
/-- The similarities after `0`–`4` peelings. -/
def peels : Fin 5 → Fin 128 → EReal := ![S, peel S, peel (peel S), peel (peel (peel S)), peel (peel (peel (peel S)))]
/-- The shift of the exponentials. -/
def kZ : EReal := c20 * top S
/-- The sum of the shifted exponentials. -/
def kD : EReal := ∑ x, Ideal.exp (c20 * S x - kZ S)
/-- The attention weight of a similarity `m`. -/
def kv (m : EReal) : EReal := Ideal.div (Ideal.exp (c20 * m - kZ S)) (kD S)
/-- The attention weights as the reference computes them. -/
def ralpha (i : Fin 128) : EReal :=
  Ideal.div (Ideal.exp (c20 * S i - max cNegInf (Finset.univ.fold max cNegInf fun x => c20 * S x)))
    (∑ x, Ideal.exp (c20 * S x - max cNegInf (Finset.univ.fold max cNegInf fun x => c20 * S x)))
end

section
variable (m v : Fin 5 → EReal)
/-- The mass of the candidates up to each one. -/
def cumv : Fin 5 → EReal := ![0 + v 0, 0 + v 0 + v 1, 0 + v 0 + v 1 + v 2, 0 + v 0 + v 1 + v 2 + v 3, 0 + v 0 + v 1 + v 2 + v 3 + v 4]
/-- A candidate's weight, kept while the mass before it is below the bound. -/
def kpt (j : Fin 5) : EReal := if cumv v j - v j < cRho then v j else 0
/-- The mean of `m` by the kept weights. -/
def score : EReal :=
  Ideal.div (0 + kpt v 0 * m 0 + kpt v 1 * m 1 + kpt v 2 * m 2 + kpt v 3 * m 3 + kpt v 4 * m 4)
    (max (0 + kpt v 0 + kpt v 1 + kpt v 2 + kpt v 3 + kpt v 4) cEps)
end

/-- The kernel's step score. -/
def kscore (S : Fin 128 → EReal) : EReal := score (fun j => top (peels S j)) fun j => kv S (top (peels S j))

/-! ## The attention of a real row of similarities -/

section
variable (s : Fin 128 → ℝ)

theorem top_coe : ∃ i, top (fun i => (s i : EReal)) = (s i : EReal) ∧ ∀ k, s k ≤ s i := by
  obtain ⟨i, hi⟩ := Finite.exists_max s
  exact ⟨i, fold_max_eq _ _ _ (by rw [cNegInf, cNegInf_eq]; exact bot_le) (fun k => EReal.coe_le_coe_iff.2 (hi k)) ⟨i, rfl⟩, hi⟩

/-- The attention of a real row: positive reals in the order of the similarities, the same on both sides, the largest of them
    the reciprocal of the kernel's sum. -/
theorem alpha_real : ∃ A : Fin 128 → ℝ, (∀ i, ralpha (fun i => (s i : EReal)) i = (A i : EReal)) ∧
    (∀ i, kv (fun i => (s i : EReal)) (s i : EReal) = (A i : EReal)) ∧ (∀ i, 0 < A i) ∧ (∀ i k, A i < A k ↔ s i < s k) ∧
    Finset.univ.fold max cNegInf (ralpha fun i => (s i : EReal)) = Ideal.div 1 (kD fun i => (s i : EReal)) := by
  obtain ⟨i₀, ht, hmax⟩ := top_coe s
  have hf : max cNegInf (Finset.univ.fold max cNegInf fun x => c20 * (s x : EReal)) = ((20 * s i₀ : ℝ) : EReal) := by
    rw [cNegInf, cNegInf_eq, max_eq_right bot_le]
    refine fold_max_eq _ _ _ bot_le (fun i => ?_) ⟨i₀, ?_⟩
    · rw [c20_eq, ← EReal.coe_mul]
      exact EReal.coe_le_coe_iff.2 (by linarith [hmax i])
    · rw [c20_eq, ← EReal.coe_mul]
  have hz : kZ (fun i => (s i : EReal)) = ((20 * s i₀ : ℝ) : EReal) := by
    unfold kZ
    rw [ht, c20_eq, ← EReal.coe_mul]
  have he : ∀ a : ℝ, Ideal.exp (c20 * (a : EReal) - ((20 * s i₀ : ℝ) : EReal)) = ((Real.exp (20 * a - 20 * s i₀) : ℝ) : EReal) := fun a => by
    rw [c20_eq, ← EReal.coe_mul, ← EReal.coe_sub, Ideal.exp_coe]
  have hd : kD (fun i => (s i : EReal)) = ((∑ x, Real.exp (20 * s x - 20 * s i₀) : ℝ) : EReal) := by
    unfold kD
    rw [hz, coe_sum]
    exact Finset.sum_congr rfl fun x _ => he _
  have hpos : 0 < ∑ x, Real.exp (20 * s x - 20 * s i₀) := Finset.sum_pos (fun x _ => Real.exp_pos _) ⟨0, Finset.mem_univ _⟩
  have hr : ∀ i, ralpha (fun i => (s i : EReal)) i = ((Real.exp (20 * s i - 20 * s i₀) / ∑ x, Real.exp (20 * s x - 20 * s i₀) : ℝ) : EReal) := fun i => by
    unfold ralpha
    rw [hf, he]
    simp only [he]
    rw [← coe_sum, div_real _ _ hpos.ne']
  refine ⟨fun i => Real.exp (20 * s i - 20 * s i₀) / ∑ x, Real.exp (20 * s x - 20 * s i₀), hr, fun i => ?_, fun i => div_pos (Real.exp_pos _) hpos, fun i k => ?_, ?_⟩
  · unfold kv
    rw [hz, hd, he, div_real _ _ hpos.ne']
  · dsimp only
    rw [div_lt_div_iff_of_pos_right hpos, Real.exp_lt_exp]
    constructor <;> intro h <;> linarith
  · rw [hd, show (1 : EReal) = ((1 : ℝ) : EReal) from rfl, div_real _ _ hpos.ne']
    refine fold_max_eq _ _ _ (by rw [cNegInf, cNegInf_eq]; exact bot_le) (fun i => ?_) ⟨i₀, ?_⟩
    · rw [hr]
      refine EReal.coe_le_coe_iff.2 (div_le_div_of_nonneg_right ?_ hpos.le)
      rw [← Real.exp_zero]
      exact Real.exp_le_exp.2 (by linarith [hmax i])
    · rw [hr, sub_self, Real.exp_zero]

/-! ## The peeling -/

/-- The row with everything from `t` up marked as taken. -/
def cut (t : ℝ) (i : Fin 128) : EReal := if t ≤ s i then cMark else (s i : EReal)

variable (hs : ∀ i, |s i| ≤ 1) (idx : Fin 5 → Fin 128) (hdec : ∀ j k, j < k → s (idx k) < s (idx j))
  (hoth : ∀ i, (∀ j, idx j ≠ i) → s i ≤ s (idx 4))

include hs in
theorem gt_mark (i : Fin 128) : ((-3 : ℝ) : EReal) < (s i : EReal) :=
  EReal.coe_lt_coe_iff.2 (by linarith [(abs_le.1 (hs i)).1])

include hdec hoth in
theorem le_of_lt_before (j : Fin 5) (i : Fin 128) (h : ∀ k, k < j → s i < s (idx k)) : s i ≤ s (idx j) := by
  by_cases hi : ∃ k, idx k = i
  · obtain ⟨k, rfl⟩ := hi
    rcases lt_trichotomy k j with h1 | rfl | h1
    · exact absurd (h k h1) (lt_irrefl _)
    · exact le_rfl
    · exact (hdec _ _ h1).le
  · push Not at hi
    refine (hoth i hi).trans ?_
    rcases (Fin.le_last j).lt_or_eq with h1 | rfl
    · exact (hdec _ _ h1).le
    · exact le_rfl

include hdec hoth in
theorem top_first : top (fun i => (s i : EReal)) = (s (idx 0) : EReal) :=
  fold_max_eq _ _ _ (by rw [cNegInf, cNegInf_eq]; exact bot_le)
    (fun i => EReal.coe_le_coe_iff.2 (le_of_lt_before s idx hdec hoth 0 i fun k hk => absurd hk (by simp))) ⟨_, rfl⟩

include hs hdec hoth in
theorem top_cut (j k : Fin 5) (h : k.val = j.val + 1) : top (cut s (s (idx j))) = (s (idx k) : EReal) := by
  have hjk : j < k := by rw [Fin.lt_def]; omega
  refine fold_max_eq _ _ _ (by rw [cNegInf, cNegInf_eq]; exact bot_le) (fun i => ?_) ⟨idx k, if_neg (not_le.2 (hdec _ _ hjk))⟩
  unfold cut
  split_ifs with hc
  · rw [cMark_eq]; exact (gt_mark s hs _).le
  · refine EReal.coe_le_coe_iff.2 (le_of_lt_before s idx hdec hoth k i fun l hl => ?_)
    rcases (show l < j ∨ l = j by rw [Fin.lt_def] at hl ⊢; rw [Fin.ext_iff]; omega) with h1 | rfl
    · exact (not_le.1 hc).trans (hdec _ _ h1)
    · exact not_le.1 hc

include hs hdec hoth in
theorem peel_first : peel (fun i => (s i : EReal)) = cut s (s (idx 0)) := by
  funext i
  unfold peel cut
  rw [top_first s idx hdec hoth]
  simp only [EReal.coe_le_coe_iff]

include hs hdec hoth in
theorem peel_cut (j k : Fin 5) (h : k.val = j.val + 1) : peel (cut s (s (idx j))) = cut s (s (idx k)) := by
  have hjk : j < k := by rw [Fin.lt_def]; omega
  funext i
  unfold peel
  rw [top_cut s hs idx hdec hoth j k h]
  unfold cut
  by_cases hc : s (idx j) ≤ s i
  · rw [if_pos hc, if_neg (by rw [cMark_eq]; exact not_le.2 (gt_mark s hs _)), if_pos ((hdec _ _ hjk).le.trans hc)]
  · rw [if_neg hc]
    simp only [EReal.coe_le_coe_iff]

include hs hdec hoth in
/-- The maxima of the five peelings are the five largest similarities. -/
theorem top_peels (j : Fin 5) : top (peels (fun i => (s i : EReal)) j) = (s (idx j) : EReal) := by
  have e1 := peel_first s hs idx hdec hoth
  have e2 := peel_cut s hs idx hdec hoth 0 1 rfl
  have e3 := peel_cut s hs idx hdec hoth 1 2 rfl
  have e4 := peel_cut s hs idx hdec hoth 2 3 rfl
  fin_cases j
  · exact top_first s idx hdec hoth
  · show top (peel _) = _
    rw [e1]; exact top_cut s hs idx hdec hoth 0 1 rfl
  · show top (peel (peel _)) = _
    rw [e1, e2]; exact top_cut s hs idx hdec hoth 1 2 rfl
  · show top (peel (peel (peel _))) = _
    rw [e1, e2, e3]; exact top_cut s hs idx hdec hoth 2 3 rfl
  · show top (peel (peel (peel (peel _)))) = _
    rw [e1, e2, e3, e4]; exact top_cut s hs idx hdec hoth 3 4 rfl

/-! ## The score -/

/-- The reference's step score, from the row of kept weights. -/
def rscore (mask S : Fin 128 → EReal) : EReal := ∑ x, Ideal.div (mask x) (max (∑ x, mask x) cEps) * S x

include hs hdec hoth in
/-- The two step scores agree: `mask` holds the kept weights of the five largest, at their places, and zero elsewhere. -/
theorem score_eq (mask : Fin 128 → EReal) (hhit : ∀ j, mask (idx j) = kpt (fun j => ralpha (fun i => (s i : EReal)) (idx j)) j)
    (hmiss : ∀ i, (∀ j, idx j ≠ i) → mask i = 0) :
    rscore mask (fun i => (s i : EReal)) = kscore fun i => (s i : EReal) := by
  obtain ⟨A, hA, hK, hpos, -, -⟩ := alpha_real s
  have hinj : Function.Injective idx := by
    intro j k h
    rcases lt_trichotomy j k with h1 | h1 | h1
    · exact absurd (hdec _ _ h1) (by rw [h]; exact lt_irrefl _)
    · exact h1
    · exact absurd (hdec _ _ h1) (by rw [h]; exact lt_irrefl _)
  have hv : (fun j => kv (fun i => (s i : EReal)) (top (peels (fun i => (s i : EReal)) j))) = fun j => ralpha (fun i => (s i : EReal)) (idx j) := by
    funext j
    rw [top_peels s hs idx hdec hoth, hK, hA]
  have hk : ∃ κ : Fin 5 → ℝ, ∀ j, kpt (fun j => ralpha (fun i => (s i : EReal)) (idx j)) j = (κ j : EReal) := by
    have : ∀ j, ∃ κ : ℝ, kpt (fun j => ralpha (fun i => (s i : EReal)) (idx j)) j = (κ : EReal) := by
      intro j
      unfold kpt
      split_ifs
      · exact ⟨_, hA _⟩
      · exact ⟨0, rfl⟩
    exact ⟨fun j => (this j).choose, fun j => (this j).choose_spec⟩
  obtain ⟨κ, hκ⟩ := hk
  have hsum : ∑ x, mask x = ((∑ j, κ j : ℝ) : EReal) := by
    rw [coe_sum]
    refine (Fintype.sum_of_injective idx hinj _ _ (fun i hi => hmiss i fun j hj => hi ⟨j, hj⟩) fun j => ?_).symm
    rw [hhit, hκ]
  have hN : 0 < max (∑ j, κ j) eps := lt_max_of_lt_right eps_pos
  unfold rscore kscore
  rw [hv, hsum, cEps_eq, coe_max]
  have hterm : ∑ x, Ideal.div (mask x) ((max (∑ j, κ j) eps : ℝ) : EReal) * (s x : EReal)
      = ((∑ j, κ j / max (∑ j, κ j) eps * s (idx j) : ℝ) : EReal) := by
    rw [coe_sum]
    refine (Fintype.sum_of_injective idx hinj _ _ (fun i hi => ?_) fun j => ?_).symm
    · rw [hmiss i fun j hj => hi ⟨j, hj⟩, show (0 : EReal) = ((0 : ℝ) : EReal) from rfl, div_real _ _ hN.ne', ← EReal.coe_mul]
      congr 1; simp
    · rw [hhit, hκ, div_real _ _ hN.ne', EReal.coe_mul]
  rw [hterm]
  unfold score
  simp only [hκ, top_peels s hs idx hdec hoth]
  rw [cEps_eq]
  simp only [← EReal.coe_mul, ← EReal.coe_add, ← EReal.coe_zero, coe_max]
  have e : 0 + κ 0 + κ 1 + κ 2 + κ 3 + κ 4 = ∑ j, κ j := by simp [Fin.sum_univ_five]
  rw [e, div_real _ _ hN.ne']
  congr 1
  rw [Fin.sum_univ_five]
  field_simp
  ring

end

end Cert.Proof.Row

end
-- ==== Proof.Qry.lean ====
/- The query of one frame, as the reference normalises it and as the kernel leaves it unnormalised beside its reciprocal
   norm; and its similarity to a normalised prototype. -/
module

public import proofs.«01_k».proof.Proof.Row
public import Mathlib.Algebra.Order.BigOperators.Ring.Finset

@[expose] public section

noncomputable section

namespace Cert.Proof.Row

open Idealize.ShloMosaic

/-- The confidence in the semantic features, from the uncertainty trace. -/
def conf {n : Nat} (u : Fin n → EReal) : EReal := min 1 (max cQuarter (Ideal.exp (0 - Ideal.div (Ideal.sqrt (ssq u)) c8)))

theorem conf_ref {n : Nat} (u : Fin n → EReal) :
    min 1 (max cQuarter (Ideal.exp (-Ideal.div (Ideal.sqrt (ssq u)) (max c8 1)))) = conf u := by
  have h : max c8 1 = c8 := by
    rw [c8_eq, max_eq_left]
    exact_mod_cast (by norm_num : (1 : ℝ) ≤ 8)
  rw [h, conf, zero_sub]

theorem conf_real {n : Nat} (u : Fin n → EReal) : ∃ c : ℝ, conf u = (c : EReal) := by
  have h1 : conf u ≤ 1 := min_le_left _ _
  have h0 : (0 : EReal) ≤ conf u := by
    refine le_min zero_le_one (le_max_of_le_left ?_)
    rw [cQuarter_eq]
    exact_mod_cast (by norm_num : (0 : ℝ) ≤ 1 / 4)
  exact ⟨(conf u).toReal, (EReal.coe_toReal (ne_top_of_le_ne_top (EReal.coe_ne_top 1) h1) (ne_bot_of_le_ne_bot (EReal.coe_ne_bot 0) h0)).symm⟩

section
variable {n p : Nat} (f v s o : Fin n → EReal) (u : Fin p → EReal)

/-- The mix of the four normalised features, the reference's bracketing. -/
def rmix (k : Fin n) : EReal := l2 f k + cVis * l2 v k + conf u * (cSem * l2 s k + cObs * l2 o k)

/-- The mix of the four features, each by its weighted reciprocal norm, the kernel's bracketing. -/
def kmix (k : Fin n) : EReal :=
  f k * rs f + v k * (cVis * rs v) + s k * (cSem * conf u * rs s) + o k * (cObs * conf u * rs o)

theorem mix_real : ∃ y : Fin n → ℝ, (rmix f v s o u = fun k => (y k : EReal)) ∧ kmix f v s o u = fun k => (y k : EReal) := by
  obtain ⟨F, hF, -, hF', -⟩ := l2_real f
  obtain ⟨V, hV, -, -, hV'⟩ := l2_real v
  obtain ⟨S, hS, -, -, hS'⟩ := l2_real s
  obtain ⟨O, hO, -, -, hO'⟩ := l2_real o
  obtain ⟨c, hc⟩ := conf_real u
  refine ⟨fun k => F k + 1 / 2 * V k + c * (11744051 / 2 ^ 24 * S k + 10066330 / 2 ^ 25 * O k), funext fun k => ?_, funext fun k => ?_⟩
  · unfold rmix
    rw [hF, hV, hS, hO, hc, cVis_eq, cSem_eq, cObs_eq]
    simp only [EReal.coe_add, EReal.coe_mul]
  · unfold kmix
    rw [hF', cVis_eq, hV', hc, cSem_eq, cObs_eq, ← EReal.coe_mul, ← EReal.coe_mul, hS', hO', ← EReal.coe_add, ← EReal.coe_add, ← EReal.coe_add]
    congr 1
    ring

/-- The normalised query is a real row whose squares sum to at most one, and the kernel's product of its reciprocal norm
    with a contraction of its mix is the contraction of the normalised query. -/
theorem query : ∃ r : Fin n → ℝ, (∀ k, l2 (rmix f v s o u) k = (r k : EReal)) ∧ (∑ k, r k * r k ≤ 1) ∧
    ∀ w : Fin n → ℝ, rs (kmix f v s o u) * ∑ k, (w k : EReal) * kmix f v s o u k = ((∑ k, r k * w k : ℝ) : EReal) := by
  obtain ⟨y, hr, hk⟩ := mix_real f v s o u
  obtain ⟨r, h1, h2, h3, -⟩ := l2_real (rmix f v s o u)
  refine ⟨r, h1, h2, fun w => ?_⟩
  rw [hr] at h3
  rw [hk]
  rw [rs_coe] at h3 ⊢
  have e : ∀ k, y k * (nrm y)⁻¹ = r k := fun k => by
    have h := h3 k
    dsimp only at h
    exact_mod_cast h
  simp only [← EReal.coe_mul]
  rw [← coe_sum, ← EReal.coe_mul, Finset.mul_sum]
  congr 1
  exact Finset.sum_congr rfl fun k _ => by rw [← e k]; ring

/-- The similarity of the query to a prototype, the reference's. -/
def rsim (q : Fin n → EReal) : EReal := ∑ k, l2 (rmix f v s o u) k * l2 q k

/-- The similarity of the query to a prototype, the kernel's. -/
def ksim (q : Fin n → EReal) : EReal := rs (kmix f v s o u) * ∑ k, l2 q k * kmix f v s o u k

/-- The two are one real number, between −1 and 1. -/
theorem sim_real (q : Fin n → EReal) : ∃ a : ℝ, |a| ≤ 1 ∧ rsim f v s o u q = (a : EReal) ∧ ksim f v s o u q = (a : EReal) := by
  obtain ⟨r, h1, h2, h3⟩ := query f v s o u
  obtain ⟨w, g1, g2, -, -⟩ := l2_real q
  refine ⟨∑ k, r k * w k, ?_, ?_, ?_⟩
  · rw [abs_le_one_iff_mul_self_le_one]
    have hr : (∑ k, r k ^ 2) ≤ 1 := by simpa only [sq] using h2
    have hw : (∑ k, w k ^ 2) ≤ 1 := by simpa only [sq] using g2
    calc (∑ k, r k * w k) * (∑ k, r k * w k) = (∑ k, r k * w k) ^ 2 := (sq _).symm
      _ ≤ (∑ k, r k ^ 2) * ∑ k, w k ^ 2 := Finset.sum_mul_sq_le_sq_mul_sq _ _ _
      _ ≤ 1 := mul_le_one₀ hr (Finset.sum_nonneg fun _ _ => sq_nonneg _) hw
  · unfold rsim
    rw [coe_sum]
    exact Finset.sum_congr rfl fun k _ => by rw [h1, g1, EReal.coe_mul]
  · unfold ksim
    rw [← h3 w]
    simp only [g1]

end

end Cert.Proof.Row

end
-- ==== Proof.Gate.lean ====
/- The type probabilities, the gate and the adjusted probabilities of one frame, as each program computes them. -/
module

public import proofs.«01_k».proof.Proof.Step
public import proofs.«01_k».proof.Proof.Qry

@[expose] public section

noncomputable section

namespace Cert.Proof.Row

open Idealize.ShloMosaic

/-- The logarithm of the number of types. -/
abbrev cLogC : EReal := Ideal.log (Ideal.ofBits .f32 0x41C00000#32)

section
variable (X : Fin 24 → EReal)

/-- The shifted exponential of a type's logit. -/
def etl (c : Fin 24) : EReal := Ideal.exp (X c - Finset.univ.fold max cNegInf X)
/-- The type probabilities, the kernel's: times a reciprocal. -/
def kprob (c : Fin 24) : EReal := etl X c * Ideal.div 1 (∑ x, etl X x)
/-- The type probabilities, the reference's: over the sum. -/
def rprob (c : Fin 24) : EReal :=
  Ideal.div (Ideal.exp (X c - max cNegInf (Finset.univ.fold max cNegInf X))) (∑ x, Ideal.exp (X x - max cNegInf (Finset.univ.fold max cNegInf X)))

/-- Over real logits the two agree. -/
theorem prob_eq (a : Fin 24 → ℝ) (h : X = fun c => (a c : EReal)) (c : Fin 24) : rprob X c = kprob X c := by
  subst h
  obtain ⟨i₀, hi⟩ := Finite.exists_max a
  have ht : Finset.univ.fold max cNegInf (fun c => (a c : EReal)) = (a i₀ : EReal) :=
    fold_max_eq _ _ _ (by rw [cNegInf, cNegInf_eq]; exact bot_le) (fun k => EReal.coe_le_coe_iff.2 (hi k)) ⟨i₀, rfl⟩
  have hm : max cNegInf (a i₀ : EReal) = (a i₀ : EReal) := by rw [cNegInf, cNegInf_eq]; exact max_eq_right bot_le
  have he : ∀ x, etl (fun c => (a c : EReal)) x = ((Real.exp (a x - a i₀) : ℝ) : EReal) := fun x => by
    unfold etl
    rw [ht, ← EReal.coe_sub, Ideal.exp_coe]
  have hpos : 0 < ∑ x, Real.exp (a x - a i₀) := Finset.sum_pos (fun x _ => Real.exp_pos _) ⟨0, Finset.mem_univ _⟩
  unfold rprob kprob
  rw [ht, hm]
  simp only [he, ← EReal.coe_sub, Ideal.exp_coe]
  rw [← coe_sum, div_real _ _ hpos.ne', show (1 : EReal) = ((1 : ℝ) : EReal) from rfl, div_real _ _ hpos.ne', ← EReal.coe_mul, mul_one_div]
end

/-- The entropy of the type probabilities, each taken at least the bound. -/
def entr (p : Fin 24 → EReal) : EReal := 0 - ∑ x, max (p x) cEps * Ideal.log (max (p x) cEps)

/-- The gate, from the background probability, the largest attention, the entropy and the step score. -/
def gate (p0 amax H st : EReal) : EReal :=
  Ideal.logistic (Ideal.ofBits .f32 0x40000000#32 * (Ideal.ofBits .f32 0xBFC00000#32 + Ideal.ofBits .f32 0x40200000#32 * p0 + (1 - amax)
    + Ideal.ofBits .f32 0x3F4CCCCD#32 * Ideal.div H cLogC + Ideal.ofBits .f32 0x40000000#32 * max (Ideal.ofBits .f32 0x3EB33333#32 - st) 0))

/-- The adjusted probability of a type. -/
def adj (p : Fin 24 → EReal) (g : EReal) (c : Fin 24) : EReal := p c * (1 - g) + if c = 23 then g else 0

section
variable (f v s o : Fin 512 → EReal) (u : Fin 64 → EReal) (SP : Fin 128 → Fin 512 → EReal) (EP : Fin 24 → Fin 512 → EReal)

/-- The kernel's similarities to the step prototypes. -/
def kS (i : Fin 128) : EReal := ksim f v s o u (SP i)
/-- The kernel's logits of the types. -/
def kL (c : Fin 24) : EReal := c20 * rs (kmix f v s o u) * ∑ k, l2 (EP c) k * kmix f v s o u k
/-- The adjusted probabilities of a frame, the kernel's. -/
def kadj (c : Fin 24) : EReal :=
  adj (kprob (kL f v s o u EP))
    (gate (kprob (kL f v s o u EP) 0) (Ideal.div 1 (kD (kS f v s o u SP))) (entr (kprob (kL f v s o u EP))) (kscore (kS f v s o u SP))) c

/-- The reference's similarities to the step prototypes. -/
def rS (i : Fin 128) : EReal := rsim f v s o u (SP i)
/-- The reference's logits of the types. -/
def rL (c : Fin 24) : EReal := c20 * rsim f v s o u (EP c)
/-- The adjusted probabilities of a frame, the reference's, from the row `mask` of the kept weights. -/
def radj (mask : Fin 128 → EReal) (c : Fin 24) : EReal :=
  adj (rprob (rL f v s o u EP))
    (gate (rprob (rL f v s o u EP) 0) (Finset.univ.fold max cNegInf (ralpha (rS f v s o u SP))) (entr (rprob (rL f v s o u EP)))
      (rscore mask (rS f v s o u SP))) c

/-- The two similarities are one real row between −1 and 1. -/
theorem sims : ∃ a : Fin 128 → ℝ, (∀ i, |a i| ≤ 1) ∧ rS f v s o u SP = (fun i => (a i : EReal)) ∧ kS f v s o u SP = fun i => (a i : EReal) := by
  choose a h1 h2 h3 using fun i => sim_real f v s o u (SP i)
  exact ⟨a, h1, funext h2, funext h3⟩

theorem logits : ∃ a : Fin 24 → ℝ, rL f v s o u EP = (fun c => (a c : EReal)) ∧ kL f v s o u EP = fun c => (a c : EReal) := by
  choose a _ h2 h3 using fun c => sim_real f v s o u (EP c)
  refine ⟨fun c => 20 * a c, funext fun c => ?_, funext fun c => ?_⟩
  · unfold rL
    rw [h2, c20_eq, ← EReal.coe_mul]
  · unfold kL
    rw [mul_assoc]
    have := h3 c
    unfold ksim at this
    rw [this, c20_eq, ← EReal.coe_mul]

/-- The adjusted probabilities agree, when the five largest attention weights of the frame are distinct: `idx` names their
    places in decreasing order, every other place has at most the least of them, and `mask` holds the kept ones. -/
theorem adj_eq (idx : Fin 5 → Fin 128) (hdec : ∀ j k, j < k → ralpha (rS f v s o u SP) (idx k) < ralpha (rS f v s o u SP) (idx j))
    (hoth : ∀ i, (∀ j, idx j ≠ i) → ralpha (rS f v s o u SP) i ≤ ralpha (rS f v s o u SP) (idx 4))
    (mask : Fin 128 → EReal) (hhit : ∀ j, mask (idx j) = kpt (fun j => ralpha (rS f v s o u SP) (idx j)) j)
    (hmiss : ∀ i, (∀ j, idx j ≠ i) → mask i = 0) (c : Fin 24) :
    radj f v s o u SP EP mask c = kadj f v s o u SP EP c := by
  obtain ⟨a, ha, hr, hk⟩ := sims f v s o u SP
  obtain ⟨b, hbr, hbk⟩ := logits f v s o u EP
  obtain ⟨A, hA, -, -, hlt, hmax⟩ := alpha_real a
  unfold radj kadj
  rw [hr] at hdec hoth hhit ⊢
  rw [hk, hbr, hbk]
  have hp : rprob (fun c => (b c : EReal)) = kprob fun c => (b c : EReal) := funext fun c => prob_eq _ b rfl c
  rw [hp, hmax]
  rw [score_eq a ha idx (fun j k h => ?_) (fun i h => ?_) mask hhit hmiss]
  · have := hdec j k h
    rw [hA, hA, EReal.coe_lt_coe_iff] at this
    exact (hlt _ _).1 this
  · have := hoth i h
    rw [hA, hA, EReal.coe_le_coe_iff] at this
    by_contra hc
    exact absurd ((hlt _ _).2 (not_le.1 hc)) (not_lt.2 this)
end

end Cert.Proof.Row

end
-- ==== Proof.RefVal.lean ====
/- What the reference computes of a frame, read at an entry: similarities, attention, type probabilities. -/
module

public import proofs.«01_k».proof.Proof.RefRun
public import proofs.«01_k».proof.Proof.Gate
public import Idealize.ShloMosaic.Lib.Pointwise

@[expose] public section

set_option maxRecDepth 16384

noncomputable section

namespace Cert.Proof.Ref

open Cert.ReferenceIdeal Cert.ReferenceIdeal.Gen Idealize.ShloMosaic Idealize.ShloMosaic.TcCoe Idealize.SL.Sem
open Cert.Proof.Row (l2 rs rmix conf rS rL radj ralpha rprob entr gate adj rsim rscore cEps cNegInf)

variable (V : Valuation τ sig (Elt Ideal))

/-- Frame `t` of each argument, and the prototypes. -/
abbrev rF (t : Fin 4096) (k : Fin 512) : EReal := (show FVec Ideal S4096x512 .f32 from V (Proc.devRef .tc main_arg0)) (ix2 t k)
abbrev rV (t : Fin 4096) (k : Fin 512) : EReal := (show FVec Ideal S4096x512 .f32 from V (Proc.devRef .tc main_arg1)) (ix2 t k)
abbrev rM (t : Fin 4096) (k : Fin 512) : EReal := (show FVec Ideal S4096x512 .f32 from V (Proc.devRef .tc main_arg2)) (ix2 t k)
abbrev rO (t : Fin 4096) (k : Fin 512) : EReal := (show FVec Ideal S4096x512 .f32 from V (Proc.devRef .tc main_arg3)) (ix2 t k)
abbrev rU (t : Fin 4096) (k : Fin 64) : EReal := (show FVec Ideal S4096x64 .f32 from V (Proc.devRef .tc main_arg4)) (ix2 t k)
abbrev rSP (i : Fin 128) (k : Fin 512) : EReal := (show FVec Ideal S128x512 .f32 from V (Proc.devRef .tc main_arg5)) (ix2 i k)
abbrev rEP (i : Fin 24) (k : Fin 512) : EReal := (show FVec Ideal S24x512 .f32 from V (Proc.devRef .tc main_arg6)) (ix2 i k)

/-- The similarities and the logits of frame `t`. -/
abbrev SR (t : Fin 4096) : Fin 128 → EReal := rS (rF V t) (rV V t) (rM V t) (rO V t) (rU V t) (rSP V)
abbrev LR (t : Fin 4096) : Fin 24 → EReal := rL (rF V t) (rV V t) (rM V t) (rO V t) (rU V t) (rEP V)

theorem v4_at (i : Fin 128) (k : Fin 512) : (show FVec Ideal S128x512 .f32 from val_v4 (F := Ideal) V) (ix2 i k) = l2 (rSP V i) k := by
  pointwise [val_v4]; rfl
theorem v9_at (i : Fin 24) (k : Fin 512) : (show FVec Ideal S24x512 .f32 from val_v9 (F := Ideal) V) (ix2 i k) = l2 (rEP V i) k := by
  pointwise [val_v9]; rfl
theorem v14_at (t : Fin 4096) (k : Fin 512) : (show FVec Ideal S4096x512 .f32 from val_v14 (F := Ideal) V) (ix2 t k) = l2 (rF V t) k := by
  pointwise [val_v14]; rfl
theorem v19_at (t : Fin 4096) (k : Fin 512) : (show FVec Ideal S4096x512 .f32 from val_v19 (F := Ideal) V) (ix2 t k) = l2 (rV V t) k := by
  pointwise [val_v19]; rfl
theorem v24_at (t : Fin 4096) (k : Fin 512) : (show FVec Ideal S4096x512 .f32 from val_v24 (F := Ideal) V) (ix2 t k) = l2 (rM V t) k := by
  pointwise [val_v24]; rfl
theorem v29_at (t : Fin 4096) (k : Fin 512) : (show FVec Ideal S4096x512 .f32 from val_v29 (F := Ideal) V) (ix2 t k) = l2 (rO V t) k := by
  pointwise [val_v29]; rfl
theorem v37_at (t : Fin 4096) : (show FVec Ideal S4096 .f32 from val_v37 (F := Ideal) V) (ix1 t) = conf (rU V t) := by
  pointwise [val_v37]; exact Row.conf_ref _
theorem v40_at (t : Fin 4096) (k : Fin 512) : (show FVec Ideal S4096x512 .f32 from val_v40 (F := Ideal) V) (ix2 t k)
    = l2 (rF V t) k + Row.cVis * l2 (rV V t) k := by
  pointwise [val_v40]; simp only [v14_at, v19_at]
theorem v41_at (t : Fin 4096) : (show FVec Ideal S4096x1 .f32 from val_v41 (F := Ideal) V) (ix2 t 0) = conf (rU V t) := by
  pointwise [val_v41]; exact v37_at V t
theorem v46_at (t : Fin 4096) (k : Fin 512) : (show FVec Ideal S4096x512 .f32 from val_v46 (F := Ideal) V) (ix2 t k)
    = Row.cSem * l2 (rM V t) k + Row.cObs * l2 (rO V t) k := by
  pointwise [val_v46]; simp only [v24_at, v29_at]
theorem v49_at (t : Fin 4096) (k : Fin 512) : (show FVec Ideal S4096x512 .f32 from val_v49 (F := Ideal) V) (ix2 t k)
    = rmix (rF V t) (rV V t) (rM V t) (rO V t) (rU V t) k := by
  pointwise [val_v49]; simp only [v40_at, v41_at, v46_at]; rfl
theorem v54_at (t : Fin 4096) (k : Fin 512) : (show FVec Ideal S4096x512 .f32 from val_v54 (F := Ideal) V) (ix2 t k)
    = l2 (rmix (rF V t) (rV V t) (rM V t) (rO V t) (rU V t)) k := by
  pointwise [val_v54]; simp only [v49_at]; rfl
theorem v56_at (t : Fin 4096) (i : Fin 128) : (show FVec Ideal S4096x128 .f32 from val_v56 (F := Ideal) V) (ix2 t i) = SR V t i := by
  pointwise [val_v56]; simp only [v54_at, v4_at]; rfl
theorem v58_at (t : Fin 4096) (i : Fin 128) : (show FVec Ideal S4096x128 .f32 from val_v58 (F := Ideal) V) (ix2 t i) = Row.c20 * SR V t i := by
  pointwise [val_v58]; simp only [v56_at]
theorem v65_at (t : Fin 4096) (i : Fin 128) : (show FVec Ideal S4096x128 .f32 from val_v65 (F := Ideal) V) (ix2 t i)
    = Ideal.exp (Row.c20 * SR V t i - max cNegInf (Finset.univ.fold max cNegInf fun x => Row.c20 * SR V t x)) := by
  pointwise [val_v65]; simp only [v58_at]
theorem v69_at (t : Fin 4096) (i : Fin 128) : (show FVec Ideal S4096x128 .f32 from val_v69 (F := Ideal) V) (ix2 t i) = ralpha (SR V t) i := by
  pointwise [val_v69]; simp only [v65_at]; rfl
theorem v103_at (t : Fin 4096) (c : Fin 24) : (show FVec Ideal S4096x24 .f32 from val_v103 (F := Ideal) V) (ix2 t c)
    = rsim (rF V t) (rV V t) (rM V t) (rO V t) (rU V t) (rEP V c) := by
  pointwise [val_v103]; simp only [v54_at, v9_at]; rfl
theorem v105_at (t : Fin 4096) (c : Fin 24) : (show FVec Ideal S4096x24 .f32 from val_v105 (F := Ideal) V) (ix2 t c) = LR V t c := by
  pointwise [val_v105, val_cst_25]; simp only [v103_at]; rfl
theorem v112_at (t : Fin 4096) (c : Fin 24) : (show FVec Ideal S4096x24 .f32 from val_v112 (F := Ideal) V) (ix2 t c)
    = Ideal.exp (LR V t c - max cNegInf (Finset.univ.fold max cNegInf (LR V t))) := by
  pointwise [val_v112]; simp only [v105_at]
theorem v116_at (t : Fin 4096) (c : Fin 24) : (show FVec Ideal S4096x24 .f32 from val_v116 (F := Ideal) V) (ix2 t c) = rprob (LR V t) c := by
  pointwise [val_v116]; simp only [v112_at]; rfl
theorem v118_at (t : Fin 4096) (c : Fin 24) : (show FVec Ideal S4096x24 .f32 from val_v118 (F := Ideal) V) (ix2 t c) = max (rprob (LR V t) c) cEps := by
  pointwise [val_v118]; simp only [v116_at]
theorem v126_at (t : Fin 4096) : (show FVec Ideal S4096 .f32 from val_v126 (F := Ideal) V) (ix1 t)
    = Ideal.div (entr (rprob (LR V t))) Row.cLogC := by
  pointwise [val_v126]; simp only [v118_at]; rw [entr, sub_eq_add_neg, zero_add]
theorem v127_at (t : Fin 4096) : (show FVec Ideal S4096 .f32 from val_v127 (F := Ideal) V) (ix1 t)
    = Finset.univ.fold max cNegInf (ralpha (SR V t)) := by
  pointwise [val_v127]; simp only [v69_at]
theorem v138_at (t : Fin 4096) : (show FVec Ideal S4096 .f32 from val_v138 (F := Ideal) V) (ix1 t)
    = Ideal.ofBits .f32 0xBFC00000#32 + Ideal.ofBits .f32 0x40200000#32 * rprob (LR V t) 0 + (1 - Finset.univ.fold max cNegInf (ralpha (SR V t))) := by
  pointwise [val_v138]; simp only [v116_at, v127_at]

/-- The row of the mask. -/
abbrev mask (t : Fin 4096) (i : Fin 128) : EReal := (show FVec Ideal S4096x128 .f32 from val_v93 (F := Ideal) V) (ix2 t i)

theorem v101_at (t : Fin 4096) : (show FVec Ideal S4096 .f32 from val_v101 (F := Ideal) V) (ix1 t) = rscore (mask V t) (SR V t) := by
  pointwise [val_v101]; simp only [v56_at]; rfl
theorem v155_at (t : Fin 4096) : (show FVec Ideal S4096 .f32 from val_v155 (F := Ideal) V) (ix1 t)
    = gate (rprob (LR V t) 0) (Finset.univ.fold max cNegInf (ralpha (SR V t))) (entr (rprob (LR V t))) (rscore (mask V t) (SR V t)) := by
  pointwise [val_v155, val_v147]; simp only [v138_at, v126_at, v101_at]; rfl

end Cert.Proof.Ref

end
-- ==== Proof.RefTop.lean ====
/- The reference's five largest weights, their running sums, and the two scatters, each read at an entry. -/
module

public import proofs.«01_k».proof.Proof.RefRun
public import proofs.«01_k».proof.Proof.Step
public import Idealize.ShloMosaic.Lib.Pointwise
public import Idealize.ShloMosaic.Lib.SortFacts
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Idealize.ShloMosaic Idealize.ShloMosaic.TcCoe Idealize.SL.Sem
open Idealize.ShloMosaic.Routing (symm22 shape2)
open Cert.Proof.Row (cumv kpt)

/-! ## The five largest of a row -/

section
variable (x : FVec Ideal S4096x128 .f32) (t : Fin 4096)

/-- Column `k` goes before column `k'`: its entry is greater. -/
def bef (k k' : Fin 128) : Bool := FloatOps.cmpfTotal (F := Ideal) .gt (x (ix2 t k)) (x (ix2 t k')) == 1#1

theorem bef_iff (k k' : Fin 128) : bef x t k k' = true ↔ x (ix2 t k') < x (ix2 t k) := by
  unfold bef
  rw [Ideal.cmpfTotal_def, beq_iff_eq]
  show BitVec.ofBool (decide (x (ix2 t k) > x (ix2 t k'))) = 1#1 ↔ _
  by_cases h : x (ix2 t k') < x (ix2 t k)
  · simp [h]
  · simp [h]

/-- The column of the `j`-th largest entry. -/
def pos (j : Fin 5) : Fin 128 := sortedFrom (bef x t) (Fin.castLE (by decide) j)

theorem pos_injective : Function.Injective (pos x t) := fun a b h => Fin.castLE_injective _ (sortedFrom_injective _ h)

theorem bef_false (k k' : Fin 128) : bef x t k k' = false ↔ x (ix2 t k) ≤ x (ix2 t k') := by
  rw [← Bool.not_eq_true, bef_iff, not_lt]

theorem sorted (i j : Fin 128) (h : i < j) : x (ix2 t (sortedFrom (bef x t) j)) ≤ x (ix2 t (sortedFrom (bef x t) i)) :=
  (bef_false x t _ _).1 (sortedFrom_noInversion (bef x t) (bef x t) (fun a b h => (bef_false x t _ _).2 (le_of_lt ((bef_iff x t _ _).1 h)))
    (fun _ _ h => h) (fun a b c h h' => (bef_false x t _ _).2 (le_trans ((bef_false x t _ _).1 h) ((bef_false x t _ _).1 h'))) i j h)

/-- Every other entry is at most the fifth largest. -/
theorem others (i : Fin 128) (h : ∀ j, pos x t j ≠ i) : x (ix2 t i) ≤ x (ix2 t (pos x t 4)) := by
  obtain ⟨k, rfl⟩ := sortedFrom_surjective (bef x t) i
  refine sorted x t _ k ?_
  by_contra hk
  have hk' : k.val < 5 := by
    have : ¬ (4 : ℕ) < k.val := hk
    omega
  exact h ⟨k.val, hk'⟩ rfl

theorem along_ix2 (i : S4096x128.Idx) (k : Fin 128) : Shape.Idx.along i (1 : Fin 2) k = ix2 (i 0) k := by
  funext a
  match a with
  | ⟨0, _⟩ => rfl
  | ⟨1, _⟩ => rfl

theorem slice_idx (j : Fin 5) (h : S4096x128.Slices (fun _ => 0) S4096x5) :
    (fun a : Fin 2 => (⟨0 + ((ix2 t j : S4096x5.Idx) (a.cast h.1.symm)).val, Nat.lt_of_lt_of_le (Nat.add_lt_add_left (Fin.isLt _) _) (h.2 a)⟩ : Fin (S4096x128.size a)))
      = (ix2 t (Fin.castLE (by decide) j : Fin 128) : S4096x128.Idx) := by
  funext a
  match a with
  | ⟨0, _⟩ => exact Fin.ext (Nat.zero_add _)
  | ⟨1, _⟩ => exact Fin.ext (Nat.zero_add _)

theorem sort2_fst {α β : Type} (cmp : α × β → α × β → BitVec 1) (u : S4096x128.Idx → α) (v : S4096x128.Idx → β) (i : S4096x128.Idx) :
    (Host.sort2 S4096x128 1 cmp u v).1 i
      = u (ix2 (i 0) (sortedFrom (fun k k' : Fin 128 => cmp (u (ix2 (i 0) k), v (ix2 (i 0) k)) (u (ix2 (i 0) k'), v (ix2 (i 0) k')) == 1#1) (i 1))) := by
  unfold Host.sort2
  rw [dif_pos (show 1 < S4096x128.rank by decide)]
  have e (h : 1 < S4096x128.rank) (k : Fin 128) : Shape.Idx.along i (⟨1, h⟩ : Fin S4096x128.rank) k = ix2 (i 0) k := along_ix2 i k
  refine (congrArg u (along_ix2 i _)).trans ?_
  refine congrArg (fun B : Fin 128 → Fin 128 → Bool => u (ix2 (i 0) (sortedFrom B (i 1)))) (funext fun k => funext fun k' => ?_)
  exact congrArg₂ (fun p q : S4096x128.Idx => cmp (u p, v p) (u q, v q) == 1#1) (e (by decide) k) (e (by decide) k')

theorem sort2_snd {α β : Type} (cmp : α × β → α × β → BitVec 1) (u : S4096x128.Idx → α) (v : S4096x128.Idx → β) (i : S4096x128.Idx) :
    (Host.sort2 S4096x128 1 cmp u v).2 i
      = v (ix2 (i 0) (sortedFrom (fun k k' : Fin 128 => cmp (u (ix2 (i 0) k), v (ix2 (i 0) k)) (u (ix2 (i 0) k'), v (ix2 (i 0) k')) == 1#1) (i 1))) := by
  unfold Host.sort2
  rw [dif_pos (show 1 < S4096x128.rank by decide)]
  have e (h : 1 < S4096x128.rank) (k : Fin 128) : Shape.Idx.along i (⟨1, h⟩ : Fin S4096x128.rank) k = ix2 (i 0) k := along_ix2 i k
  refine (congrArg v (along_ix2 i _)).trans ?_
  refine congrArg (fun B : Fin 128 → Fin 128 → Bool => v (ix2 (i 0) (sortedFrom B (i 1)))) (funext fun k => funext fun k' => ?_)
  exact congrArg₂ (fun p q : S4096x128.Idx => cmp (u p, v p) (u q, v q) == 1#1) (e (by decide) k) (e (by decide) k')

theorem topK_fst (j : Fin 5) (h : S4096x128.Slices (fun _ => 0) S4096x5) :
    (Host.topK S4096x5 1 (FloatOps.cmpfTotal (F := Ideal) (φ := .f32) .gt) x h).1 (ix2 t j) = x (ix2 t (pos x t j)) := by
  unfold Host.topK extractStridedSlice
  dsimp only
  rw [slice_idx t j h, sort2_fst]
  rfl

theorem topK_snd (j : Fin 5) (h : S4096x128.Slices (fun _ => 0) S4096x5) :
    (Host.topK S4096x5 1 (FloatOps.cmpfTotal (F := Ideal) (φ := .f32) .gt) x h).2 (ix2 t j) = BitVec.ofNat 32 (pos x t j).val := by
  unfold Host.topK extractStridedSlice
  dsimp only
  rw [slice_idx t j h, sort2_snd, dif_pos (show 1 < S4096x128.rank by decide)]
  rfl
end

/-! ## The running sums -/

theorem cum_at (y : FVec Ideal S4096x5 .f32) (b : FVec Ideal S_ .f32) (hb : ∀ i, b i = 0) (t : Fin 4096) (j : Fin 5)
    (h : S4096x5.ReduceWindows ![1, 5] ![1, 1] ![0, 4] ![0, 0] S4096x5) (h' : 0 < S_.numel) :
    Host.reduceWindowAdd ![1, 5] ![1, 1] ![0, 4] ![0, 0] y b h h' (ix2 t j) = cumv (fun j => y (ix2 t j)) j := by
  unfold Host.reduceWindowAdd
  rw [hb, Ideal.hostReduceWindowAdd_def]
  unfold Ideal.hostReduceWindowAdd Host.reduceWindow
  dsimp only
  have step : ∀ (r : EReal) (n : Fin 5) (inst : Decidable (∀ a : Fin 2, (![0, 4] : Fin 2 → ℕ) a
      ≤ ((ix2 t j : S4096x5.Idx) (a.cast h.1.symm)).val * (![1, 1] : Fin 2 → ℕ) a + ((shape2 1 5).rowMajor.symm n a).val
      ∧ ((ix2 t j : S4096x5.Idx) (a.cast h.1.symm)).val * (![1, 1] : Fin 2 → ℕ) a + ((shape2 1 5).rowMajor.symm n a).val - (![0, 4] : Fin 2 → ℕ) a < S4096x5.size a)), (r + (@dite EReal (∀ a : Fin 2, (![0, 4] : Fin 2 → ℕ) a
      ≤ ((ix2 t j : S4096x5.Idx) (a.cast h.1.symm)).val * (![1, 1] : Fin 2 → ℕ) a + ((shape2 1 5).rowMajor.symm n a).val
      ∧ ((ix2 t j : S4096x5.Idx) (a.cast h.1.symm)).val * (![1, 1] : Fin 2 → ℕ) a + ((shape2 1 5).rowMajor.symm n a).val - (![0, 4] : Fin 2 → ℕ) a < S4096x5.size a) inst (fun hin =>
      y (fun a => ⟨((ix2 t j : S4096x5.Idx) (a.cast h.1.symm)).val * (![1, 1] : Fin 2 → ℕ) a + ((shape2 1 5).rowMajor.symm n a).val - (![0, 4] : Fin 2 → ℕ) a, (hin a).2⟩))
      fun _ => (0 : EReal)) : EReal) = r + if hn : 4 ≤ j.val + n.val then y (ix2 t (⟨j.val + n.val - 4, by omega⟩ : Fin 5)) else 0 := by
    intro r n inst
    congr 1
    have e := symm22 (A := 1) (B := 5) n (by have := n.isLt; omega) (by omega)
    have e0 : ((shape2 1 5).rowMajor.symm n 0).val = 0 := by
      rw [e]; show n.val / 5 = 0; have := n.isLt; omega
    have e1 : ((shape2 1 5).rowMajor.symm n 1).val = n.val := by
      rw [e]; show n.val % 5 = n.val; have := n.isLt; omega
    have c0 : ((ix2 t j : S4096x5.Idx) (Fin.cast h.1.symm 0)).val * (![1, 1] : Fin 2 → ℕ) 0 + ((shape2 1 5).rowMajor.symm n 0).val = t.val := by
      rw [e0]; show t.val * 1 + 0 = t.val; omega
    have c1 : ((ix2 t j : S4096x5.Idx) (Fin.cast h.1.symm 1)).val * (![1, 1] : Fin 2 → ℕ) 1 + ((shape2 1 5).rowMajor.symm n 1).val = j.val + n.val := by
      rw [e1]; show j.val * 1 + n.val = j.val + n.val; omega
    by_cases hn : 4 ≤ j.val + n.val
    · rw [dif_pos hn, dif_pos]
      · congr 1
        funext a
        match a with
        | ⟨0, _⟩ => exact Fin.ext ((congrArg (· - 0) c0).trans (Nat.sub_zero _))
        | ⟨1, _⟩ => exact Fin.ext (congrArg (· - 4) c1)
      · intro a
        match a with
        | ⟨0, _⟩ => exact ⟨Nat.zero_le _, lt_of_eq_of_lt (congrArg (· - 0) c0) t.isLt⟩
        | ⟨1, _⟩ => exact ⟨le_of_le_of_eq hn c1.symm, lt_of_eq_of_lt (congrArg (· - 4) c1) (by have := n.isLt; have := j.isLt; show j.val + n.val - 4 < 5; omega)⟩
    · rw [dif_neg hn, dif_neg]
      intro hin
      exact hn (le_of_le_of_eq (hin 1).1 c1)
  refine (congrArg (fun g : EReal → Fin 5 → EReal => List.foldl g 0 (List.finRange 5)) (funext fun r => funext fun n => step r n _) : _ = _).trans ?_
  have l5 : List.finRange 5 = [0, 1, 2, 3, 4] := rfl
  rw [l5]
  fin_cases j <;> simp [cumv]

/-! ## A scatter that adds one vector to one column -/

theorem foldl_single {ι α : Type} [DecidableEq ι] (f : α → α → α) (hit : ι → Prop) [DecidablePred hit] (g : ι → α) (k : ι) (hk : ∀ n, hit n ↔ n = k)
    (l : List ι) (hl : l.Nodup) (a : α) :
    l.foldl (fun a n => if hit n then f a (g n) else a) a = if k ∈ l then f a (g k) else a := by
  induction l generalizing a with
  | nil => simp
  | cons b l ih =>
    rw [List.nodup_cons] at hl
    rw [List.foldl_cons, ih hl.2]
    by_cases hb : b = k
    · subst hb
      rw [if_neg hl.1, if_pos ((hk b).2 rfl), if_pos (List.mem_cons_self ..)]
    · rw [if_neg (fun h => hb ((hk b).1 h))]
      have : k ∈ b :: l ↔ k ∈ l := by
        rw [List.mem_cons]
        exact or_iff_right fun h => hb h.symm
      simp only [this]

theorem foldl_never {ι α : Type} (f : α → α → α) (hit : ι → Prop) [DecidablePred hit] (g : ι → α) (hk : ∀ n, ¬ hit n) (l : List ι) (a : α) :
    l.foldl (fun a n => if hit n then f a (g n) else a) a = a := by
  induction l generalizing a with
  | nil => rfl
  | cons b l ih => rw [List.foldl_cons, if_neg (hk b), ih]

/-- Update `n` lands at row `n` of column 23. -/
theorem col_lands (idx : IVec S1 32) (hi : ∀ i, idx i = 23#32) (k : S4096.Idx) (t : Fin 4096) (c : Fin 24) :
    scatter_S4096x24_S1_S4096_0_1_1_0.resultIdx? k idx = some (ix2 t c) ↔ k = ix1 t ∧ c = 23 := by
  rw [Routing.resultIdx?_eq_some]
  have s0 : scatter_S4096x24_S1_S4096_0_1_1_0.start k idx 0 = 0 := by
    unfold ScatterDims.start
    exact dif_neg (by decide)
  have s1 : scatter_S4096x24_S1_S4096_0_1_1_0.start k idx 1 = 23 := by
    unfold ScatterDims.start
    rw [dif_pos (show (1 : Fin 2) ∈ scatter_S4096x24_S1_S4096_0_1_1_0.scatterDimsToOperandDims by decide), hi]
    rfl
  have w0 : scatter_S4096x24_S1_S4096_0_1_1_0.window k 0 = (k 0).val := by
    unfold ScatterDims.window
    rw [dif_pos (show (0 : Fin 2) ∈ scatter_S4096x24_S1_S4096_0_1_1_0.sKept by decide)]
    rfl
  have w1 : scatter_S4096x24_S1_S4096_0_1_1_0.window k 1 = 0 := by
    unfold ScatterDims.window
    exact dif_neg (by decide)
  constructor
  · intro h
    have h0 := h 0
    have h1 := h 1
    rw [s0, w0] at h0
    rw [s1, w1] at h1
    constructor
    · funext a
      match a with
      | ⟨0, _⟩ => exact Fin.ext (by have : (0 : ℤ) + ((k 0).val : ℤ) = (t.val : ℤ) := h0; show (k 0).val = t.val; omega)
    · exact Fin.ext (by have : (23 : ℤ) + ((0 : ℕ) : ℤ) = (c.val : ℤ) := h1; show c.val = 23; omega)
  · rintro ⟨rfl, rfl⟩ a
    match a with
    | ⟨0, _⟩ =>
      show scatter_S4096x24_S1_S4096_0_1_1_0.start (ix1 t) idx 0 + (scatter_S4096x24_S1_S4096_0_1_1_0.window (ix1 t) 0 : ℤ) = (t.val : ℤ)
      rw [s0, w0]; exact zero_add _
    | ⟨1, _⟩ =>
      show scatter_S4096x24_S1_S4096_0_1_1_0.start (ix1 t) idx 1 + (scatter_S4096x24_S1_S4096_0_1_1_0.window (ix1 t) 1 : ℤ) = 23
      rw [s1, w1]; rfl

theorem addcol_at (x : FVec Ideal S4096x24 .f32) (idx : IVec S1 32) (hi : ∀ i, idx i = 23#32) (u : FVec Ideal S4096 .f32) (t : Fin 4096) (c : Fin 24) :
    Host.scatter scatter_S4096x24_S1_S4096_0_1_1_0 (FloatOps.addf (F := Ideal) (φ := .f32)) x idx u (ix2 t c) = x (ix2 t c) + if c = 23 then u (ix1 t) else 0 := by
  rw [Routing.scatter_at]
  by_cases hc : c = 23
  · have hk : ∀ n : Fin S4096.numel, scatter_S4096x24_S1_S4096_0_1_1_0.resultIdx? (S4096.rowMajor.symm n) idx = some (ix2 t c) ↔ n = S4096.rowMajor (ix1 t) := fun n => by
      rw [col_lands idx hi, Equiv.symm_apply_eq]
      exact and_iff_left hc
    rw [if_pos hc]
    refine (foldl_single (FloatOps.addf (F := Ideal) (φ := .f32)) (fun n => scatter_S4096x24_S1_S4096_0_1_1_0.resultIdx? (S4096.rowMajor.symm n) idx = some (ix2 t c))
      (fun n => u (S4096.rowMajor.symm n)) _ hk _ (List.nodup_finRange _) _).trans ?_
    rw [if_pos (List.mem_finRange _), Equiv.symm_apply_apply]
    rfl
  · rw [if_neg hc]
    refine (foldl_never (FloatOps.addf (F := Ideal) (φ := .f32)) (fun n => scatter_S4096x24_S1_S4096_0_1_1_0.resultIdx? (S4096.rowMajor.symm n) idx = some (ix2 t c))
      (fun n => u (S4096.rowMajor.symm n)) (fun n h => hc ((col_lands idx hi _ t c).1 h).2) _ _).trans ?_
    exact (add_zero (x (ix2 t c) : EReal)).symm

/-! ## The mask -/

/-- One row's mask: the `j`-th kept weight at the column of the `j`-th largest, zero elsewhere. -/
theorem mask_hit (x0 : FVec Ideal S4096x128 .f32) (idx : IVec S4096x5x2 32) (p : Fin 4096 → Fin 5 → Fin 128) (hp : ∀ t, Function.Injective (p t))
    (h0 : ∀ t j, idx (ix3 t j 0) = BitVec.ofNat 32 t.val) (h1 : ∀ t j, idx (ix3 t j 1) = BitVec.ofNat 32 (p t j).val)
    (u : FVec Ideal S4096x5 .f32) (t : Fin 4096) (j : Fin 5) :
    Host.scatter scatter_S4096x128_S4096x5x2_S4096x5_n_01_01_2 (fun _ b => b) x0 idx u (ix2 t (p t j)) = u (ix2 t j) := by
  have key : ∀ (a : Fin 4096) (b : Fin 5) (i : Fin 128), scatter_S4096x128_S4096x5x2_S4096x5_n_01_01_2.resultIdx? (ix2 a b) idx = some (ix2 t i) ↔ a = t ∧ p a b = i := by
    intro a b i
    refine (Routing.scatter_lands2 (R := 4096) (C := 128) (A := 4096) (B := 5) scatter_S4096x128_S4096x5x2_S4096x5_n_01_01_2 rfl rfl rfl idx a b t i).trans ?_
    have e0 : (idx (ix3 a b 0)).toInt = a.val := by rw [h0, StableHlo.Predicate.toInt_ofNat_small _ (by have := a.isLt; omega)]
    have e1 : (idx (ix3 a b 1)).toInt = (p a b).val := by rw [h1, StableHlo.Predicate.toInt_ofNat_small _ (by have := (p a b).isLt; omega)]
    constructor
    · rintro ⟨q0, q1⟩
      exact ⟨Fin.ext (by have := e0.symm.trans q0; omega), Fin.ext (by have := e1.symm.trans q1; omega)⟩
    · rintro ⟨rfl, rfl⟩
      exact ⟨e0, e1⟩
  refine Routing.scatter_set_hit _ x0 idx u _ _ (fun k hk => ?_) (ix2 t j) ((key t j _).2 ⟨rfl, rfl⟩)
  obtain ⟨a, b, rfl⟩ : ∃ (a : Fin 4096) (b : Fin 5), k = ix2 a b := ⟨k 0, k 1, by
    funext d
    match d with
    | ⟨0, _⟩ => rfl
    | ⟨1, _⟩ => rfl⟩
  obtain ⟨rfl, hb⟩ := (key a b _).1 hk
  rw [hp a hb]

theorem mask_miss (x0 : FVec Ideal S4096x128 .f32) (idx : IVec S4096x5x2 32) (p : Fin 4096 → Fin 5 → Fin 128)
    (h0 : ∀ t j, idx (ix3 t j 0) = BitVec.ofNat 32 t.val) (h1 : ∀ t j, idx (ix3 t j 1) = BitVec.ofNat 32 (p t j).val)
    (u : FVec Ideal S4096x5 .f32) (t : Fin 4096) (i : Fin 128) (hi : ∀ j, p t j ≠ i) :
    Host.scatter scatter_S4096x128_S4096x5x2_S4096x5_n_01_01_2 (fun _ b => b) x0 idx u (ix2 t i) = x0 (ix2 t i) := by
  refine Routing.scatter_set_miss _ x0 idx u _ fun k hk => ?_
  obtain ⟨a, b, rfl⟩ : ∃ (a : Fin 4096) (b : Fin 5), k = ix2 a b := ⟨k 0, k 1, by
    funext d
    match d with
    | ⟨0, _⟩ => rfl
    | ⟨1, _⟩ => rfl⟩
  obtain ⟨q0, q1⟩ := (Routing.scatter_lands2 (R := 4096) (C := 128) (A := 4096) (B := 5) scatter_S4096x128_S4096x5x2_S4096x5_n_01_01_2 rfl rfl rfl idx a b t i).1 hk
  have e0 : (idx (ix3 a b 0)).toInt = a.val := by rw [h0, StableHlo.Predicate.toInt_ofNat_small _ (by have := a.isLt; omega)]
  have e1 : (idx (ix3 a b 1)).toInt = (p a b).val := by rw [h1, StableHlo.Predicate.toInt_ofNat_small _ (by have := (p a b).isLt; omega)]
  have ha : a = t := Fin.ext (by have := e0.symm.trans q0; omega)
  subst ha
  exact hi b (Fin.ext (by have := e1.symm.trans q1; omega))

end Cert.Proof.Ref

end
-- ==== Proof.RefAdj.lean ====
/- The reference's attention mask and its adjusted scores, which are the kernel's where no two of the five largest weights tie. -/
module

public import proofs.«01_k».proof.Proof.RefVal
public import proofs.«01_k».proof.Proof.RefTop

@[expose] public section

set_option maxRecDepth 16384

noncomputable section

namespace Cert.Proof.Ref

open Cert.ReferenceIdeal Cert.ReferenceIdeal.Gen Idealize.ShloMosaic Idealize.ShloMosaic.TcCoe Idealize.SL.Sem
open Cert.Proof.Row (l2 rs rmix conf rS rL radj kadj ralpha rprob entr gate adj rsim rscore cEps cNegInf kpt cumv)

variable (V : Valuation τ sig (Elt Ideal))

/-- Where the five largest weights of frame `t` stand. -/
abbrev top (t : Fin 4096) (j : Fin 5) : Fin 128 := pos (val_v69 (F := Ideal) V) t j

theorem values_at (t : Fin 4096) (j : Fin 5) : (show FVec Ideal S4096x5 .f32 from val_values (F := Ideal) V) (ix2 t j) = ralpha (SR V t) (top V t j) :=
  (topK_fst _ t j _).trans (v69_at V t _)

theorem indices_at (t : Fin 4096) (j : Fin 5) : (show IVec S4096x5 32 from val_indices (F := Ideal) V) (ix2 t j) = BitVec.ofNat 32 (top V t j).val :=
  topK_snd _ t j _

theorem v70_at (t : Fin 4096) (j : Fin 5) : (show FVec Ideal S4096x5 .f32 from val_v70 (F := Ideal) V) (ix2 t j)
    = cumv (fun j => ralpha (SR V t) (top V t j)) j := by
  refine (cum_at _ _ (fun i => ?_) t j _ _).trans (congrArg (fun v => cumv v j) (funext fun j => values_at V t j))
  show Ideal.ofBits .f32 0x00000000#32 = 0
  simp [Ideal.ofBits, Ideal.ieee]

/-- A bit times a value is the value or zero. -/
theorem keep_bit (a b : EReal) : a * FloatOps.uitofp (F := Ideal) .f32 (BitVec.ofBool (decide (b < Row.cRho))) = if b < Row.cRho then a else 0 := by
  have e1 : FloatOps.uitofp (F := Ideal) .f32 1#1 = (1 : EReal) := by
    show (((1#1 : BitVec 1).toNat : ℝ) : EReal) = 1
    simp
  have e0 : FloatOps.uitofp (F := Ideal) .f32 0#1 = (0 : EReal) := by
    show (((0#1 : BitVec 1).toNat : ℝ) : EReal) = 0
    simp
  by_cases h : b < Row.cRho
  · rw [decide_eq_true h, if_pos h]; exact (congrArg (a * ·) e1).trans (mul_one a)
  · rw [decide_eq_false h, if_neg h]; exact (congrArg (a * ·) e0).trans (mul_zero a)

theorem v75_at (t : Fin 4096) (j : Fin 5) : (show FVec Ideal S4096x5 .f32 from val_v75 (F := Ideal) V) (ix2 t j)
    = kpt (fun j => ralpha (SR V t) (top V t j)) j := by
  pointwise [val_v75]
  simp only [values_at, v70_at]
  exact keep_bit _ _

theorem v83_at (t : Fin 4096) : (show IVec S4096x1 32 from val_v83 (F := Ideal) V) (ix2 t 0) = BitVec.ofNat 32 t.val := by
  pointwise [val_v83]
  exact Routing.wrap_of_lt _ _ (by rw [BitVec.toNat_ofNat]; have := t.isLt; omega)

theorem v88_at (t : Fin 4096) (j : Fin 5) : (show IVec S4096x5 32 from val_v88 (F := Ideal) V) (ix2 t j) = BitVec.ofNat 32 (top V t j).val := by
  pointwise [val_v88]
  simp only [indices_at]
  exact Routing.wrap_of_lt _ _ (by rw [BitVec.toNat_ofNat]; have := (top V t j).isLt; omega)

theorem coord0_at (t : Fin 4096) (j : Fin 5) : fn_main_v92 (F := Ideal) (broadcastInDim S4096x5x1 ![0, 1] bcast_S4096x5_S4096x5x1_0_1 (broadcastInDim S4096x5 ![0, 1] bcast_S4096x1_S4096x5_0_1 (val_v83 V))) (broadcastInDim S4096x5x1 ![0, 1] bcast_S4096x5_S4096x5x1_0_1 (val_v88 V)) (ix3 t j 0)
    = BitVec.ofNat 32 t.val := by
  pointwise [fn_main_v92]
  exact v83_at V t

theorem coord1_at (t : Fin 4096) (j : Fin 5) : fn_main_v92 (F := Ideal) (broadcastInDim S4096x5x1 ![0, 1] bcast_S4096x5_S4096x5x1_0_1 (broadcastInDim S4096x5 ![0, 1] bcast_S4096x1_S4096x5_0_1 (val_v83 V))) (broadcastInDim S4096x5x1 ![0, 1] bcast_S4096x5_S4096x5x1_0_1 (val_v88 V)) (ix3 t j 1)
    = BitVec.ofNat 32 (top V t j).val := by
  pointwise [fn_main_v92]
  exact v88_at V t j

/-- The mask holds each kept weight at its place. -/
theorem hit (t : Fin 4096) (j : Fin 5) : mask V t (top V t j) = kpt (fun j => ralpha (SR V t) (top V t j)) j :=
  (mask_hit (val_v76 (F := Ideal) V) _ (top V) (fun t => pos_injective _ t) (coord0_at V) (coord1_at V) (val_v75 (F := Ideal) V) t j).trans (v75_at V t j)

/-- Elsewhere the mask is zero. -/
theorem miss (t : Fin 4096) (i : Fin 128) (h : ∀ j, top V t j ≠ i) : mask V t i = 0 := by
  refine (mask_miss (val_v76 (F := Ideal) V) _ (top V) (coord0_at V) (coord1_at V) (val_v75 (F := Ideal) V) t i h).trans ?_
  show Ideal.ofBits .f32 0x00000000#32 = 0
  simp [Ideal.ofBits, Ideal.ieee]

/-- No weight outside the five is greater than the fifth. -/
theorem below (t : Fin 4096) (i : Fin 128) (h : ∀ j, top V t j ≠ i) : ralpha (SR V t) i ≤ ralpha (SR V t) (top V t 4) :=
  (le_of_eq (v69_at V t i).symm).trans ((others _ t i h).trans (le_of_eq (v69_at V t _)))

theorem v163_at (t : Fin 4096) (c : Fin 24) : (show FVec Ideal S24x4096 .f32 from val_v163 (F := Ideal) V) (ix2 c t)
    = radj (rF V t) (rV V t) (rM V t) (rO V t) (rU V t) (rSP V) (rEP V) (mask V t) c := by
  refine (show _ = Host.scatter scatter_S4096x24_S1_S4096_0_1_1_0 (FloatOps.addf (F := Ideal) (φ := .f32))
    (mulf (val_v116 V) (broadcastInDim S4096x24 ![0, 1] bcast_S4096x1_S4096x24_0_1 (subf (broadcastInDim S4096x1 ![] bcast_S_S4096x1 (constant S_ .f32 0x3F800000#32)) (broadcastInDim S4096x1 ![0] bcast_S4096_S4096x1_0 (val_v155 V))))) (broadcastInDim S1 ![] bcast_S_S1 (constantI S_ 32 23#32)) (val_v155 (F := Ideal) V) (ix2 t c) from ?_).trans
    ((addcol_at _ _ (fun i => rfl) _ t c).trans ?_)
  · pointwise [val_v163]
  · rw [show (val_v155 (F := Ideal) V) (ix1 t) = _ from v155_at V t]
    pointwise
    simp only [v116_at, v155_at]
    rfl

/-- No two of the five largest weights of a frame are equal. -/
def Apart : Prop := ∀ (t : Fin 4096) (j k : Fin 5), j < k → ralpha (SR V t) (top V t k) < ralpha (SR V t) (top V t j)

/-- Then the reference's adjusted scores are the kernel's. -/
theorem v163_eq (h : Apart V) (t : Fin 4096) (c : Fin 24) : (show FVec Ideal S24x4096 .f32 from val_v163 (F := Ideal) V) (ix2 c t)
    = kadj (rF V t) (rV V t) (rM V t) (rO V t) (rU V t) (rSP V) (rEP V) c :=
  (v163_at V t c).trans (Row.adj_eq _ _ _ _ _ _ _ (top V t) (h t) (below V t) (mask V t) (hit V t) (miss V t) c)

end Cert.Proof.Ref

end
-- ==== Proof.Filter.lean ====
/- The temporal filter and the choice of a type, on one frame: the largest of five columns, the first row that holds it. -/
module

public import proofs.«01_k».proof.Proof.Row
public import Idealize.ShloMosaic.Lib.StableHlo.Predicate

@[expose] public section

noncomputable section

namespace Cert.Proof.Row

open Idealize.ShloMosaic

/-- Column `d` of the window of frame `t`, the frames past an end standing for the end's. -/
def wcol (t : Fin 4096) (d : ℕ) : Fin 4096 := ⟨min (t.val + d - 2) 4095, by omega⟩

/-- The largest of the five columns. -/
def smooth (P : Fin 4096 → EReal) (t : Fin 4096) : EReal :=
  max (max (max (max (P (wcol t 0)) (P (wcol t 1))) (P (wcol t 2))) (P (wcol t 3))) (P (wcol t 4))

section
variable (R : Fin 24 → EReal)

/-- The kernel's choice: the least row where the column's maximum stands. -/
def ftype : BitVec 32 :=
  Finset.fold IntOp.minsi (2147483647#32) (fun x => if R x = Finset.fold max (Ideal.ofBits .f32 0xFF800000#32) R Finset.univ then BitVec.ofNat 32 x.val else 24#32) Finset.univ

theorem first_max : ∃ r : Fin 24, (∀ i, R i ≤ R r) ∧ ∀ i, i < r → R i < R r := by
  obtain ⟨r₀, h₀⟩ := Finite.exists_max R
  obtain ⟨r, hr, hm⟩ := (wellFounded_lt (α := Fin 24)).has_min {r | ∀ i, R i ≤ R r} ⟨r₀, h₀⟩
  refine ⟨r, hr, fun i hi => lt_of_le_of_ne (hr i) fun e => hm i (fun k => (hr k).trans (le_of_eq e.symm)) hi⟩

theorem fold_minsi {ι : Type} [DecidableEq ι] (b : BitVec 32) (f : ι → BitVec 32) (s : Finset ι) :
    (s.fold IntOp.minsi b f = b ∨ ∃ x ∈ s, s.fold IntOp.minsi b f = f x) ∧ (∀ x ∈ s, (s.fold IntOp.minsi b f).toInt ≤ (f x).toInt)
      ∧ (s.fold IntOp.minsi b f).toInt ≤ b.toInt := by
  induction s using Finset.induction_on with
  | empty => simp
  | insert a s ha ih =>
    obtain ⟨h1, h2, h3⟩ := ih
    rw [Finset.fold_insert ha]
    have hm : ∀ u v : BitVec 32, (IntOp.minsi u v = u ∧ u.toInt ≤ v.toInt) ∨ (IntOp.minsi u v = v ∧ v.toInt ≤ u.toInt) := fun u v => by
      unfold IntOp.minsi
      split
      · next h => left; refine ⟨rfl, ?_⟩; have := BitVec.slt_iff_toInt_lt.1 h; omega
      · next h => right; refine ⟨rfl, ?_⟩; rw [BitVec.slt_iff_toInt_lt] at h; omega
    rcases hm (f a) (s.fold IntOp.minsi b f) with ⟨e, h⟩ | ⟨e, h⟩ <;> rw [e]
    · refine ⟨Or.inr ⟨a, Finset.mem_insert_self a s, rfl⟩, fun x hx => ?_, h.trans h3⟩
      rcases Finset.mem_insert.1 hx with rfl | hx
      · exact le_rfl
      · exact h.trans (h2 x hx)
    · refine ⟨h1.imp id fun ⟨x, hx, e⟩ => ⟨x, Finset.mem_insert_of_mem hx, e⟩, fun x hx => ?_, h3⟩
      rcases Finset.mem_insert.1 hx with rfl | hx
      · exact h
      · exact h2 x hx

theorem ftype_eq (r : Fin 24) (hr : ∀ i, R i ≤ R r) (hlt : ∀ i, i < r → R i < R r) : ftype R = BitVec.ofNat 32 r.val := by
  unfold ftype
  have hm : Finset.fold max (Ideal.ofBits .f32 0xFF800000#32) R Finset.univ = R r :=
    fold_max_eq _ _ _ (by simp [Ideal.ofBits, Ideal.ieee]) hr ⟨r, rfl⟩
  rw [hm]
  obtain ⟨h1, h2, h3⟩ := fold_minsi 2147483647#32 (fun x : Fin 24 => if R x = R r then BitVec.ofNat 32 x.val else 24#32) Finset.univ
  have hr' := h2 r (Finset.mem_univ r)
  have hi : ∀ x : Fin 24, (BitVec.ofNat 32 x.val).toInt = x.val := fun x => StableHlo.Predicate.toInt_ofNat_small _ (by have := x.isLt; omega)
  generalize Finset.fold IntOp.minsi (2147483647#32) (fun x : Fin 24 => if R x = R r then BitVec.ofNat 32 x.val else 24#32) Finset.univ = v at h1 hr' ⊢
  have hv : v.toInt ≤ r.val := by
    rw [← hi r]
    exact hr'.trans (le_of_eq (by rw [if_pos rfl]))
  have hlt24 := r.isLt
  rcases h1 with e | ⟨x, -, e⟩
  · have : v.toInt = 2147483647 := by rw [e]; decide
    omega
  · by_cases hx : R x = R r
    · have e' : v = BitVec.ofNat 32 x.val := e.trans (if_pos hx)
      have hxr : ¬ x.val < r.val := fun h => (hlt x h).ne hx
      have : v.toInt = x.val := by rw [e', hi]
      have : x = r := Fin.ext (by omega)
      rw [e', this]
    · have e' : v = 24#32 := e.trans (if_neg hx)
      have : v.toInt = 24 := by rw [e']; decide
      omega
end

/-- The mark of an error: a signed reading of the widened bit, or an unsigned reading of the bit. -/
theorem mark_eq (b : BitVec 1) : (FloatOps.sitofp (F := Ideal) .f32 (BitVec.setWidth 32 b) : EReal) = FloatOps.uitofp (F := Ideal) .f32 b := by
  have : ∀ b : BitVec 1, b = 0#1 ∨ b = 1#1 := by decide
  rcases this b with rfl | rfl
  · show (((BitVec.setWidth 32 0#1).toInt : ℝ) : EReal) = (((0#1 : BitVec 1).toNat : ℝ) : EReal)
    simp
  · show (((BitVec.setWidth 32 1#1).toInt : ℝ) : EReal) = (((1#1 : BitVec 1).toNat : ℝ) : EReal)
    simp

end Cert.Proof.Row

end
-- ==== Proof.RefArg.lean ====
/- The reference's own filter: the maximum over five shifted columns and the index of the greatest row. -/
module

public import proofs.«01_k».proof.Proof.RefRun
public import proofs.«01_k».proof.Proof.Filter
public import Idealize.ShloMosaic.Lib.Pointwise

@[expose] public section

set_option maxRecDepth 16384

noncomputable section

namespace Cert.Proof.Ref

open Cert.ReferenceIdeal Cert.ReferenceIdeal.Gen Idealize.ShloMosaic Idealize.ShloMosaic.TcCoe Idealize.SL.Sem
open Cert.Proof.Row (wcol smooth ftype)

/-! ## The index of the greatest row -/

/-- The pair the reference's search keeps of two, the indices below 24: the greater value, of equal values the lower index. -/
theorem red_at (p q : EReal) (k l : Fin 24) :
    reducer_argmax_f32_i32 (F := Ideal) (p, BitVec.ofNat 32 k.val) (q, BitVec.ofNat 32 l.val)
      = if q < p then (p, BitVec.ofNat 32 k.val) else if p = q then (p, BitVec.ofNat 32 (min k l).val) else (q, BitVec.ofNat 32 l.val) := by
  have hs : IntOp.cmpi .slt (BitVec.ofNat 32 k.val) (BitVec.ofNat 32 l.val) = if k < l then 1#1 else 0#1 := by
    revert k l; decide
  unfold reducer_argmax_f32_i32
  simp only [Ideal.cmpf_def, Ideal.cmp, hs]
  rcases lt_trichotomy q p with h | h | h
  · simp [h, (ne_of_lt h).symm, IntOp.ori, IntOp.andi, Scalar.select]
  · subst h
    by_cases hk : k < l
    · simp [hk, IntOp.ori, IntOp.andi, Scalar.select, min_eq_left (le_of_lt hk)]
    · simp [hk, IntOp.ori, IntOp.andi, Scalar.select, min_eq_right (not_lt.1 hk)]
  · simp [h, not_lt.2 (le_of_lt h), ne_of_lt h, IntOp.ori, IntOp.andi, Scalar.select]

/-- What the search keeps over a list of rows, from any start: a value no row exceeds, at the lowest row among equals. -/
theorem fold_arg (Q : Fin 24 → EReal) (L : List (Fin 24)) : ∀ (q : EReal) (k : Fin 24), ∃ (q' : EReal) (k' : Fin 24),
    (L.map fun i => (Q i, BitVec.ofNat 32 i.val)).foldl (reducer_argmax_f32_i32 (F := Ideal)) (q, BitVec.ofNat 32 k.val) = (q', BitVec.ofNat 32 k'.val)
      ∧ (∀ i ∈ L, Q i < q' ∨ (Q i = q' ∧ k' ≤ i)) ∧ (q < q' ∨ (q = q' ∧ k' ≤ k)) ∧ ((q' = q ∧ k' = k) ∨ q' = Q k') := by
  induction L with
  | nil => exact fun q k => ⟨q, k, rfl, by simp, Or.inr ⟨rfl, le_rfl⟩, Or.inl ⟨rfl, rfl⟩⟩
  | cons i L ih =>
    intro q k
    obtain ⟨q1, k1, e1, h1, h2, h3⟩ : ∃ (q1 : EReal) (k1 : Fin 24),
        reducer_argmax_f32_i32 (F := Ideal) (q, BitVec.ofNat 32 k.val) (Q i, BitVec.ofNat 32 i.val) = (q1, BitVec.ofNat 32 k1.val)
          ∧ (Q i < q1 ∨ (Q i = q1 ∧ k1 ≤ i)) ∧ (q < q1 ∨ (q = q1 ∧ k1 ≤ k)) ∧ ((q1 = q ∧ k1 = k) ∨ q1 = Q k1) := by
      rw [red_at]
      rcases lt_trichotomy (Q i) q with h | h | h
      · exact ⟨q, k, if_pos h, Or.inl h, Or.inr ⟨rfl, le_rfl⟩, Or.inl ⟨rfl, rfl⟩⟩
      · refine ⟨q, min k i, by rw [if_neg (by rw [h]; exact lt_irrefl _), if_pos h.symm], Or.inr ⟨h, min_le_right _ _⟩, Or.inr ⟨rfl, min_le_left _ _⟩, ?_⟩
        rcases le_total k i with hk | hk
        · exact Or.inl ⟨rfl, min_eq_left hk⟩
        · exact Or.inr (by rw [min_eq_right hk, h])
      · exact ⟨Q i, i, by rw [if_neg (not_lt.2 (le_of_lt h)), if_neg (ne_of_lt h)], Or.inr ⟨rfl, le_rfl⟩, Or.inl h, Or.inr rfl⟩
    obtain ⟨q', k', e, g1, g2, g3⟩ := ih q1 k1
    have tr : ∀ (y : EReal) (a : Fin 24), (y < q1 ∨ (y = q1 ∧ k1 ≤ a)) → y < q' ∨ (y = q' ∧ k' ≤ a) := by
      intro y a h
      rcases h with h | ⟨rfl, h⟩ <;> rcases g2 with g | ⟨g, g'⟩
      · exact Or.inl (h.trans g)
      · exact Or.inl (g ▸ h)
      · exact Or.inl g
      · exact Or.inr ⟨g, g'.trans h⟩
    refine ⟨q', k', ?_, ?_, tr q k h2, ?_⟩
    · rw [List.map_cons, List.foldl_cons, e1, e]
    · intro j hj
      rcases List.mem_cons.1 hj with rfl | hj
      · exact tr _ _ h1
      · exact g1 j hj
    · rcases g3 with ⟨a, b⟩ | g3
      · rcases h3 with ⟨c, d⟩ | h3
        · exact Or.inl ⟨a.trans c, b.trans d⟩
        · exact Or.inr (by rw [a, b, h3])
      · exact Or.inr g3

/-- The row of the entry at a row-major position. -/
def rowNo (n : Fin S24x4096.numel) : Fin 24 := (S24x4096.rowMajor.symm n) 0

/-- The search's index is the kernel's: the lowest row that holds the column's greatest value. -/
theorem arg_at (x : FVec Ideal S24x4096 .f32) (ix : FVec Ideal S_ .f32) (hix : ∀ i, ix i = ⊥) (iy : IVec S_ 32) (hiy : ∀ i, iy i = 0#32)
    (h : S24x4096.ReducesTo [0] S4096) (hu : 0 < S_.numel) (t : Fin 4096) :
    (Host.argReduce (reducer_argmax_f32_i32 (F := Ideal)) x (iotaInDim S24x4096 32 0) ix iy h hu (ix1 t)).2 = ftype fun r => x (ix2 r t) := by
  rw [Ideal.argReduce_eq_reduce2, Host.reduce2_eq_foldl_fiber, hix, hiy]
  have hd : ∀ i : S24x4096.Idx, h.drop i = ix1 (i 1) := fun i => by
    funext d
    match d with
    | ⟨0, _⟩ => exact Fin.ext (Shape.ReducesTo.drop_apply_val h i 0)
  have hL : Host.argReduceFiber x (iotaInDim S24x4096 32 0) h (ix1 t)
      = ((((List.finRange S24x4096.numel).filter fun n => h.drop (S24x4096.rowMajor.symm n) = ix1 t).map rowNo).map
          fun i => (x (ix2 i t), BitVec.ofNat 32 i.val)) := by
    unfold Host.argReduceFiber
    rw [List.map_map]
    refine List.map_congr_left fun n hn => ?_
    have hn' : h.drop (S24x4096.rowMajor.symm n) = ix1 t := of_decide_eq_true (List.mem_filter.1 hn).2
    rw [hd] at hn'
    have h1 : (S24x4096.rowMajor.symm n) 1 = t := congrFun hn' 0
    have h2 : S24x4096.rowMajor.symm n = ix2 (rowNo n) t := by
      funext d
      match d with
      | ⟨0, _⟩ => rfl
      | ⟨1, _⟩ => exact h1
    exact Prod.ext (congrArg x h2) rfl
  rw [hL]
  obtain ⟨q', k', e, g1, g2, g3⟩ := fold_arg (fun i => x (ix2 i t))
    (((List.finRange S24x4096.numel).filter fun n => h.drop (S24x4096.rowMajor.symm n) = ix1 t).map rowNo) ⊥ 0
  have hall : ∀ i : Fin 24, x (ix2 i t) < q' ∨ (x (ix2 i t) = q' ∧ k' ≤ i) := fun i => by
    refine g1 i (List.mem_map.2 ⟨S24x4096.rowMajor (ix2 i t), List.mem_filter.2 ⟨List.mem_finRange _, decide_eq_true ?_⟩, ?_⟩)
    · rw [Equiv.symm_apply_apply, hd]; rfl
    · unfold rowNo; rw [Equiv.symm_apply_apply]; rfl
  have hq : x (ix2 k' t) = q' := by
    rcases g3 with ⟨rfl, rfl⟩ | g3
    · rcases hall 0 with h | h
      · exact absurd h not_lt_bot
      · exact h.1
    · exact g3.symm
  refine (congrArg Prod.snd e).trans (Row.ftype_eq _ k' (fun i => ?_) fun i hi => ?_).symm
  · rw [hq]; rcases hall i with h | h
    · exact le_of_lt h
    · exact le_of_eq h.1
  · rw [hq]; rcases hall i with h | h
    · exact h
    · exact absurd h.2 (not_le.2 hi)

end Cert.Proof.Ref

end
-- ==== Proof.RefRes.lean ====
/- The reference's three results, read at an entry. -/
module

public import proofs.«01_k».proof.Proof.RefAdj
public import proofs.«01_k».proof.Proof.RefArg

@[expose] public section

set_option maxRecDepth 16384

noncomputable section

namespace Cert.Proof.Ref

open Cert.ReferenceIdeal Cert.ReferenceIdeal.Gen Idealize.ShloMosaic Idealize.ShloMosaic.TcCoe Idealize.SL.Sem
open Cert.Proof.Row (wcol smooth ftype kadj)

variable (V : Valuation τ sig (Elt Ideal))

/-- The adjusted scores, one row per class. -/
abbrev sc (c : Fin 24) (t : Fin 4096) : EReal := (show FVec Ideal S24x4096 .f32 from val_v163 (F := Ideal) V) (ix2 c t)

theorem call11_at (c : Fin 24) (t : Fin 4096) : (show FVec Ideal S24x4096 .f32 from val_call11_v6 (F := Ideal) V) (ix2 c t) = sc V c t := by
  pointwise [val_call11_v6, fn_main_call11_v6]
  exact dif_neg (Nat.not_lt_zero _)

theorem v164_at (c : Fin 24) (t : Fin 4100) : (show FVec Ideal S24x4100 .f32 from val_v164 (F := Ideal) V) (ix2 c t)
    = sc V c ⟨min (t.val - 2) 4095, by omega⟩ := by
  pointwise [val_v164, fn_main_v164]
  simp only [call11_at]
  by_cases h1 : t.val < 2
  · rw [dif_pos h1]
    exact congrArg (sc V c) (Fin.ext (show 0 = min (t.val - 2) 4095 by omega))
  · rw [dif_neg h1]
    by_cases h2 : t.val - 2 < 4096
    · rw [dif_pos h2]
      exact congrArg (sc V c) (Fin.ext (show t.val - 2 = min (t.val - 2) 4095 by omega))
    · rw [dif_neg h2]
      exact congrArg (sc V c) (Fin.ext (show 4095 = min (t.val - 2) 4095 by omega))

/-- The greatest of five. -/
theorem fold5 (f : Fin 5 → EReal) : Finset.univ.fold max (Ideal.ofBits .f32 0xFF800000#32) f = max (max (max (max (f 0) (f 1)) (f 2)) (f 3)) (f 4) := by
  have hb : Ideal.ofBits .f32 0xFF800000#32 = ⊥ := by simp [Ideal.ofBits, Ideal.ieee]
  have h (i : Fin 5) : f i ≤ Finset.univ.fold max (Ideal.ofBits .f32 0xFF800000#32) f := (Finset.le_fold_max _).2 (Or.inr ⟨i, Finset.mem_univ _, le_rfl⟩)
  refine le_antisymm ((Finset.fold_max_le _).2 ⟨hb ▸ bot_le, fun x _ => by fin_cases x <;> simp⟩) ?_
  exact max_le (max_le (max_le (max_le (h 0) (h 1)) (h 2)) (h 3)) (h 4)

theorem fold5' (a b c d e : EReal) : (Finset.univ.fold max (Ideal.ofBits .f32 0xFF800000#32) fun x : Fin 5 =>
      if h : x.val < 1 then a else if h : x.val - 1 < 1 then b else if h : x.val - 1 - 1 < 1 then c else if h : x.val - 1 - 1 - 1 < 1 then d else e)
    = max (max (max (max a b) c) d) e := by
  rw [fold5]; rfl

theorem v176_at (c : Fin 24) (t : Fin 4096) : (show FVec Ideal S24x4096 .f32 from val_v176 (F := Ideal) V) (ix2 c t) = smooth (sc V c) t := by
  pointwise [val_v176]
  pointwise [fn_main_v175]
  simp only [v164_at]
  refine (fold5' _ _ _ _ _).trans ?_
  unfold smooth
  refine congrArg₂ max (congrArg₂ max (congrArg₂ max (congrArg₂ max ?_ ?_) ?_) ?_) ?_
  · exact congrArg (sc V c) (Fin.ext (show min (t.val - 2) 4095 = min (t.val + 0 - 2) 4095 by omega))
  · exact congrArg (sc V c) (Fin.ext (show min (1 + t.val - 2) 4095 = min (t.val + 1 - 2) 4095 by omega))
  · exact congrArg (sc V c) (Fin.ext (show min (2 + t.val - 2) 4095 = min (t.val + 2 - 2) 4095 by omega))
  · exact congrArg (sc V c) (Fin.ext (show min (3 + t.val - 2) 4095 = min (t.val + 3 - 2) 4095 by omega))
  · exact congrArg (sc V c) (Fin.ext (show min (4 + t.val - 2) 4095 = min (t.val + 4 - 2) 4095 by omega))

attribute [local irreducible] ftype

theorem v177_at (t : Fin 4096) : (show IVec S4096 32 from val_v177 (F := Ideal) V) (ix1 t) = ftype fun c => smooth (sc V c) t := by
  have e : (fun c => (show FVec Ideal S24x4096 .f32 from val_v176 (F := Ideal) V) (ix2 c t)) = fun c => smooth (sc V c) t := funext fun c => v176_at V c t
  have h : ∀ i, (constant (F := Ideal) S_ .f32 0xFF800000#32) i = (⊥ : EReal) := fun i => by
    show Ideal.ofBits .f32 0xFF800000#32 = ⊥
    simp [Ideal.ofBits, Ideal.ieee]
  have h' : ∀ i, (constantI S_ 32 0#32) i = 0#32 := fun i => rfl
  have g := arg_at (val_v176 (F := Ideal) V) _ h _ h' reducesTo_S24x4096_S4096_d0 h_S_ t
  rw [e] at g
  exact g

theorem v180_at (t : Fin 4096) : (show FVec Ideal S4096 .f32 from val_v180 (F := Ideal) V) (ix1 t)
    = FloatOps.uitofp (F := Ideal) .f32 (IntOp.cmpi .ne (ftype fun c => smooth (sc V c) t) 0#32) := by
  pointwise [val_v180]
  rw [show (val_v177 (F := Ideal) V) (ix1 t) = _ from v177_at V t]

end Cert.Proof.Ref

end
-- ==== Proof.Pre.lean ====
/- The precondition: its stated facts, and what it says of the reference's five largest attention weights. -/
module

public import proofs.«01_k».proof.Pre_no_tie
public import proofs.«01_k».proof.Proof.RefRes

@[expose] public section

set_option maxRecDepth 16384

noncomputable section

namespace Cert.Pre_no_tie

open Idealize.ShloMosaic

/-- The facts the precondition states, proved. -/
instance facts : Facts where
  reducesTo_S128x512_S128_d1 := by decide
  h_S_ := by decide
  bcast_S128_S128x1_0 := by decide
  bcast_S_S128x1 := by decide
  bcast_S128x1_S128x512_0_1 := by decide
  reducesTo_S4096x512_S4096_d1 := by decide
  bcast_S4096_S4096x1_0 := by decide
  bcast_S_S4096x1 := by decide
  bcast_S4096x1_S4096x512_0_1 := by decide
  reducesTo_S4096x64_S4096_d1 := by decide
  bcast_S_S4096 := by decide
  bcast_S_S4096x512 := by decide
  transposes_S128x512_S512x128_1_0 := by decide
  bcast_S_S4096x128 := by decide
  reducesTo_S4096x128_S4096_d1 := by decide
  bcast_S4096x1_S4096x128_0_1 := by decide
  sliceFits_S4096x128_S4096x5 := by decide
  slices_S4096x5_S4096x4_0_1 := by decide
  slices_S4096x5_S4096x4_0_0 := by decide
  dot_S4096x512_S512x128_S4096x128_1_0_0_1_n_n_wf := by decide

end Cert.Pre_no_tie

namespace Cert.Proof.Ref

open Cert.ReferenceIdeal Cert.ReferenceIdeal.Gen Idealize.ShloMosaic Idealize.ShloMosaic.TcCoe Idealize.SL.Sem
open Cert.Proof.Row (ralpha)

variable (V : Valuation τ sig (Elt Ideal))

/-- The precondition compares each of the five largest weights with the one before it. -/
theorem pre_eq : Cert.Pre_no_tie.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
    = cmpf (F := Ideal) (φ := .f32) .olt (extractStridedSlice Cert.Pre_no_tie.S4096x4 ![0, 1] (val_values (F := Ideal) V) Cert.Pre_no_tie.Facts.slices_S4096x5_S4096x4_0_1)
        (extractStridedSlice Cert.Pre_no_tie.S4096x4 ![0, 0] (val_values (F := Ideal) V) Cert.Pre_no_tie.Facts.slices_S4096x5_S4096x4_0_0) := rfl

/-- A comparison bit that is set says its inequality. -/
theorem lt_of_bit {a b : EReal} (h : FloatOps.cmpf (F := Ideal) (φ := .f32) .olt a b = 1#1) : a < b := by
  by_contra hn
  have : FloatOps.cmpf (F := Ideal) (φ := .f32) .olt a b = BitVec.ofBool (decide (a < b)) := rfl
  rw [this, decide_eq_false hn] at h
  exact absurd h (by decide)

/-- The precondition says that the five largest weights of every frame differ. -/
theorem apart (h : Cert.Pre_no_tie.fn (F := Ideal) (V (Proc.devRef .tc main_arg0)) (V (Proc.devRef .tc main_arg1)) (V (Proc.devRef .tc main_arg2))
      (V (Proc.devRef .tc main_arg3)) (V (Proc.devRef .tc main_arg4)) (V (Proc.devRef .tc main_arg5)) (V (Proc.devRef .tc main_arg6))
    = fun _ => 1#1) : Apart V := by
  intro t
  have hs : StrictAnti fun j : Fin 5 => ralpha (SR V t) (top V t j) := by
    refine Fin.strictAnti_iff_succ_lt.2 fun i => ?_
    have g := congrFun ((pre_eq V).symm.trans h) (ix2 t i)
    have g2 := lt_of_bit g
    have e1 : (show FVec Ideal S4096x5 .f32 from val_values (F := Ideal) V) (ix2 t i.succ)
        = extractStridedSlice Cert.Pre_no_tie.S4096x4 ![0, 1] (val_values (F := Ideal) V) Cert.Pre_no_tie.Facts.slices_S4096x5_S4096x4_0_1 (ix2 t i) := by
      refine congrArg (show FVec Ideal S4096x5 .f32 from val_values (F := Ideal) V) (funext fun a => Fin.ext ?_)
      match a with
      | ⟨0, _⟩ => exact (Nat.zero_add _).symm
      | ⟨1, _⟩ => exact Nat.add_comm _ _
    have e0 : (show FVec Ideal S4096x5 .f32 from val_values (F := Ideal) V) (ix2 t i.castSucc)
        = extractStridedSlice Cert.Pre_no_tie.S4096x4 ![0, 0] (val_values (F := Ideal) V) Cert.Pre_no_tie.Facts.slices_S4096x5_S4096x4_0_0 (ix2 t i) := by
      refine congrArg (show FVec Ideal S4096x5 .f32 from val_values (F := Ideal) V) (funext fun a => Fin.ext ?_)
      match a with
      | ⟨0, _⟩ => exact (Nat.zero_add _).symm
      | ⟨1, _⟩ => exact (Nat.zero_add _).symm
    have g3 := lt_of_eq_of_lt (e1.trans rfl) (lt_of_lt_of_eq g2 e0.symm)
    have v1 := values_at V t i.succ
    have v0 := values_at V t i.castSucc
    exact lt_of_eq_of_lt v1.symm (lt_of_lt_of_eq g3 v0)
  exact fun j k hjk => hs hjk

end Cert.Proof.Ref

end
-- ==== Proof.KerVal.lean ====
/- What one grid point stores, read at an entry: the adjusted probability of a type at a frame. -/
module

public import proofs.«01_k».proof.Proof.KerFin
public import proofs.«01_k».proof.Proof.Gate

@[expose] public section

set_option maxRecDepth 16384

noncomputable section

namespace Cert.Proof.Ker

open Cert.KernelIdeal Cert.KernelIdeal.Gen Idealize.ShloMosaic Idealize.ShloMosaic.TcCoe Idealize.SL.Sem
open Cert.Proof.Row (l2 rs kmix conf kS kL kadj kscore top peel peels kZ kD kv kpt cumv score kprob etl entr gate adj epsSq ssq)

/-- The named constant is the square of the bound. -/
theorem named_eps : (Named.named (F := Ideal) κ "eps_sq" 0x24E69595#32 : Ideal .f32) = ((epsSq : ℝ) : EReal) := rfl

section
variable (x0 x1 x2 x3 : FVec Ideal S1024x512 .f32) (x4 : FVec Ideal S1024x64 .f32) (y5 : FVec Ideal S128x512 .f32) (y6 : FVec Ideal S24x512 .f32)

/-- Frame `l` of a block of features. -/
abbrev row (x : FVec Ideal S1024x512 .f32) (l : Fin 1024) (k : Fin 512) : EReal := x (ix2 l k)
/-- Frame `l` of a block of uncertainty traces. -/
abbrev rowU (x : FVec Ideal S1024x64 .f32) (l : Fin 1024) (k : Fin 64) : EReal := x (ix2 l k)

theorem spn_at (i : Fin 128) (k : Fin 512) : k0_pay19 (F := Ideal) y5 (ix2 i k) = l2 (fun k => y5 (ix2 i k)) k := by
  pointwise [k0_pay19]
  rfl

theorem epn_at (i : Fin 24) (k : Fin 512) : k0_pay20 (F := Ideal) y6 (ix2 i k) = l2 (fun k => y6 (ix2 i k)) k := by
  pointwise [k0_pay20]
  rfl

theorem qry_at (l : Fin 1024) (k : Fin 512) :
    qry (F := Ideal) x0 x1 x2 x3 x4 (ix2 l k) = kmix (row x0 l) (row x1 l) (row x2 l) (row x3 l) (rowU x4 l) k := by
  pointwise [qry, k0_pay24, k0_pay21, k0_pay22, k0_pay23]
  rw [named_eps]
  rfl

theorem invq_at (l : Fin 1024) :
    invq (F := Ideal) x0 x1 x2 x3 x4 (ix2 0 l) = rs (kmix (row x0 l) (row x1 l) (row x2 l) (row x3 l) (rowU x4 l)) := by
  have h := qry_at x0 x1 x2 x3 x4 l
  unfold qry at h
  pointwise [invq, k0_pay25]
  simp only [h, named_eps]
  rfl

theorem simT_at (i : Fin 128) (l : Fin 1024) : simT (F := Ideal) x0 x1 x2 x3 x4 (k0_pay19 (F := Ideal) y5) (ix2 i l)
    = kS (row x0 l) (row x1 l) (row x2 l) (row x3 l) (rowU x4 l) (fun i k => y5 (ix2 i k)) i := by
  have h := qry_at x0 x1 x2 x3 x4 l
  have h' := invq_at x0 x1 x2 x3 x4 l
  unfold qry at h
  unfold invq at h'
  pointwise [simT, k0_pay26]
  simp only [h, h', spn_at]
  rfl

end

/-! ## The step score -/

section
variable (s : FVec Ideal S128x1024 .f32) (l : Fin 1024)

/-- Lane `l` of the similarities. -/
abbrev lane (i : Fin 128) : EReal := s (ix2 i l)

theorem p27 : k0_pay27 (F := Ideal) s (ix2 0 l) = top (lane s l) := by pointwise [k0_pay27]; rfl
theorem p28 (i : Fin 128) : k0_pay28 (F := Ideal) s (ix2 i l) = peel (lane s l) i := by pointwise [k0_pay28]; rw [p27]; rfl
theorem p29 : k0_pay29 (F := Ideal) s (ix2 0 l) = top (peel (lane s l)) := by pointwise [k0_pay29]; simp only [p28]; rfl
theorem p30 (i : Fin 128) : k0_pay30 (F := Ideal) s (ix2 i l) = peel (peel (lane s l)) i := by
  pointwise [k0_pay30]; rw [p29, p28]; rfl
theorem p31 : k0_pay31 (F := Ideal) s (ix2 0 l) = top (peel (peel (lane s l))) := by pointwise [k0_pay31]; simp only [p30]; rfl
theorem p32 (i : Fin 128) : k0_pay32 (F := Ideal) s (ix2 i l) = peel (peel (peel (lane s l))) i := by
  pointwise [k0_pay32]; rw [p31, p30]; rfl
theorem p33 : k0_pay33 (F := Ideal) s (ix2 0 l) = top (peel (peel (peel (lane s l)))) := by pointwise [k0_pay33]; simp only [p32]; rfl
theorem p34 : k0_pay34 (F := Ideal) s (ix2 0 l) = top (peel (peel (peel (peel (lane s l))))) := by
  pointwise [k0_pay34]; simp only [p32, p33]; rfl
theorem p35 : k0_pay35 (F := Ideal) s (ix2 0 l) = kZ (lane s l) := by pointwise [k0_pay35]; rw [p27]; rfl
theorem p36 : k0_pay36 (F := Ideal) s (ix2 0 l) = kD (lane s l) := by pointwise [k0_pay36]; simp only [p35]; rfl
theorem p37 : k0_pay37 (F := Ideal) s (ix2 0 l) = Ideal.div 1 (kD (lane s l)) := by pointwise [k0_pay37]; rw [p36]
theorem p41 : k0_pay41 (F := Ideal) s (ix2 0 l) = Row.c20 * top (lane s l) - kZ (lane s l) := by pointwise [k0_pay41]; rw [p27, p35]
theorem p38 : k0_pay38 (F := Ideal) (ix2 0 l) = 0 := by pointwise [k0_pay38]
theorem p39 : k0_pay39 (F := Ideal) (ix2 0 l) = 0 := by pointwise [k0_pay39]
theorem p40 : k0_pay40 (F := Ideal) (ix2 0 l) = 0 := by pointwise [k0_pay40]
theorem p56 : k0_pay56 (F := Ideal) (ix2 0 l) = 0 := by pointwise [k0_pay56]

/-- The maxima of the peelings and their weights. -/
abbrev mm (j : Fin 5) : EReal := top (peels (lane s l) j)
abbrev vv (j : Fin 5) : EReal := kv (lane s l) (mm s l j)

theorem p42 : k0_pay42 (F := Ideal) (k0_pay36 s) (k0_pay41 s) (ix2 0 l) = vv s l 0 := by
  pointwise [k0_pay42]; rw [p36, p41]; rfl
theorem p45 : k0_pay45 (F := Ideal) (k0_pay29 s) (k0_pay35 s) (k0_pay36 s) (ix2 0 l) = vv s l 1 := by
  pointwise [k0_pay45]; rw [p29, p35, p36]; rfl
theorem p48 : k0_pay48 (F := Ideal) (k0_pay31 s) (k0_pay35 s) (k0_pay36 s) (ix2 0 l) = vv s l 2 := by
  pointwise [k0_pay48]; rw [p31, p35, p36]; rfl
theorem p53 : k0_pay53 (F := Ideal) (k0_pay33 s) (k0_pay35 s) (k0_pay36 s) (ix2 0 l) = vv s l 3 := by
  pointwise [k0_pay53]; rw [p33, p35, p36]; rfl
theorem p43 : k0_pay43 (F := Ideal) (k0_pay36 s) k0_pay38 (k0_pay41 s) (ix2 0 l) = cumv (vv s l) 0 := by
  pointwise [k0_pay43]; rw [p42, p38]; rfl
theorem p46 : k0_pay46 (F := Ideal) (k0_pay29 s) (k0_pay35 s) (k0_pay36 s) k0_pay38 (k0_pay41 s) (ix2 0 l) = cumv (vv s l) 1 := by
  pointwise [k0_pay46]; rw [p43, p45]; rfl
theorem p49 : k0_pay49 (F := Ideal) (k0_pay29 s) (k0_pay31 s) (k0_pay35 s) (k0_pay36 s) k0_pay38 (k0_pay41 s) (ix2 0 l) = cumv (vv s l) 2 := by
  pointwise [k0_pay49]; rw [p46, p48]; rfl
theorem p54 : k0_pay54 (F := Ideal) (k0_pay29 s) (k0_pay31 s) (k0_pay33 s) (k0_pay35 s) (k0_pay36 s) k0_pay38 (k0_pay41 s) (ix2 0 l) = cumv (vv s l) 3 := by
  pointwise [k0_pay54]; rw [p49, p53]; rfl
theorem p44 : k0_pay44 (F := Ideal) (k0_pay36 s) k0_pay38 (k0_pay41 s) (ix2 0 l) = kpt (vv s l) 0 := by
  pointwise [k0_pay44]; rw [p43, p42]; rfl
theorem p47 : k0_pay47 (F := Ideal) (k0_pay29 s) (k0_pay35 s) (k0_pay36 s) k0_pay38 (k0_pay41 s) (ix2 0 l) = kpt (vv s l) 1 := by
  pointwise [k0_pay47]; rw [p46, p45]; rfl
theorem p50 : k0_pay50 (F := Ideal) (k0_pay29 s) (k0_pay31 s) (k0_pay35 s) (k0_pay36 s) k0_pay38 (k0_pay41 s) (ix2 0 l) = kpt (vv s l) 2 := by
  pointwise [k0_pay50]; rw [p49, p48]; rfl
theorem p51 : k0_pay51 (F := Ideal) (k0_pay29 s) (k0_pay31 s) (k0_pay35 s) (k0_pay36 s) k0_pay38 k0_pay39 (k0_pay41 s) (ix2 0 l)
    = 0 + kpt (vv s l) 0 + kpt (vv s l) 1 + kpt (vv s l) 2 := by
  pointwise [k0_pay51]; rw [p44, p47, p50, p39, zero_add]
theorem p52 : k0_pay52 (F := Ideal) (k0_pay27 s) (k0_pay29 s) (k0_pay31 s) (k0_pay35 s) (k0_pay36 s) k0_pay38 k0_pay40 (k0_pay41 s) (ix2 0 l)
    = 0 + kpt (vv s l) 0 * mm s l 0 + kpt (vv s l) 1 * mm s l 1 + kpt (vv s l) 2 * mm s l 2 := by
  pointwise [k0_pay52]; rw [p44, p47, p50, p40, p27, p29, p31, zero_add]; rfl
theorem p55 : Scalar.select (k0_pay55 (F := Ideal) (k0_pay29 s) (k0_pay31 s) (k0_pay33 s) (k0_pay35 s) (k0_pay36 s) k0_pay38 (k0_pay41 s) (ix2 0 l))
    (vv s l 3) (0 : EReal) = kpt (vv s l) 3 := by
  pointwise [k0_pay55]; rw [p54, p53]; rfl

theorem stepT_at : stepT (F := Ideal) s (ix2 0 l) = kscore (lane s l) := by
  pointwise [stepT, k0_pay57]
  rw [p51, p52, p53, p54, p56, p55, p33, p34, p35, p36]
  rfl

end

/-! ## The type probabilities and the gate -/

section
variable (x0 x1 x2 x3 : FVec Ideal S1024x512 .f32) (x4 : FVec Ideal S1024x64 .f32) (y5 : FVec Ideal S128x512 .f32) (y6 : FVec Ideal S24x512 .f32)

theorem p58 (c : Fin 24) (l : Fin 1024) : k0_pay58 (F := Ideal) (qry x0 x1 x2 x3 x4) (invq x0 x1 x2 x3 x4) (k0_pay20 (F := Ideal) y6) (ix2 c l)
    = kprob (kL (row x0 l) (row x1 l) (row x2 l) (row x3 l) (rowU x4 l) fun c k => y6 (ix2 c k)) c := by
  pointwise [k0_pay58]
  simp only [qry_at, invq_at, epn_at]
  rfl

theorem p59 (l : Fin 1024) : k0_pay59 (F := Ideal) (qry x0 x1 x2 x3 x4) (invq x0 x1 x2 x3 x4) (k0_pay20 (F := Ideal) y6) (ix2 0 l)
    = entr (kprob (kL (row x0 l) (row x1 l) (row x2 l) (row x3 l) (rowU x4 l) fun c k => y6 (ix2 c k))) := by
  pointwise [k0_pay59]
  simp only [p58]
  rfl

theorem onehot (c : Fin 24) (g : EReal) : Scalar.select (IntOp.cmpi CmpIPredicate.eq (BitVec.ofNat 32 c.val) 23#32) g 0 = if c = 23 then g else 0 := by
  fin_cases c <;> rfl

/-- What a grid point stores is the kernel's adjusted probability. -/
theorem padj_at (c : Fin 24) (l : Fin 1024) : padj (F := Ideal) x0 x1 x2 x3 x4 (k0_pay19 (F := Ideal) y5) (k0_pay20 (F := Ideal) y6) (ix3 0 c l)
    = kadj (row x0 l) (row x1 l) (row x2 l) (row x3 l) (rowU x4 l) (fun i k => y5 (ix2 i k)) (fun c k => y6 (ix2 c k)) c := by
  pointwise [padj, k0_pay60]
  rw [p58, p58, p59, p37, stepT_at, onehot]
  have e : lane (simT (F := Ideal) x0 x1 x2 x3 x4 (k0_pay19 (F := Ideal) y5)) l
      = kS (row x0 l) (row x1 l) (row x2 l) (row x3 l) (rowU x4 l) (fun i k => y5 (ix2 i k)) := funext fun i => simT_at x0 x1 x2 x3 x4 y5 i l
  rw [e]
  rfl

end

end Cert.Proof.Ker

end
-- ==== Proof.KerFilt.lean ====
/- The last grid point's three results, read at an entry: the five-column maximum, the most likely type, the mark of an error. -/
module

public import proofs.«01_k».proof.Proof.KerFin
public import proofs.«01_k».proof.Proof.Filter
public import Idealize.ShloMosaic.Lib.Pointwise

@[expose] public section

set_option maxRecDepth 16384

noncomputable section

namespace Cert.Proof.Ker

open Cert.KernelIdeal Cert.KernelIdeal.Gen Idealize.ShloMosaic Idealize.ShloMosaic.TcCoe Idealize.SL.Sem
open Cert.Proof.Row (wcol smooth ftype)

/-- Frame `l` of block `k`. -/
abbrev fr (k : Fin 4) (l : Fin 1024) : Fin 4096 := ⟨1024 * k.val + l.val, by have := k.isLt; have := l.isLt; omega⟩

theorem each {α : Type} {x y : Fin 4 → α} (e0 : x 0 = y 0) (e1 : x 1 = y 1) (e2 : x 2 = y 2) (e3 : x 3 = y 3) : ∀ k, x k = y k := by
  intro k; fin_cases k
  exacts [e0, e1, e2, e3]

section
variable (P0 P1 P2 P3 : FVec Ideal S1x24x1024 .f32) (Q : Fin 24 → Fin 4096 → EReal)
  (h0 : ∀ r l, P0 (ix3 0 r l) = Q r (fr 0 l)) (h1 : ∀ r l, P1 (ix3 0 r l) = Q r (fr 1 l))
  (h2 : ∀ r l, P2 (ix3 0 r l) = Q r (fr 2 l)) (h3 : ∀ r l, P3 (ix3 0 r l) = Q r (fr 3 l))

include h0 h1 in
theorem sm0 (r : Fin 24) (l : Fin 1024) : k0_pay4 (F := Ideal) P0 P1 (ix2 r l) = smooth (Q r) (fr 0 l) := by
  pointwise [k0_pay4]
  simp only [h0, h1]
  unfold smooth
  refine congrArg₂ max (congrArg₂ max (congrArg₂ max (congrArg₂ max ?_ ?_) ?_) ?_) ?_ <;> (try split_ifs) <;>
    first
    | (exfalso; omega)
    | exact congrArg (Q r) (Fin.ext (by simp only [wcol, fr]; omega))

include h0 h1 h2 in
theorem sm1 (r : Fin 24) (l : Fin 1024) : k0_pay8 (F := Ideal) (k0_pay7 P1) P0 P2 (ix2 r l) = smooth (Q r) (fr 1 l) := by
  pointwise [k0_pay8, k0_pay7]
  simp only [h0, h1, h2]
  unfold smooth
  refine congrArg₂ max (congrArg₂ max (congrArg₂ max (congrArg₂ max ?_ ?_) ?_) ?_) ?_ <;> (try split_ifs) <;>
    first
    | (exfalso; omega)
    | exact congrArg (Q r) (Fin.ext (by simp only [wcol, fr]; omega))

include h1 h2 h3 in
theorem sm2 (r : Fin 24) (l : Fin 1024) : k0_pay13 (F := Ideal) (k0_pay11 P2) (k0_pay12 P1) P3 (ix2 r l) = smooth (Q r) (fr 2 l) := by
  pointwise [k0_pay13, k0_pay11, k0_pay12]
  simp only [h1, h2, h3]
  unfold smooth
  refine congrArg₂ max (congrArg₂ max (congrArg₂ max (congrArg₂ max ?_ ?_) ?_) ?_) ?_ <;> (try split_ifs) <;>
    first
    | (exfalso; omega)
    | exact congrArg (Q r) (Fin.ext (by simp only [wcol, fr]; omega))

include h2 h3 in
theorem sm3 (r : Fin 24) (l : Fin 1024) :
    k0_pay1 (F := Ideal) (k0_pay16 P3 P2) (k0_pay17 P3 P2) (k0_pay18 P3 P2) (ix2 r l) = smooth (Q r) (fr 3 l) := by
  pointwise [k0_pay1, k0_pay17, k0_pay18, k0_pay16]
  simp only [h2, h3]
  unfold smooth
  refine congrArg₂ max (congrArg₂ max (congrArg₂ max (congrArg₂ max ?_ ?_) ?_) ?_) ?_ <;> (try split_ifs) <;>
    first
    | (exfalso; omega)
    | exact congrArg (Q r) (Fin.ext (by simp only [wcol, fr]; omega))

include h0 h1 h2 h3 in
/-- The filtered scores. -/
theorem smB_at (k : Fin 4) (r : Fin 24) (l : Fin 1024) : smB (F := Ideal) P0 P1 P2 P3 k (ix2 r l) = smooth (Q r) (fr k l) := by
  fin_cases k
  · exact sm0 P0 P1 Q h0 h1 r l
  · exact sm1 P0 P1 P2 Q h0 h1 h2 r l
  · exact sm2 P1 P2 P3 Q h1 h2 h3 r l
  · exact sm3 P2 P3 Q h2 h3 r l

include h0 h1 in
theorem ty0 (l : Fin 1024) : k0_pay5 (F := Ideal) P0 P1 (ix2 0 l) = ftype fun r => smooth (Q r) (fr 0 l) := by
  pointwise [k0_pay5]
  simp only [sm0 P0 P1 Q h0 h1]
  rfl

include h0 h1 in
theorem fe0 (l : Fin 1024) : k0_pay6 (F := Ideal) P0 P1 (ix2 0 l)
    = FloatOps.uitofp (F := Ideal) .f32 (IntOp.cmpi .ne (ftype fun r => smooth (Q r) (fr 0 l)) 0#32) := by
  pointwise [k0_pay6]
  rw [ty0 P0 P1 Q h0 h1]
  exact Row.mark_eq _

include h0 h1 h2 in
theorem ty1 (l : Fin 1024) : k0_pay9 (F := Ideal) (k0_pay7 P1) P0 P2 (ix2 0 l) = ftype fun r => smooth (Q r) (fr 1 l) := by
  pointwise [k0_pay9]
  simp only [sm1 P0 P1 P2 Q h0 h1 h2]
  rfl

include h0 h1 h2 in
theorem fe1 (l : Fin 1024) : k0_pay10 (F := Ideal) (k0_pay7 P1) P0 P2 (ix2 0 l)
    = FloatOps.uitofp (F := Ideal) .f32 (IntOp.cmpi .ne (ftype fun r => smooth (Q r) (fr 1 l)) 0#32) := by
  pointwise [k0_pay10]
  rw [ty1 P0 P1 P2 Q h0 h1 h2]
  exact Row.mark_eq _

include h1 h2 h3 in
theorem ty2 (l : Fin 1024) : k0_pay14 (F := Ideal) (k0_pay11 P2) (k0_pay12 P1) P3 (ix2 0 l) = ftype fun r => smooth (Q r) (fr 2 l) := by
  pointwise [k0_pay14]
  simp only [sm2 P1 P2 P3 Q h1 h2 h3]
  rfl

include h1 h2 h3 in
theorem fe2 (l : Fin 1024) : k0_pay15 (F := Ideal) (k0_pay11 P2) (k0_pay12 P1) P3 (ix2 0 l)
    = FloatOps.uitofp (F := Ideal) .f32 (IntOp.cmpi .ne (ftype fun r => smooth (Q r) (fr 2 l)) 0#32) := by
  pointwise [k0_pay15]
  rw [ty2 P1 P2 P3 Q h1 h2 h3]
  exact Row.mark_eq _

include h2 h3 in
theorem ty3 (l : Fin 1024) : k0_pay2 (F := Ideal) (k0_pay16 P3 P2) (k0_pay17 P3 P2) (k0_pay18 P3 P2) (ix2 0 l) = ftype fun r => smooth (Q r) (fr 3 l) := by
  pointwise [k0_pay2]
  simp only [sm3 P2 P3 Q h2 h3]
  rfl

include h2 h3 in
theorem fe3 (l : Fin 1024) : k0_pay3 (F := Ideal) (k0_pay16 P3 P2) (k0_pay17 P3 P2) (k0_pay18 P3 P2) (ix2 0 l)
    = FloatOps.uitofp (F := Ideal) .f32 (IntOp.cmpi .ne (ftype fun r => smooth (Q r) (fr 3 l)) 0#32) := by
  pointwise [k0_pay3]
  rw [ty3 P2 P3 Q h2 h3]
  exact Row.mark_eq _

attribute [local irreducible] ftype k0_pay5 k0_pay9 k0_pay14 k0_pay2

include h0 h1 h2 h3 in
/-- The most likely type. -/
theorem tyB_at (k : Fin 4) (l : Fin 1024) : tyB (F := Ideal) P0 P1 P2 P3 k (ix2 0 l) = ftype fun r => smooth (Q r) (fr k l) := by
  refine each (x := fun k => tyB (F := Ideal) P0 P1 P2 P3 k (ix2 0 l)) (y := fun k => ftype fun r => smooth (Q r) (fr k l)) ?_ ?_ ?_ ?_ k
  · have e : tyB (F := Ideal) P0 P1 P2 P3 0 = k0_pay5 (F := Ideal) P0 P1 := rfl
    rw [e, ty0 P0 P1 Q h0 h1 l]
  · have e : tyB (F := Ideal) P0 P1 P2 P3 1 = k0_pay9 (F := Ideal) (k0_pay7 P1) P0 P2 := rfl
    rw [e, ty1 P0 P1 P2 Q h0 h1 h2 l]
  · have e : tyB (F := Ideal) P0 P1 P2 P3 2 = k0_pay14 (F := Ideal) (k0_pay11 P2) (k0_pay12 P1) P3 := rfl
    rw [e, ty2 P1 P2 P3 Q h1 h2 h3 l]
  · have e : tyB (F := Ideal) P0 P1 P2 P3 3 = k0_pay2 (F := Ideal) (k0_pay16 P3 P2) (k0_pay17 P3 P2) (k0_pay18 P3 P2) := rfl
    rw [e, ty3 P2 P3 Q h2 h3 l]

include h0 h1 h2 h3 in
/-- The mark of an error. -/
theorem feB_at (k : Fin 4) (l : Fin 1024) : feB (F := Ideal) P0 P1 P2 P3 k (ix2 0 l)
    = FloatOps.uitofp (F := Ideal) .f32 (IntOp.cmpi .ne (ftype fun r => smooth (Q r) (fr k l)) 0#32) := by
  refine each (x := fun k => feB (F := Ideal) P0 P1 P2 P3 k (ix2 0 l))
    (y := fun k => FloatOps.uitofp (F := Ideal) .f32 (IntOp.cmpi .ne (ftype fun r => smooth (Q r) (fr k l)) 0#32)) ?_ ?_ ?_ ?_ k
  · exact fe0 P0 P1 Q h0 h1 l
  · exact fe1 P0 P1 P2 Q h0 h1 h2 l
  · exact fe2 P1 P2 P3 Q h1 h2 h3 l
  · exact fe3 P2 P3 Q h2 h3 l

end

end Cert.Proof.Ker

end
-- ==== Proof.KerRun.lean ====
/- What the kernel leaves in its result arrays: the filtered scores of the argument rows, the most likely type and its mark. -/
module

public import proofs.«01_k».proof.Proof.KerFrame
public import proofs.«01_k».proof.Proof.KerVal
public import proofs.«01_k».proof.Proof.KerFilt
public import Idealize.ShloMosaic.Lib.Pipeline.ValueKit
public import Idealize.ShloMosaic.Lib.Claim

@[expose] public section

set_option maxRecDepth 16384

noncomputable section

namespace Cert.Proof.Ker

open Cert.KernelIdeal Cert.KernelIdeal.Gen Idealize.ShloMosaic Idealize.ShloMosaic.TcCoe Idealize.SL.Sem
open Cert.Proof.Row (kadj smooth ftype)

variable (m : (ℓ : Loc nD τ sig) → Buf (Elt Ideal) ℓ) (c : Dev nD)

/-! ## The argument rows -/

abbrev aF (t : Fin 4096) (k : Fin 512) : EReal := (show FVec Ideal S4096x512 .f32 from m ((c.tc : Thread nD τ).loc main_arg0)) (ix2 t k)
abbrev aV (t : Fin 4096) (k : Fin 512) : EReal := (show FVec Ideal S4096x512 .f32 from m ((c.tc : Thread nD τ).loc main_arg1)) (ix2 t k)
abbrev aM (t : Fin 4096) (k : Fin 512) : EReal := (show FVec Ideal S4096x512 .f32 from m ((c.tc : Thread nD τ).loc main_arg2)) (ix2 t k)
abbrev aO (t : Fin 4096) (k : Fin 512) : EReal := (show FVec Ideal S4096x512 .f32 from m ((c.tc : Thread nD τ).loc main_arg3)) (ix2 t k)
abbrev aU (t : Fin 4096) (k : Fin 64) : EReal := (show FVec Ideal S4096x64 .f32 from m ((c.tc : Thread nD τ).loc main_arg4)) (ix2 t k)
abbrev aSP (i : Fin 128) (k : Fin 512) : EReal := (show FVec Ideal S128x512 .f32 from m ((c.tc : Thread nD τ).loc main_arg5)) (ix2 i k)
abbrev aEP (i : Fin 24) (k : Fin 512) : EReal := (show FVec Ideal S24x512 .f32 from m ((c.tc : Thread nD τ).loc main_arg6)) (ix2 i k)

/-- The adjusted scores of the kernel. -/
abbrev ksc (i : Fin 24) (t : Fin 4096) : EReal := kadj (aF m c t) (aV m c t) (aM m c t) (aO m c t) (aU m c t) (aSP m c) (aEP m c) i

/-! ## The blocks -/

theorem idx_rows : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![0, 0] := by
  decide +kernel

/-- Frame `l` of point `t`. -/
abbrev frp (t : Fin cfg0.N) (l : Fin 1024) : Fin 4096 := ⟨1024 * t.val + l.val, by have := lt_of_lt_of_eq t.isLt N_0; omega⟩

theorem in0 (t : Fin cfg0.N) (l : Fin 1024) (k : Fin 512) : (show FVec Ideal S1024x512 .f32 from iblk m c 0 t) (ix2 l k) = aF m c (frp t l) k := by
  have h := idx_rows t
  blk_ext [iblk, V, h.1, h.2.1, h.2.2.1, h.2.2.2.1, h.2.2.2.2.1]

theorem in1 (t : Fin cfg0.N) (l : Fin 1024) (k : Fin 512) : (show FVec Ideal S1024x512 .f32 from iblk m c 1 t) (ix2 l k) = aV m c (frp t l) k := by
  have h := idx_rows t
  blk_ext [iblk, V, h.1, h.2.1, h.2.2.1, h.2.2.2.1, h.2.2.2.2.1]

theorem in2 (t : Fin cfg0.N) (l : Fin 1024) (k : Fin 512) : (show FVec Ideal S1024x512 .f32 from iblk m c 2 t) (ix2 l k) = aM m c (frp t l) k := by
  have h := idx_rows t
  blk_ext [iblk, V, h.1, h.2.1, h.2.2.1, h.2.2.2.1, h.2.2.2.2.1]

theorem in3 (t : Fin cfg0.N) (l : Fin 1024) (k : Fin 512) : (show FVec Ideal S1024x512 .f32 from iblk m c 3 t) (ix2 l k) = aO m c (frp t l) k := by
  have h := idx_rows t
  blk_ext [iblk, V, h.1, h.2.1, h.2.2.1, h.2.2.2.1, h.2.2.2.2.1]

theorem in4 (t : Fin cfg0.N) (l : Fin 1024) (k : Fin 64) : (show FVec Ideal S1024x64 .f32 from iblk m c 4 t) (ix2 l k) = aU m c (frp t l) k := by
  have h := idx_rows t
  blk_ext [iblk, V, h.1, h.2.1, h.2.2.1, h.2.2.2.1, h.2.2.2.2.1]

theorem in5 (t : Fin cfg0.N) (i : Fin 128) (k : Fin 512) : (show FVec Ideal S128x512 .f32 from iblk m c 5 t) (ix2 i k) = aSP m c i k := by
  have h := idx_rows t
  blk_ext [iblk, V, h.2.2.2.2.2.1]

theorem in6 (t : Fin cfg0.N) (i : Fin 24) (k : Fin 512) : (show FVec Ideal S24x512 .f32 from iblk m c 6 t) (ix2 i k) = aEP m c i k := by
  have h := idx_rows t
  blk_ext [iblk, V, h.2.2.2.2.2.2]

/-- The slice that point `t` stores. -/
theorem slc_at (t₀ t : Fin cfg0.N) (i : Fin 24) (l : Fin 1024) : slc m c t₀ t (ix3 0 i l) = ksc m c i (frp t l) := by
  unfold slc spn epn
  refine (padj_at _ _ _ _ _ _ _ i l).trans ?_
  have e0 : row (iblk m c 0 t) l = aF m c (frp t l) := funext fun k => in0 m c t l k
  have e1 : row (iblk m c 1 t) l = aV m c (frp t l) := funext fun k => in1 m c t l k
  have e2 : row (iblk m c 2 t) l = aM m c (frp t l) := funext fun k => in2 m c t l k
  have e3 : row (iblk m c 3 t) l = aO m c (frp t l) := funext fun k => in3 m c t l k
  have e4 : rowU (iblk m c 4 t) l = aU m c (frp t l) := funext fun k => in4 m c t l k
  have e5 : (fun i k => (show FVec Ideal S128x512 .f32 from iblk m c 5 t₀) (ix2 i k)) = aSP m c := funext fun i => funext fun k => in5 m c t₀ i k
  have e6 : (fun i k => (show FVec Ideal S24x512 .f32 from iblk m c 6 t₀) (ix2 i k)) = aEP m c := funext fun i => funext fun k => in6 m c t₀ i k
  exact congr (congr (congr (congr (congr (congr (congr (congrArg kadj e0) e1) e2) e3) e4) e5) e6) rfl

/-! ## The result arrays -/

/-- The four slices, as the last point reads them. -/
theorem slices (k : Fin 4) (i : Fin 24) (l : Fin 1024) (h : k.val < 4) :
    slc m c (pt N_0 0 (by decide)) (pt N_0 k.val h) (ix3 0 i l) = ksc m c i (fr k l) := slc_at m c _ _ i l

theorem last7 (i : Fin 24) (t : Fin 4096) : (outsAt0 m c 3 (pt N_0 3 (by decide)).isLt).1 (ix2 i t) = smooth (ksc m c i) t := by
  obtain ⟨r, k, l, e⟩ := col_split (R := 24) (ix2 i t)
  obtain rfl : i = r := congrFun e 0
  have e1 : t = fr k l := congrFun e 1
  subst e1
  exact (out7 m c _ _ _ N_0 k i l).trans (smB_at _ _ _ _ (ksc m c) (slices m c 0 · · (by decide)) (slices m c 1 · · (by decide)) (slices m c 2 · · (by decide)) (slices m c 3 · · (by decide)) k i l)

theorem last8 (t : Fin 4096) : (outsAt0 m c 3 (pt N_0 3 (by decide)).isLt).2.1 (ix2 0 t) = ftype fun i => smooth (ksc m c i) t := by
  obtain ⟨r, k, l, e⟩ := col_split (R := 1) (ix2 0 t)
  obtain rfl : 0 = r := congrFun e 0
  have e1 : t = fr k l := congrFun e 1
  subst e1
  exact (out8 m c _ _ _ N_0 k 0 l).trans (tyB_at _ _ _ _ (ksc m c) (slices m c 0 · · (by decide)) (slices m c 1 · · (by decide)) (slices m c 2 · · (by decide)) (slices m c 3 · · (by decide)) k l)

theorem last9 (t : Fin 4096) : (outsAt0 m c 3 (pt N_0 3 (by decide)).isLt).2.2.1 (ix2 0 t)
    = FloatOps.uitofp (F := Ideal) .f32 (IntOp.cmpi .ne (ftype fun i => smooth (ksc m c i) t) 0#32) := by
  obtain ⟨r, k, l, e⟩ := col_split (R := 1) (ix2 0 t)
  obtain rfl : 0 = r := congrFun e 0
  have e1 : t = fr k l := congrFun e 1
  subst e1
  exact (out9 m c _ _ _ N_0 k 0 l).trans (feB_at _ _ _ _ (ksc m c) (slices m c 0 · · (by decide)) (slices m c 1 · · (by decide)) (slices m c 2 · · (by decide)) (slices m c 3 · · (by decide)) k l)

attribute [local irreducible] ftype smooth kadj

/-- The arrays of the three results after the run. -/
abbrev G7 : FVec Ideal S24x4096 .f32 := fun j => smooth (ksc m c (j 0)) (j 1)
abbrev G8 : IVec S1x4096 32 := fun j => ftype fun i => smooth (ksc m c i) (j 1)
abbrev G9 : FVec Ideal S1x4096 .f32 := fun j => FloatOps.uitofp (F := Ideal) .f32 (IntOp.cmpi .ne (ftype fun i => smooth (ksc m c i) (j 1)) 0#32)

theorem arr7 : (dats m 0 c).arrAt 7 cfg0.N = G7 m c := by
  refine (dats m 0 c).arrAt_eq_of_after_last 7 (pt N_0 3 (by decide)) (by decide +kernel) _ fun j => ?_
  rw [after0_7]
  have e : ∀ j : S24x4096.Idx, (outsAt0 m c 3 (pt N_0 3 (by decide)).isLt).1 j = G7 m c j := fun j => by
    rw [eq_ix2 j]; exact last7 m c (j 0) (j 1)
  exact e j

theorem arr8 : (dats m 0 c).arrAt 8 cfg0.N = G8 m c := by
  refine (dats m 0 c).arrAt_eq_of_after_last 8 (pt N_0 3 (by decide)) (by decide +kernel) _ fun j => ?_
  rw [after0_8]
  have e : ∀ j : S1x4096.Idx, (outsAt0 m c 3 (pt N_0 3 (by decide)).isLt).2.1 j = G8 m c j := fun j => by
    rw [eq_ix2 j, show j 0 = (0 : Fin 1) from Subsingleton.elim (α := Fin 1) _ _]; exact last8 m c (j 1)
  exact e j

theorem arr9 : (dats m 0 c).arrAt 9 cfg0.N = G9 m c := by
  refine (dats m 0 c).arrAt_eq_of_after_last 9 (pt N_0 3 (by decide)) (by decide +kernel) _ fun j => ?_
  rw [after0_9]
  have e : ∀ j : S1x4096.Idx, (outsAt0 m c 3 (pt N_0 3 (by decide)).isLt).2.2.1 j = G9 m c j := fun j => by
    rw [eq_ix2 j, show j 0 = (0 : Fin 1) from Subsingleton.elim (α := Fin 1) _ _]; exact last9 m c (j 1)
  exact e j

/-! ## The run -/

abbrev R1 : IVec S4096 32 := fun j => ftype fun i => smooth (ksc m c i) (j 0)
abbrev R2 : FVec Ideal S4096 .f32 := fun j => FloatOps.uitofp (F := Ideal) .f32 (IntOp.cmpi .ne (ftype fun i => smooth (ksc m c i) (j 0)) 0#32)

/-- A row as a vector. -/
theorem cast_row {α : Type} (x : S1x4096.Idx → α) (h : S1x4096.ShapeCasts S4096) (t : Fin 4096) : shapeCast S4096 x h (ix1 t) = x (ix2 0 t) := by
  pointwise

theorem tail1 : Pipeline.afterTail₀ cfgs (dats m) 0 (V0 m) [hostOps1] c main_v0_1 = R1 m c := by
  have hw : Pipeline.withArrays spec0 c (V0 m c) (fun w => (dats m 0 c).arrAt w cfg0.N) (Proc.devRef .tc main_call0_v0_1) = G8 m c :=
    (Pipeline.withArrays_arr spec0 launch0.win.arr_inj c _ _ 8).trans (arr8 m c)
  unfold Pipeline.afterTail₀
  show StableHlo.after hostOps1 _ _ = _
  after_results
  funext t
  refine (show _ = shapeCast S4096 (G8 m c) shapeCasts_S1x4096_S4096 t from ?_).trans ?_
  · rw [← hw]; rfl
  · obtain ⟨t, rfl⟩ : ∃ a : Fin 4096, t = ix1 a := ⟨t 0, eq_ix1 t⟩
    exact cast_row _ _ t

theorem tail2 : Pipeline.afterTail₀ cfgs (dats m) 0 (V0 m) [hostOps1] c main_v0_2 = R2 m c := by
  have hw : Pipeline.withArrays spec0 c (V0 m c) (fun w => (dats m 0 c).arrAt w cfg0.N) (Proc.devRef .tc main_call0_v0_2) = G9 m c :=
    (Pipeline.withArrays_arr spec0 launch0.win.arr_inj c _ _ 9).trans (arr9 m c)
  unfold Pipeline.afterTail₀
  show StableHlo.after hostOps1 _ _ = _
  after_results
  funext t
  refine (show _ = shapeCast S4096 (G9 m c) shapeCasts_S1x4096_S4096 t from ?_).trans ?_
  · rw [← hw]; rfl
  · obtain ⟨t, rfl⟩ : ∃ a : Fin 4096, t = ix1 a := ⟨t 0, eq_ix1 t⟩
    exact cast_row _ _ t

/-- Every run ends with the three results at these arrays and the arguments unchanged. -/
theorem values (ρ : Dev nD → PrngReg) : θ_run defs (onTc (τ := τ) (main (F := Ideal))) ⟨m, fun _ => 0, ρ⟩ (fun r => ∀ c : Dev nD,
      r.2.mem ((c.tc : Thread nD τ).loc main_v0_0) = G7 m c
      ∧ r.2.mem ((c.tc : Thread nD τ).loc main_v0_1) = R1 m c
      ∧ r.2.mem ((c.tc : Thread nD τ).loc main_v0_2) = R2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨((h.1 c).1 7).trans (arr7 m c), ((h.1 c).2 main_v0_1 (by decide +kernel)).trans (tail1 m c),
    ((h.1 c).2 main_v0_2 (by decide +kernel)).trans (tail2 m c), h.2 c⟩) (θ_run_and (run_main m ρ) (unchanged m ρ))

end Cert.Proof.Ker

end
-- ==== Proof.Final.lean ====
/- The two sides meet: from equal arguments, and where the precondition holds, the reference's three results are the kernel's. -/
module

public import proofs.«01_k».proof.Proof.Pre
public import proofs.«01_k».proof.Proof.KerRun
public import Idealize.ShloMosaic.Lib.Quiescent

@[expose] public section

set_option maxRecDepth 16384

noncomputable section

namespace Cert.Proof.Ref

open Cert.ReferenceIdeal Cert.ReferenceIdeal.Gen Idealize.ShloMosaic Idealize.ShloMosaic.TcCoe Idealize.SL.Sem
open Cert.Proof.Row (kadj smooth ftype)

attribute [local irreducible] ftype smooth kadj val_v163 val_v176 val_v177 val_v180

/-- Every run of the reference terminates with its arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => (h c).2.2.2, sem_eq_zero_of_no_sems rfl r.2⟩) (run m ρ)

variable (V : Valuation τ sig (Elt Ideal))

/-- The adjusted scores of the reference, where the five largest weights differ. -/
theorem sc_eq (h : Apart V) (c : Fin 24) : sc V c = fun t => kadj (rF V t) (rV V t) (rM V t) (rO V t) (rU V t) (rSP V) (rEP V) c :=
  funext fun t => v163_eq V h t c

/-- The first result of the reference: the smoothed scores. -/
theorem res0 (h : Apart V) : (show FVec Ideal S24x4096 .f32 from val_v176 (F := Ideal) V)
    = fun j => smooth (fun t => kadj (rF V t) (rV V t) (rM V t) (rO V t) (rU V t) (rSP V) (rEP V) (j 0)) (j 1) := by
  funext j
  have e := v176_at V (j 0) (j 1)
  have e2 := congrArg (fun s : Fin 4096 → EReal => smooth s (j 1)) (sc_eq V h (j 0))
  exact (congrArg (show FVec Ideal S24x4096 .f32 from val_v176 (F := Ideal) V) (eq_ix2 j)).trans (e.trans e2)

/-- The second result of the reference: the class of each frame. -/
theorem res1 (h : Apart V) : (show IVec S4096 32 from val_v177 (F := Ideal) V)
    = fun j => ftype fun i => smooth (fun t => kadj (rF V t) (rV V t) (rM V t) (rO V t) (rU V t) (rSP V) (rEP V) i) (j 0) := by
  funext j
  have e := v177_at V (j 0)
  simp only [sc_eq V h] at e
  exact (congrArg (show IVec S4096 32 from val_v177 (F := Ideal) V) (eq_ix1 j)).trans e

/-- The third result of the reference: whether the class of each frame is not the first. -/
theorem res2 (h : Apart V) : (show FVec Ideal S4096 .f32 from val_v180 (F := Ideal) V)
    = fun j => FloatOps.uitofp (F := Ideal) .f32 (IntOp.cmpi .ne (ftype fun i => smooth (fun t => kadj (rF V t) (rV V t) (rM V t) (rO V t) (rU V t) (rSP V) (rEP V) i) (j 0)) 0#32) := by
  funext j
  have e := v180_at V (j 0)
  simp only [sc_eq V h] at e
  exact (congrArg (show FVec Ideal S4096 .f32 from val_v180 (F := Ideal) V) (eq_ix1 j)).trans e

end Cert.Proof.Ref

namespace Cert.Proof

open Idealize.ShloMosaic Idealize.ShloMosaic.TcCoe Idealize.ShloMosaic.StableHlo Idealize.SL.Sem
open Cert.Proof.Row (kadj smooth ftype)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The two memories hold the same arguments on the device. -/
def Same (c : Dev Cert.KernelIdeal.nD) : Prop :=
  (∀ t, Ref.rF (launchContents m' c) t = Ker.aF m c t) ∧ (∀ t, Ref.rV (launchContents m' c) t = Ker.aV m c t)
  ∧ (∀ t, Ref.rM (launchContents m' c) t = Ker.aM m c t) ∧ (∀ t, Ref.rO (launchContents m' c) t = Ker.aO m c t)
  ∧ (∀ t, Ref.rU (launchContents m' c) t = Ker.aU m c t) ∧ Ref.rSP (launchContents m' c) = Ker.aSP m c
  ∧ Ref.rEP (launchContents m' c) = Ker.aEP m c

/-- Then the adjusted scores of the two sides are the same. -/
theorem ksc_eq (c : Dev Cert.KernelIdeal.nD) (h : Same m m' c) (i : Fin 24) :
    (fun t => kadj (Ref.rF (launchContents m' c) t) (Ref.rV (launchContents m' c) t) (Ref.rM (launchContents m' c) t) (Ref.rO (launchContents m' c) t)
      (Ref.rU (launchContents m' c) t) (Ref.rSP (launchContents m' c)) (Ref.rEP (launchContents m' c)) i) = Ker.ksc m c i := by
  obtain ⟨h0, h1, h2, h3, h4, h5, h6⟩ := h
  funext t
  rw [h0 t, h1 t, h2 t, h3 t, h4 t, h5, h6]

/-- The equalities of the claim say that the arguments are the same. -/
theorem same_of (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Same m m' c :=
  ⟨fun t => funext fun k => congrFun h0 (ix2 t k), fun t => funext fun k => congrFun h1 (ix2 t k), fun t => funext fun k => congrFun h2 (ix2 t k),
    fun t => funext fun k => congrFun h3 (ix2 t k), fun t => funext fun k => congrFun h4 (ix2 t k),
    funext fun i => funext fun k => congrFun h5 (ix2 i k), funext fun i => funext fun k => congrFun h6 (ix2 i k)⟩

attribute [local irreducible] ftype smooth kadj

/-- The first results of the two sides are the same. -/
theorem results0 (c : Dev Cert.KernelIdeal.nD) (ha : Ref.Apart (launchContents m' c)) (h : Same m m' c) :
    (show FVec Ideal Cert.ReferenceIdeal.S24x4096 .f32 from Ref.val_v176 (F := Ideal) (launchContents m' c)) = Ker.G7 m c := by
  have e := Ref.res0 _ ha
  exact e.trans (funext fun j => congrArg (fun s : Fin 4096 → EReal => smooth s (j 1)) (ksc_eq m m' c h (j 0)))

/-- The second results of the two sides are the same. -/
theorem results1 (c : Dev Cert.KernelIdeal.nD) (ha : Ref.Apart (launchContents m' c)) (h : Same m m' c) :
    (show IVec Cert.ReferenceIdeal.S4096 32 from Ref.val_v177 (F := Ideal) (launchContents m' c)) = Ker.R1 m c := by
  have e := Ref.res1 _ ha
  simp only [ksc_eq m m' c h] at e
  exact e

/-- The third results of the two sides are the same. -/
theorem results2 (c : Dev Cert.KernelIdeal.nD) (ha : Ref.Apart (launchContents m' c)) (h : Same m m' c) :
    (show FVec Ideal Cert.ReferenceIdeal.S4096 .f32 from Ref.val_v180 (F := Ideal) (launchContents m' c)) = Ker.R2 m c := by
  have e := Ref.res2 _ ha
  simp only [ksc_eq m m' c h] at e
  exact e

end Cert.Proof

end
-- ==== Proof.lean ====
module

public import proofs.«01_k».proof.Defs
public import proofs.«01_k».proof.Proof.BitFrame
public import proofs.«01_k».proof.Proof.Final

@[expose] public section

noncomputable section

namespace Cert.Proof

open Idealize.ShloMosaic Idealize.ShloMosaic.TcCoe Idealize.ShloMosaic.StableHlo Idealize.SL.Sem

/-- The kernel's three results are the reference's, from equal arguments where the precondition holds. -/
theorem algebraic : Cert.algebraic_KernelIdeal_ReferenceIdeal_pre_no_tie (hKernelIdeal := Cert.KernelIdeal.Gen.facts)
    (hReferenceIdeal := Cert.ReferenceIdeal.Gen.facts) (hPre_no_tie := Cert.Pre_no_tie.facts) := by
  intro m g m' g' hpre harg
  refine ⟨fun c => Ker.G7 m c, fun c => Ker.R1 m c, fun c => Ker.R2 m c, Ker.values m g, ?_⟩
  refine (θ_run _ _ _).mono (fun r h c => ?_) (Ref.run (F := Ideal) m' g')
  obtain ⟨h0, h1, h2, h3, h4, h5, h6⟩ := harg c
  have hs : Same m m' c := same_of m m' c h0 h1 h2 h3 h4 h5 h6
  have ha : Ref.Apart (launchContents m' c) := by
    refine Ref.apart _ ?_
    have hp := hpre c
    rw [← h0, ← h1, ← h2, ← h3, ← h4, ← h5, ← h6] at hp
    exact hp
  obtain ⟨r0, r1, r2, hr⟩ := h c
  refine ⟨r0.trans ?_, r1.trans ?_, r2.trans ?_, hr⟩
  · exact results0 m m' c ha hs
  · exact results1 m m' c ha hs
  · exact results2 m m' c ha hs

/-- Everything claimed. -/
theorem claim : Cert.Claim :=
  ⟨Cert.Kernel.Gen.facts, Cert.KernelIdeal.Gen.facts, Cert.ReferenceIdeal.Gen.facts, Cert.Pre_no_tie.facts,
    Bit.frame, fun m g _ => Ker.frame m g, fun m g _ => Ker.frame m g,
    fun m g _ => Ref.frame m g, fun m g _ => Ref.frame m g,
    IdealRules.named_const.statement Cert.KernelIdeal.κ "eps_sq" .f32 0x24E69595#32 ((126765058482001 / 1267650600228229401496703205376 : ℝ) : EReal) rfl,
    algebraic⟩

end Cert.Proof

end
